-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "scale" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)) (v2 : (c : Dev Cert.Kernel4Ideal.nD) → Buf (Elt Ideal) ((c.tc : Thread Cert.Kernel4Ideal.nD Cert.Kernel4Ideal.τ).loc Cert.Kernel4Ideal.main_v11_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_v11_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_v36) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2048x32768 : Shape := ⟨2, ![2048, 32768]⟩
abbrev S8x4096x3072 : Shape := ⟨3, ![8, 4096, 3072]⟩
abbrev S64 : Shape := ⟨1, ![64]⟩
abbrev S128 : Shape := ⟨1, ![128]⟩
abbrev S32x8 : Shape := ⟨2, ![32, 8]⟩
abbrev S_ : Shape := ⟨0, ![]⟩
abbrev S8x4096x1024 : Shape := ⟨3, ![8, 4096, 1024]⟩

class Facts : Prop where
  bitsLt_bf16_f32 : FTy.bits .bf16 < FTy.bits .f32
  bcast_S_S2048x32768 : S_.BroadcastsInDim S2048x32768 (![] : Fin 0 → Fin S2048x32768.rank)
  reducesTo_S2048x32768_S_d0_1 : S2048x32768.ReducesTo [0, 1] S_
  h_S_ : 0 < S_.numel
  slices_S8x4096x3072_S8x4096x1024_0_0_0 : S8x4096x3072.Slices ![0, 0, 0] S8x4096x1024
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S64 : S_.BroadcastsInDim S64 (![] : Fin 0 → Fin S64.rank)
  reducesTo_S64_S_d0 : S64.ReducesTo [0] S_
  bcast_S_S32x8 : S_.BroadcastsInDim S32x8 (![] : Fin 0 → Fin S32x8.rank)
  reducesTo_S32x8_S_d0_1 : S32x8.ReducesTo [0, 1] S_

variable [Facts]

def fn_part2 {F : FTy → Type} [FloatOps F] (main_v31 : IVec S_ 1) (main_v34 : IVec S32x8 1) : IVec S_ 1 :=
  let main_c_11 : IVec S_ 1 := constantI S_ 1 1#1
  let main_v35 : IVec S_ 1 := (fun x v => Host.reduce IntOp.andi x v reducesTo_S32x8_S_d0_1 h_S_) main_v34 main_c_11
  let main_v36 : IVec S_ 1 := andi main_v31 main_v35
  main_v36

def fn_part1 {F : FTy → Type} [FloatOps F] (main_arg4 : FVec F S64 .f32) (main_arg5 : FVec F S64 .f32) (main_arg7 : FVec F S32x8 .f32) (main_v16 : IVec S_ 1) (main_v17 : FVec F S64 .f32) : IVec S_ 1 :=
  let main_cst_4 : FVec F S_ .f32 := constant S_ .f32 0x7F800000#32
  let main_v18 : FVec F S64 .f32 := broadcastInDim S64 ![] bcast_S_S64 main_cst_4
  let main_v19 : IVec S64 1 := cmpf .olt main_v17 main_v18
  let main_c_5 : IVec S_ 1 := constantI S_ 1 1#1
  let main_v20 : IVec S_ 1 := (fun x v => Host.reduce IntOp.andi x v reducesTo_S64_S_d0 h_S_) main_v19 main_c_5
  let main_v21 : IVec S_ 1 := andi main_v16 main_v20
  let main_v22 : FVec F S64 .f32 := Host.absf main_arg4
  let main_cst_6 : FVec F S_ .f32 := constant S_ .f32 0x7F800000#32
  let main_v23 : FVec F S64 .f32 := broadcastInDim S64 ![] bcast_S_S64 main_cst_6
  let main_v24 : IVec S64 1 := cmpf .olt main_v22 main_v23
  let main_c_7 : IVec S_ 1 := constantI S_ 1 1#1
  let main_v25 : IVec S_ 1 := (fun x v => Host.reduce IntOp.andi x v reducesTo_S64_S_d0 h_S_) main_v24 main_c_7
  let main_v26 : IVec S_ 1 := andi main_v21 main_v25
  let main_v27 : FVec F S64 .f32 := Host.absf main_arg5
  let main_cst_8 : FVec F S_ .f32 := constant S_ .f32 0x7F800000#32
  let main_v28 : FVec F S64 .f32 := broadcastInDim S64 ![] bcast_S_S64 main_cst_8
  let main_v29 : IVec S64 1 := cmpf .olt main_v27 main_v28
  let main_c_9 : IVec S_ 1 := constantI S_ 1 1#1
  let main_v30 : IVec S_ 1 := (fun x v => Host.reduce IntOp.andi x v reducesTo_S64_S_d0 h_S_) main_v29 main_c_9
  let main_v31 : IVec S_ 1 := andi main_v26 main_v30
  let main_v32 : FVec F S32x8 .f32 := Host.absf main_arg7
  let main_cst_10 : FVec F S_ .f32 := constant S_ .f32 0x7F800000#32
  let main_v33 : FVec F S32x8 .f32 := broadcastInDim S32x8 ![] bcast_S_S32x8 main_cst_10
  let main_v34 : IVec S32x8 1 := cmpf .olt main_v32 main_v33
  fn_part2 (F := F) main_v31 main_v34

def fn {F : FTy → Type} [FloatOps F] (main_arg0 : FVec F S2048x32768 .bf16) (main_arg1 : FVec F S8x4096x3072 .bf16) (main_arg2 : FVec F S64 .f32) (main_arg3 : FVec F S64 .f32) (main_arg4 : FVec F S64 .f32) (main_arg5 : FVec F S64 .f32) (main_arg6 : FVec F S128 .f32) (main_arg7 : FVec F S32x8 .f32) : IVec S_ 1 :=
  let main_v0 : FVec F S2048x32768 .f32 := (extf .f32 · bitsLt_bf16_f32) main_arg0
  let main_v1 : FVec F S2048x32768 .f32 := Host.absf main_v0
  let main_cst : FVec F S_ .f32 := constant S_ .f32 0x7F800000#32
  let main_v2 : FVec F S2048x32768 .f32 := broadcastInDim S2048x32768 ![] bcast_S_S2048x32768 main_cst
  let main_v3 : IVec S2048x32768 1 := cmpf .olt main_v1 main_v2
  let main_c : IVec S_ 1 := constantI S_ 1 1#1
  let main_v4 : IVec S_ 1 := (fun x v => Host.reduce IntOp.andi x v reducesTo_S2048x32768_S_d0_1 h_S_) main_v3 main_c
  let main_v5 : FVec F S8x4096x1024 .bf16 := (extractStridedSlice S8x4096x1024 ![0, 0, 0] · slices_S8x4096x3072_S8x4096x1024_0_0_0) main_arg1
  let main_v6 : FVec F S8x4096x1024 .f32 := (extf .f32 · bitsLt_bf16_f32) main_v5
  let main_v7 : FVec F S8x4096x1024 .f32 := Host.absf main_v6
  let main_cst_0 : FVec F S_ .f32 := constant S_ .f32 0x7F800000#32
  let main_v8 : FVec F S8x4096x1024 .f32 := broadcastInDim S8x4096x1024 ![] bcast_S_S8x4096x1024 main_cst_0
  let main_v9 : IVec S8x4096x1024 1 := cmpf .olt main_v7 main_v8
  let main_c_1 : IVec S_ 1 := constantI S_ 1 1#1
  let main_v10 : IVec S_ 1 := (fun x v => Host.reduce IntOp.andi x v reducesTo_S8x4096x1024_S_d0_1_2 h_S_) main_v9 main_c_1
  let main_v11 : IVec S_ 1 := andi main_v4 main_v10
  let main_v12 : FVec F S64 .f32 := Host.absf main_arg2
  let main_cst_2 : FVec F S_ .f32 := constant S_ .f32 0x7F800000#32
  let main_v13 : FVec F S64 .f32 := broadcastInDim S64 ![] bcast_S_S64 main_cst_2
  let main_v14 : IVec S64 1 := cmpf .olt main_v12 main_v13
  let main_c_3 : IVec S_ 1 := constantI S_ 1 1#1
  let main_v15 : IVec S_ 1 := (fun x v => Host.reduce IntOp.andi x v reducesTo_S64_S_d0 h_S_) main_v14 main_c_3
  let main_v16 : IVec S_ 1 := andi main_v11 main_v15
  let main_v17 : FVec F S64 .f32 := Host.absf main_arg3
  fn_part1 (F := F) main_arg4 main_arg5 main_arg7 main_v16 main_v17
-- ==== Kernel.lean ====
abbrev S2048x32768 : Shape := ⟨2, ![2048, 32768]⟩
abbrev S8x4096x3072 : Shape := ⟨3, ![8, 4096, 3072]⟩
abbrev S64 : Shape := ⟨1, ![64]⟩
abbrev S128 : Shape := ⟨1, ![128]⟩
abbrev S32x8 : Shape := ⟨2, ![32, 8]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x8 : Shape := ⟨2, ![1, 8]⟩
abbrev S8 : Shape := ⟨1, ![8]⟩
abbrev S_ : Shape := ⟨0, ![]⟩
abbrev S512x512x1 : Shape := ⟨3, ![512, 512, 1]⟩
abbrev S512x512x8 : Shape := ⟨3, ![512, 512, 8]⟩
abbrev S1x1x8 : Shape := ⟨3, ![1, 1, 8]⟩
abbrev S1x512x512x8 : Shape := ⟨4, ![1, 512, 512, 8]⟩
abbrev S2x512x512x8 : Shape := ⟨4, ![2, 512, 512, 8]⟩
abbrev S8x2x512x512 : Shape := ⟨4, ![8, 2, 512, 512]⟩
abbrev S1x64 : Shape := ⟨2, ![1, 64]⟩
abbrev S4x64 : Shape := ⟨2, ![4, 64]⟩
abbrev S128x1 : Shape := ⟨2, ![128, 1]⟩
abbrev S8x4096x1024 : Shape := ⟨3, ![8, 4096, 1024]⟩
abbrev S128x512 : Shape := ⟨2, ![128, 512]⟩
abbrev S1x4096x128 : Shape := ⟨3, ![1, 4096, 128]⟩
abbrev S128x4096 : Shape := ⟨2, ![128, 4096]⟩
abbrev S1x2x512x512 : Shape := ⟨4, ![1, 2, 512, 512]⟩
abbrev S1x512x128 : Shape := ⟨3, ![1, 512, 128]⟩
abbrev S1x144x4096 : Shape := ⟨3, ![1, 144, 4096]⟩
abbrev S2x512x512 : Shape := ⟨3, ![2, 512, 512]⟩
abbrev S2x144x512 : Shape := ⟨3, ![2, 144, 512]⟩
abbrev S1x128x4096 : Shape := ⟨3, ![1, 128, 4096]⟩
abbrev S16x4096 : Shape := ⟨2, ![16, 4096]⟩
abbrev S1x16x4096 : Shape := ⟨3, ![1, 16, 4096]⟩
abbrev S8x512 : Shape := ⟨2, ![8, 512]⟩
abbrev S512x128 : Shape := ⟨2, ![512, 128]⟩
abbrev S1x512x512 : Shape := ⟨3, ![1, 512, 512]⟩
abbrev S1x144x512 : Shape := ⟨3, ![1, 144, 512]⟩
abbrev S144x512 : Shape := ⟨2, ![144, 512]⟩
abbrev S18x8x512 : Shape := ⟨3, ![18, 8, 512]⟩
abbrev S1x8x512 : Shape := ⟨3, ![1, 8, 512]⟩
abbrev S16x512 : Shape := ⟨2, ![16, 512]⟩
abbrev S1x16x512 : Shape := ⟨3, ![1, 16, 512]⟩
abbrev S1x1x8x512 : Shape := ⟨4, ![1, 1, 8, 512]⟩
abbrev S1x1x16x512 : Shape := ⟨4, ![1, 1, 16, 512]⟩
abbrev S1 : Shape := ⟨1, ![1]⟩
abbrev S1x1 : Shape := ⟨2, ![1, 1]⟩

abbrev nBuf : Space → Nat
  | .hbm => 123
  | .vmem => 18
  | .smem => 0
  | _ => 0

abbrev bufTy : (tb : Table) → Fin (tcTables nBuf tb) → BufTy
  | .hbm, ⟨0, _⟩ => ⟨S2048x32768, .bf16⟩
  | .hbm, ⟨1, _⟩ => ⟨S8x4096x3072, .bf16⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S32x8, .f32⟩
  | .hbm, ⟨8, _⟩ => ⟨S512, .i32⟩
  | .hbm, ⟨9, _⟩ => ⟨S512x1, .i32⟩
  | .hbm, ⟨10, _⟩ => ⟨S512, .i32⟩
  | .hbm, ⟨11, _⟩ => ⟨S1x512, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S1x8, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S_, .i32⟩
  | .hbm, ⟨20, _⟩ => ⟨S512x512, .i32⟩
  | .hbm, ⟨21, _⟩ => ⟨S512x512, .i32⟩
  | .hbm, ⟨22, _⟩ => ⟨S_, .i32⟩
  | .hbm, ⟨23, _⟩ => ⟨S512x512, .i32⟩
  | .hbm, ⟨24, _⟩ => ⟨S512x512, .i32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S_, .f32⟩
  | .hbm, ⟨34, _⟩ => ⟨S512x512, .f32⟩
  | .hbm, ⟨35, _⟩ => ⟨S512x512, .f32⟩
  | .hbm, ⟨36, _⟩ => ⟨S512x512, .i32⟩
  | .hbm, ⟨37, _⟩ => ⟨S_, .i32⟩
  | .hbm, ⟨38, _⟩ => ⟨S512x512, .i32⟩
  | .hbm, ⟨39, _⟩ => ⟨S512x512, .i32⟩
  | .hbm, ⟨40, _⟩ => ⟨S_, .i32⟩
  | .hbm, ⟨41, _⟩ => ⟨S512x512, .i32⟩
  | .hbm, ⟨42, _⟩ => ⟨S512x512, .i32⟩
  | .hbm, ⟨43, _⟩ => ⟨S_, .i32⟩
  | .hbm, ⟨44, _⟩ => ⟨S512x512, .i32⟩
  | .hbm, ⟨45, _⟩ => ⟨S512x512, .i1⟩
  | .hbm, ⟨46, _⟩ => ⟨S512x512, .i32⟩
  | .hbm, ⟨47, _⟩ => ⟨S_, .i32⟩
  | .hbm, ⟨48, _⟩ => ⟨S512x512, .i32⟩
  | .hbm, ⟨49, _⟩ => ⟨S512x512, .i1⟩
  | .hbm, ⟨50, _⟩ => ⟨S_, .i32⟩
  | .hbm, ⟨51, _⟩ => ⟨S512x512, .i32⟩
  | .hbm, ⟨52, _⟩ => ⟨S512x512, .i32⟩
  | .hbm, ⟨53, _⟩ => ⟨S512x512, .i32⟩
  | .hbm, ⟨54, _⟩ => ⟨S512x512x1, .i32⟩
  | .hbm, ⟨55, _⟩ => ⟨S512x512x8, .f32⟩
  | .hbm, ⟨56, _⟩ => ⟨S1x1x8, .f32⟩
  | .hbm, ⟨57, _⟩ => ⟨S512x512x8, .f32⟩
  | .hbm, ⟨58, _⟩ => ⟨S512x512x8, .f32⟩
  | .hbm, ⟨59, _⟩ => ⟨S512x512x8, .f32⟩
  | .hbm, ⟨60, _⟩ => ⟨S512x512x8, .f32⟩
  | .hbm, ⟨61, _⟩ => ⟨S_, .i32⟩
  | .hbm, ⟨62, _⟩ => ⟨S512x512, .i32⟩
  | .hbm, ⟨63, _⟩ => ⟨S512x512, .i1⟩
  | .hbm, ⟨64, _⟩ => ⟨S512x512x1, .i1⟩
  | .hbm, ⟨65, _⟩ => ⟨S_, .f32⟩
  | .hbm, ⟨66, _⟩ => ⟨S_, .f32⟩
  | .hbm, ⟨67, _⟩ => ⟨S512x512x8, .i1⟩
  | .hbm, ⟨68, _⟩ => ⟨S512x512x8, .f32⟩
  | .hbm, ⟨69, _⟩ => ⟨S512x512x8, .f32⟩
  | .hbm, ⟨70, _⟩ => ⟨S_, .i32⟩
  | .hbm, ⟨71, _⟩ => ⟨S512x512, .i32⟩
  | .hbm, ⟨72, _⟩ => ⟨S512x512, .i32⟩
  | .hbm, ⟨73, _⟩ => ⟨S_, .i32⟩
  | .hbm, ⟨74, _⟩ => ⟨S512x512, .i32⟩
  | .hbm, ⟨75, _⟩ => ⟨S512x512, .i32⟩
  | .hbm, ⟨76, _⟩ => ⟨S512x512, .f32⟩
  | .hbm, ⟨77, _⟩ => ⟨S_, .f32⟩
  | .hbm, ⟨78, _⟩ => ⟨S512x512, .f32⟩
  | .hbm, ⟨79, _⟩ => ⟨S512x512, .f32⟩
  | .hbm, ⟨80, _⟩ => ⟨S512x512, .f32⟩
  | .hbm, ⟨81, _⟩ => ⟨S_, .f32⟩
  | .hbm, ⟨82, _⟩ => ⟨S512x512, .f32⟩
  | .hbm, ⟨83, _⟩ => ⟨S512x512, .f32⟩
  | .hbm, ⟨84, _⟩ => ⟨S_, .f32⟩
  | .hbm, ⟨85, _⟩ => ⟨S512x512, .f32⟩
  | .hbm, ⟨86, _⟩ => ⟨S512x512, .f32⟩
  | .hbm, ⟨87, _⟩ => ⟨S512x512, .i32⟩
  | .hbm, ⟨88, _⟩ => ⟨S_, .i32⟩
  | .hbm, ⟨89, _⟩ => ⟨S512x512, .i32⟩
  | .hbm, ⟨90, _⟩ => ⟨S512x512, .i32⟩
  | .hbm, ⟨91, _⟩ => ⟨S_, .i32⟩
  | .hbm, ⟨92, _⟩ => ⟨S512x512, .i32⟩
  | .hbm, ⟨93, _⟩ => ⟨S512x512, .i32⟩
  | .hbm, ⟨94, _⟩ => ⟨S_, .i32⟩
  | .hbm, ⟨95, _⟩ => ⟨S512x512, .i32⟩
  | .hbm, ⟨96, _⟩ => ⟨S512x512, .i1⟩
  | .hbm, ⟨97, _⟩ => ⟨S512x512, .i32⟩
  | .hbm, ⟨98, _⟩ => ⟨S_, .i32⟩
  | .hbm, ⟨99, _⟩ => ⟨S512x512, .i32⟩
  | .hbm, ⟨100, _⟩ => ⟨S512x512, .i1⟩
  | .hbm, ⟨101, _⟩ => ⟨S_, .i32⟩
  | .hbm, ⟨102, _⟩ => ⟨S512x512, .i32⟩
  | .hbm, ⟨103, _⟩ => ⟨S512x512, .i32⟩
  | .hbm, ⟨104, _⟩ => ⟨S512x512, .i32⟩
  | .hbm, ⟨105, _⟩ => ⟨S512x512x1, .i32⟩
  | .hbm, ⟨106, _⟩ => ⟨S512x512x8, .f32⟩
  | .hbm, ⟨107, _⟩ => ⟨S1x1x8, .f32⟩
  | .hbm, ⟨108, _⟩ => ⟨S512x512x8, .f32⟩
  | .hbm, ⟨109, _⟩ => ⟨S512x512x8, .f32⟩
  | .hbm, ⟨110, _⟩ => ⟨S512x512x8, .f32⟩
  | .hbm, ⟨111, _⟩ => ⟨S512x512x8, .f32⟩
  | .hbm, ⟨112, _⟩ => ⟨S1x512x512x8, .f32⟩
  | .hbm, ⟨113, _⟩ => ⟨S1x512x512x8, .f32⟩
  | .hbm, ⟨114, _⟩ => ⟨S2x512x512x8, .f32⟩
  | .hbm, ⟨115, _⟩ => ⟨S8x2x512x512, .f32⟩
  | .hbm, ⟨116, _⟩ => ⟨S1x64, .f32⟩
  | .hbm, ⟨117, _⟩ => ⟨S1x64, .f32⟩
  | .hbm, ⟨118, _⟩ => ⟨S1x64, .f32⟩
  | .hbm, ⟨119, _⟩ => ⟨S1x64, .f32⟩
  | .hbm, ⟨120, _⟩ => ⟨S4x64, .f32⟩
  | .hbm, ⟨121, _⟩ => ⟨S128x1, .f32⟩
  | .hbm, ⟨122, _⟩ => ⟨S8x4096x1024, .bf16⟩
  | .local _ .vmem, ⟨0, _⟩ => ⟨S4x64, .f32⟩
  | .local _ .vmem, ⟨1, _⟩ => ⟨S128x1, .f32⟩
  | .local _ .vmem, ⟨2, _⟩ => ⟨S128x512, .bf16⟩
  | .local _ .vmem, ⟨3, _⟩ => ⟨S128x512, .bf16⟩
  | .local _ .vmem, ⟨4, _⟩ => ⟨S1x4096x128, .bf16⟩
  | .local _ .vmem, ⟨5, _⟩ => ⟨S1x4096x128, .bf16⟩
  | .local _ .vmem, ⟨6, _⟩ => ⟨S128x4096, .bf16⟩
  | .local _ .vmem, ⟨7, _⟩ => ⟨S128x4096, .bf16⟩
  | .local _ .vmem, ⟨8, _⟩ => ⟨S1x2x512x512, .f32⟩
  | .local _ .vmem, ⟨9, _⟩ => ⟨S1x2x512x512, .f32⟩
  | .local _ .vmem, ⟨10, _⟩ => ⟨S1x512x128, .bf16⟩
  | .local _ .vmem, ⟨11, _⟩ => ⟨S1x512x128, .bf16⟩
  | .local _ .vmem, ⟨12, _⟩ => ⟨S1x144x4096, .bf16⟩
  | .local _ .vmem, ⟨13, _⟩ => ⟨S2x512x512, .f32⟩
  | .local _ .vmem, ⟨14, _⟩ => ⟨S2x512x512, .f32⟩
  | .local _ .vmem, ⟨15, _⟩ => ⟨S2x512x512, .bf16⟩
  | .local _ .vmem, ⟨16, _⟩ => ⟨S2x512x512, .bf16⟩
  | .local _ .vmem, ⟨17, _⟩ => ⟨S2x144x512, .f32⟩
  | _, _ => ⟨S2048x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_c_12 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_13 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_14 : Ref sig .tc := ⟨.hbm, 81, rfl⟩
abbrev main_v54 : Ref sig .tc := ⟨.hbm, 82, rfl⟩
abbrev main_v55 : Ref sig .tc := ⟨.hbm, 83, rfl⟩
abbrev main_cst_15 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_16 : Ref sig .tc := ⟨.hbm, 88, rfl⟩
abbrev main_v59 : Ref sig .tc := ⟨.hbm, 89, rfl⟩
abbrev main_v60 : Ref sig .tc := ⟨.hbm, 90, rfl⟩
abbrev main_c_17 : Ref sig .tc := ⟨.hbm, 91, rfl⟩
abbrev main_v61 : Ref sig .tc := ⟨.hbm, 92, rfl⟩
abbrev main_v62 : Ref sig .tc := ⟨.hbm, 93, rfl⟩
abbrev main_c_18 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_19 : Ref sig .tc := ⟨.hbm, 98, rfl⟩
abbrev main_v66 : Ref sig .tc := ⟨.hbm, 99, rfl⟩
abbrev main_v67 : Ref sig .tc := ⟨.hbm, 100, rfl⟩
abbrev main_c_20 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 8, 8], ![false, false, false]⟩

def k0_mult1 : BitVec 32 :=
  let c0_i32_15 : BitVec 32 := 0#32
  c0_i32_15
@[reducible] def k0_t1_loop (i : grid0.Coords) : Scf.Loop 32 :=
  let c0_i32_32 : BitVec 32 := 0#32
  let arg2 : BitVec 32 := BitVec.ofNat 32 (i 2).val
  let c1_i32 : BitVec 32 := 1#32
  let v40 : BitVec 32 := Scalar.subi arg2 c1_i32
  let c0_i32_25 : BitVec 32 := 0#32
  let v41 : BitVec 32 := Scalar.maxsi v40 c0_i32_25
  let c0_i32_26 : BitVec 32 := 0#32
  let v43 : BitVec 1 := Scalar.cmpi .sgt v41 c0_i32_26
  let v44 : BitVec 32 := Scalar.extui v43
  let c0_i32_27 : BitVec 32 := 0#32
  let v45 : BitVec 1 := Scalar.cmpi .slt v41 c0_i32_27
  let v46 : BitVec 32 := Scalar.extui v45
  let v47 : BitVec 32 := Scalar.subi v44 v46
  let c2_i32 : BitVec 32 := 2#32
  let c0_i32_28 : BitVec 32 := 0#32
  let v48 : BitVec 1 := Scalar.cmpi .sgt c2_i32 c0_i32_28
  let v49 : BitVec 32 := Scalar.extui v48
  let c0_i32_29 : BitVec 32 := 0#32
  let v50 : BitVec 1 := Scalar.cmpi .slt c2_i32 c0_i32_29
  let v51 : BitVec 32 := Scalar.extui v50
  let v52 : BitVec 32 := Scalar.subi v49 v51
  let v53 : BitVec 1 := Scalar.cmpi .ne v47 v52
  let v54 : BitVec 32 := Scalar.remsi v41 c2_i32
  let c0_i32_30 : BitVec 32 := 0#32
  let v55 : BitVec 1 := Scalar.cmpi .ne v54 c0_i32_30
  let v56 : BitVec 1 := Scalar.andi v53 v55
  let v42 : BitVec 32 := Scalar.divsi v41 c2_i32
  let c1_i32_31 : BitVec 32 := 1#32
  let v57 : BitVec 32 := Scalar.subi v42 c1_i32_31
  let v58 : BitVec 32 := Scalar.select v56 v57 v42
  let v59 : BitVec 32 := Scalar.subi v58 c0_i32_32
  let c1_i32_33 : BitVec 32 := 1#32
  let v61 : BitVec 32 := Scalar.divsi v59 c1_i32_33
  let v62 : BitVec 32 := Scalar.muli v61 c1_i32_33
  let v63 : BitVec 32 := Scalar.addi c0_i32_32 v62
  let c1_i32_34 : BitVec 32 := 1#32
  ⟨c0_i32_32, v63, c1_i32_34⟩
def k0_mult2 (i : grid0.Coords) (k0_t1 : Fin (k0_t1_loop i).trips) : BitVec 32 :=
  let c2_i32_68 : BitVec 32 := 2#32
  let c0_i32_32 : BitVec 32 := 0#32
  let c1_i32_34 : BitVec 32 := 1#32
  let arg16 : BitVec 32 := Scf.iv c0_i32_32 c1_i32_34 k0_t1
  let v135 : BitVec 32 := Scalar.muli c2_i32_68 arg16
  let c1_i32_69 : BitVec 32 := 1#32
  let v136 : BitVec 32 := Scalar.addi v135 c1_i32_69
  let c512_i32 : BitVec 32 := 512#32
  let v137 : BitVec 32 := Scalar.muli v136 c512_i32
  v137
def k0_off1 (i : grid0.Coords) (k0_t1 : Fin (k0_t1_loop i).trips) : Fin 3 → Nat :=
  let c0_70 : Index := 0#32
  let c2_i32_68 : BitVec 32 := 2#32
  let c0_i32_32 : BitVec 32 := 0#32
  let c1_i32_34 : BitVec 32 := 1#32
  let arg16 : BitVec 32 := Scf.iv c0_i32_32 c1_i32_34 k0_t1
  let v135 : BitVec 32 := Scalar.muli c2_i32_68 arg16
  let c1_i32_69 : BitVec 32 := 1#32
  let v136 : BitVec 32 := Scalar.addi v135 c1_i32_69
  let c512_i32 : BitVec 32 := 512#32
  let v137 : BitVec 32 := Scalar.muli v136 c512_i32
  let v138 : BitVec 32 := v137
  let v139 : Index := Scalar.indexCast v138
  let c0_71 : Index := 0#32
  ![0, v139.toNat, 0]
def k0_mult3 (i : grid0.Coords) (k0_t1 : Fin (k0_t1_loop i).trips) : BitVec 32 :=
  let c2_i32_68 : BitVec 32 := 2#32
  let c0_i32_32 : BitVec 32 := 0#32
  let c1_i32_34 : BitVec 32 := 1#32
  let arg16 : BitVec 32 := Scf.iv c0_i32_32 c1_i32_34 k0_t1
  let v135 : BitVec 32 := Scalar.muli c2_i32_68 arg16
  let c1_i32_80 : BitVec 32 := 1#32
  let v150 : BitVec 32 := Scalar.subi v135 c1_i32_80
  let c0_i32_81 : BitVec 32 := 0#32
  let v151 : BitVec 32 := Scalar.maxsi v150 c0_i32_81
  let c512_i32_82 : BitVec 32 := 512#32
  let v152 : BitVec 32 := Scalar.muli v151 c512_i32_82
  v152
def k0_off2 (i : grid0.Coords) (k0_t1 : Fin (k0_t1_loop i).trips) : Fin 3 → Nat :=
  let c0_86 : Index := 0#32
  let c0_87 : Index := 0#32
  let c2_i32_68 : BitVec 32 := 2#32
  let c0_i32_32 : BitVec 32 := 0#32
  let c1_i32_34 : BitVec 32 := 1#32
  let arg16 : BitVec 32 := Scf.iv c0_i32_32 c1_i32_34 k0_t1
  let v135 : BitVec 32 := Scalar.muli c2_i32_68 arg16
  let c1_i32_80 : BitVec 32 := 1#32
  let v150 : BitVec 32 := Scalar.subi v135 c1_i32_80
  let c0_i32_81 : BitVec 32 := 0#32
  let v151 : BitVec 32 := Scalar.maxsi v150 c0_i32_81
  let c512_i32_82 : BitVec 32 := 512#32
  let v152 : BitVec 32 := Scalar.muli v151 c512_i32_82
  let v153 : BitVec 32 := v152
  let v161 : Index := Scalar.indexCast v153
  ![0, 0, v161.toNat]
def k0_mult4 (i : grid0.Coords) (k0_t1 : Fin (k0_t1_loop i).trips) : BitVec 32 :=
  let c2_i32_817 : BitVec 32 := 2#32
  let c0_i32_32 : BitVec 32 := 0#32
  let c1_i32_34 : BitVec 32 := 1#32
  let arg16 : BitVec 32 := Scf.iv c0_i32_32 c1_i32_34 k0_t1
  let v1102 : BitVec 32 := Scalar.muli c2_i32_817 arg16
  let c1_i32_818 : BitVec 32 := 1#32
  let v1103 : BitVec 32 := Scalar.addi v1102 c1_i32_818
  let c1_i32_819 : BitVec 32 := 1#32
  let v1104 : BitVec 32 := Scalar.addi v1103 c1_i32_819
  let c512_i32_820 : BitVec 32 := 512#32
  let v1105 : BitVec 32 := Scalar.muli v1104 c512_i32_820
  v1105
def k0_off3 (i : grid0.Coords) (k0_t1 : Fin (k0_t1_loop i).trips) : Fin 3 → Nat :=
  let c0_821 : Index := 0#32
  let c2_i32_817 : BitVec 32 := 2#32
  let c0_i32_32 : BitVec 32 := 0#32
  let c1_i32_34 : BitVec 32 := 1#32
  let arg16 : BitVec 32 := Scf.iv c0_i32_32 c1_i32_34 k0_t1
  let v1102 : BitVec 32 := Scalar.muli c2_i32_817 arg16
  let c1_i32_818 : BitVec 32 := 1#32
  let v1103 : BitVec 32 := Scalar.addi v1102 c1_i32_818
  let c1_i32_819 : BitVec 32 := 1#32
  let v1104 : BitVec 32 := Scalar.addi v1103 c1_i32_819
  let c512_i32_820 : BitVec 32 := 512#32
  let v1105 : BitVec 32 := Scalar.muli v1104 c512_i32_820
  let v1106 : BitVec 32 := v1105
  let v1107 : Index := Scalar.indexCast v1106
  let c0_822 : Index := 0#32
  ![0, v1107.toNat, 0]
def k0_mult5 (i : grid0.Coords) (k0_t1 : Fin (k0_t1_loop i).trips) : BitVec 32 :=
  let c2_i32_817 : BitVec 32 := 2#32
  let c0_i32_32 : BitVec 32 := 0#32
  let c1_i32_34 : BitVec 32 := 1#32
  let arg16 : BitVec 32 := Scf.iv c0_i32_32 c1_i32_34 k0_t1
  let v1102 : BitVec 32 := Scalar.muli c2_i32_817 arg16
  let c1_i32_818 : BitVec 32 := 1#32
  let v1103 : BitVec 32 := Scalar.addi v1102 c1_i32_818
  let c1_i32_831 : BitVec 32 := 1#32
  let v1118 : BitVec 32 := Scalar.subi v1103 c1_i32_831
  let c0_i32_832 : BitVec 32 := 0#32
  let v1119 : BitVec 32 := Scalar.maxsi v1118 c0_i32_832
  let c512_i32_833 : BitVec 32 := 512#32
  let v1120 : BitVec 32 := Scalar.muli v1119 c512_i32_833
  v1120
def k0_off4 (i : grid0.Coords) (k0_t1 : Fin (k0_t1_loop i).trips) : Fin 3 → Nat :=
  let c0_837 : Index := 0#32
  let c0_838 : Index := 0#32
  let c2_i32_817 : BitVec 32 := 2#32
  let c0_i32_32 : BitVec 32 := 0#32
  let c1_i32_34 : BitVec 32 := 1#32
  let arg16 : BitVec 32 := Scf.iv c0_i32_32 c1_i32_34 k0_t1
  let v1102 : BitVec 32 := Scalar.muli c2_i32_817 arg16
  let c1_i32_818 : BitVec 32 := 1#32
  let v1103 : BitVec 32 := Scalar.addi v1102 c1_i32_818
  let c1_i32_831 : BitVec 32 := 1#32
  let v1118 : BitVec 32 := Scalar.subi v1103 c1_i32_831
  let c0_i32_832 : BitVec 32 := 0#32
  let v1119 : BitVec 32 := Scalar.maxsi v1118 c0_i32_832
  let c512_i32_833 : BitVec 32 := 512#32
  let v1120 : BitVec 32 := Scalar.muli v1119 c512_i32_833
  let v1121 : BitVec 32 := v1120
  let v1129 : Index := Scalar.indexCast v1121
  ![0, 0, v1129.toNat]
@[reducible] def k0_t2_loop (i : grid0.Coords) : Scf.Loop 32 :=
  let c0_i32_32 : BitVec 32 := 0#32
  let arg2 : BitVec 32 := BitVec.ofNat 32 (i 2).val
  let c1_i32 : BitVec 32 := 1#32
  let v40 : BitVec 32 := Scalar.subi arg2 c1_i32
  let c0_i32_25 : BitVec 32 := 0#32
  let v41 : BitVec 32 := Scalar.maxsi v40 c0_i32_25
  let c0_i32_26 : BitVec 32 := 0#32
  let v43 : BitVec 1 := Scalar.cmpi .sgt v41 c0_i32_26
  let v44 : BitVec 32 := Scalar.extui v43
  let c0_i32_27 : BitVec 32 := 0#32
  let v45 : BitVec 1 := Scalar.cmpi .slt v41 c0_i32_27
  let v46 : BitVec 32 := Scalar.extui v45
  let v47 : BitVec 32 := Scalar.subi v44 v46
  let c2_i32 : BitVec 32 := 2#32
  let c0_i32_28 : BitVec 32 := 0#32
  let v48 : BitVec 1 := Scalar.cmpi .sgt c2_i32 c0_i32_28
  let v49 : BitVec 32 := Scalar.extui v48
  let c0_i32_29 : BitVec 32 := 0#32
  let v50 : BitVec 1 := Scalar.cmpi .slt c2_i32 c0_i32_29
  let v51 : BitVec 32 := Scalar.extui v50
  let v52 : BitVec 32 := Scalar.subi v49 v51
  let v53 : BitVec 1 := Scalar.cmpi .ne v47 v52
  let v54 : BitVec 32 := Scalar.remsi v41 c2_i32
  let c0_i32_30 : BitVec 32 := 0#32
  let v55 : BitVec 1 := Scalar.cmpi .ne v54 c0_i32_30
  let v56 : BitVec 1 := Scalar.andi v53 v55
  let v42 : BitVec 32 := Scalar.divsi v41 c2_i32
  let c1_i32_31 : BitVec 32 := 1#32
  let v57 : BitVec 32 := Scalar.subi v42 c1_i32_31
  let v58 : BitVec 32 := Scalar.select v56 v57 v42
  let v59 : BitVec 32 := Scalar.subi v58 c0_i32_32
  let c1_i32_33 : BitVec 32 := 1#32
  let v61 : BitVec 32 := Scalar.divsi v59 c1_i32_33
  let v62 : BitVec 32 := Scalar.muli v61 c1_i32_33
  let v63 : BitVec 32 := Scalar.addi c0_i32_32 v62
  let v60 : BitVec 32 := Scalar.addi c0_i32_32 v59
  let c1_i32_35 : BitVec 32 := 1#32
  ⟨v63, v60, c1_i32_35⟩
def k0_mult6 (i : grid0.Coords) (k0_t2 : Fin (k0_t2_loop i).trips) : BitVec 32 :=
  let c2_i32_68 : BitVec 32 := 2#32
  let c0_i32_32 : BitVec 32 := 0#32
  let arg2 : BitVec 32 := BitVec.ofNat 32 (i 2).val
  let c1_i32 : BitVec 32 := 1#32
  let v40 : BitVec 32 := Scalar.subi arg2 c1_i32
  let c0_i32_25 : BitVec 32 := 0#32
  let v41 : BitVec 32 := Scalar.maxsi v40 c0_i32_25
  let c0_i32_26 : BitVec 32 := 0#32
  let v43 : BitVec 1 := Scalar.cmpi .sgt v41 c0_i32_26
  let v44 : BitVec 32 := Scalar.extui v43
  let c0_i32_27 : BitVec 32 := 0#32
  let v45 : BitVec 1 := Scalar.cmpi .slt v41 c0_i32_27
  let v46 : BitVec 32 := Scalar.extui v45
  let v47 : BitVec 32 := Scalar.subi v44 v46
  let c2_i32 : BitVec 32 := 2#32
  let c0_i32_28 : BitVec 32 := 0#32
  let v48 : BitVec 1 := Scalar.cmpi .sgt c2_i32 c0_i32_28
  let v49 : BitVec 32 := Scalar.extui v48
  let c0_i32_29 : BitVec 32 := 0#32
  let v50 : BitVec 1 := Scalar.cmpi .slt c2_i32 c0_i32_29
  let v51 : BitVec 32 := Scalar.extui v50
  let v52 : BitVec 32 := Scalar.subi v49 v51
  let v53 : BitVec 1 := Scalar.cmpi .ne v47 v52
  let v54 : BitVec 32 := Scalar.remsi v41 c2_i32
  let c0_i32_30 : BitVec 32 := 0#32
  let v55 : BitVec 1 := Scalar.cmpi .ne v54 c0_i32_30
  let v56 : BitVec 1 := Scalar.andi v53 v55
  let v42 : BitVec 32 := Scalar.divsi v41 c2_i32
  let c1_i32_31 : BitVec 32 := 1#32
  let v57 : BitVec 32 := Scalar.subi v42 c1_i32_31
  let v58 : BitVec 32 := Scalar.select v56 v57 v42
  let v59 : BitVec 32 := Scalar.subi v58 c0_i32_32
  let c1_i32_33 : BitVec 32 := 1#32
  let v61 : BitVec 32 := Scalar.divsi v59 c1_i32_33
  let v62 : BitVec 32 := Scalar.muli v61 c1_i32_33
  let v63 : BitVec 32 := Scalar.addi c0_i32_32 v62
  let c1_i32_35 : BitVec 32 := 1#32
  let arg16 : BitVec 32 := Scf.iv v63 c1_i32_35 k0_t2
  let v135 : BitVec 32 := Scalar.muli c2_i32_68 arg16
  let c1_i32_69 : BitVec 32 := 1#32
  let v136 : BitVec 32 := Scalar.addi v135 c1_i32_69
  let c512_i32 : BitVec 32 := 512#32
  let v137 : BitVec 32 := Scalar.muli v136 c512_i32
  v137
def k0_off5 (i : grid0.Coords) (k0_t2 : Fin (k0_t2_loop i).trips) : Fin 3 → Nat :=
  let c0_70 : Index := 0#32
  let c2_i32_68 : BitVec 32 := 2#32
  let c0_i32_32 : BitVec 32 := 0#32
  let arg2 : BitVec 32 := BitVec.ofNat 32 (i 2).val
  let c1_i32 : BitVec 32 := 1#32
  let v40 : BitVec 32 := Scalar.subi arg2 c1_i32
  let c0_i32_25 : BitVec 32 := 0#32
  let v41 : BitVec 32 := Scalar.maxsi v40 c0_i32_25
  let c0_i32_26 : BitVec 32 := 0#32
  let v43 : BitVec 1 := Scalar.cmpi .sgt v41 c0_i32_26
  let v44 : BitVec 32 := Scalar.extui v43
  let c0_i32_27 : BitVec 32 := 0#32
  let v45 : BitVec 1 := Scalar.cmpi .slt v41 c0_i32_27
  let v46 : BitVec 32 := Scalar.extui v45
  let v47 : BitVec 32 := Scalar.subi v44 v46
  let c2_i32 : BitVec 32 := 2#32
  let c0_i32_28 : BitVec 32 := 0#32
  let v48 : BitVec 1 := Scalar.cmpi .sgt c2_i32 c0_i32_28
  let v49 : BitVec 32 := Scalar.extui v48
  let c0_i32_29 : BitVec 32 := 0#32
  let v50 : BitVec 1 := Scalar.cmpi .slt c2_i32 c0_i32_29
  let v51 : BitVec 32 := Scalar.extui v50
  let v52 : BitVec 32 := Scalar.subi v49 v51
  let v53 : BitVec 1 := Scalar.cmpi .ne v47 v52
  let v54 : BitVec 32 := Scalar.remsi v41 c2_i32
  let c0_i32_30 : BitVec 32 := 0#32
  let v55 : BitVec 1 := Scalar.cmpi .ne v54 c0_i32_30
  let v56 : BitVec 1 := Scalar.andi v53 v55
  let v42 : BitVec 32 := Scalar.divsi v41 c2_i32
  let c1_i32_31 : BitVec 32 := 1#32
  let v57 : BitVec 32 := Scalar.subi v42 c1_i32_31
  let v58 : BitVec 32 := Scalar.select v56 v57 v42
  let v59 : BitVec 32 := Scalar.subi v58 c0_i32_32
  let c1_i32_33 : BitVec 32 := 1#32
  let v61 : BitVec 32 := Scalar.divsi v59 c1_i32_33
  let v62 : BitVec 32 := Scalar.muli v61 c1_i32_33
  let v63 : BitVec 32 := Scalar.addi c0_i32_32 v62
  let c1_i32_35 : BitVec 32 := 1#32
  let arg16 : BitVec 32 := Scf.iv v63 c1_i32_35 k0_t2
  let v135 : BitVec 32 := Scalar.muli c2_i32_68 arg16
  let c1_i32_69 : BitVec 32 := 1#32
  let v136 : BitVec 32 := Scalar.addi v135 c1_i32_69
  let c512_i32 : BitVec 32 := 512#32
  let v137 : BitVec 32 := Scalar.muli v136 c512_i32
  let v138 : BitVec 32 := v137
  let v139 : Index := Scalar.indexCast v138
  let c0_71 : Index := 0#32
  ![0, v139.toNat, 0]
def k0_mult7 (i : grid0.Coords) (k0_t2 : Fin (k0_t2_loop i).trips) : BitVec 32 :=
  let c2_i32_68 : BitVec 32 := 2#32
  let c0_i32_32 : BitVec 32 := 0#32
  let arg2 : BitVec 32 := BitVec.ofNat 32 (i 2).val
  let c1_i32 : BitVec 32 := 1#32
  let v40 : BitVec 32 := Scalar.subi arg2 c1_i32
  let c0_i32_25 : BitVec 32 := 0#32
  let v41 : BitVec 32 := Scalar.maxsi v40 c0_i32_25
  let c0_i32_26 : BitVec 32 := 0#32
  let v43 : BitVec 1 := Scalar.cmpi .sgt v41 c0_i32_26
  let v44 : BitVec 32 := Scalar.extui v43
  let c0_i32_27 : BitVec 32 := 0#32
  let v45 : BitVec 1 := Scalar.cmpi .slt v41 c0_i32_27
  let v46 : BitVec 32 := Scalar.extui v45
  let v47 : BitVec 32 := Scalar.subi v44 v46
  let c2_i32 : BitVec 32 := 2#32
  let c0_i32_28 : BitVec 32 := 0#32
  let v48 : BitVec 1 := Scalar.cmpi .sgt c2_i32 c0_i32_28
  let v49 : BitVec 32 := Scalar.extui v48
  let c0_i32_29 : BitVec 32 := 0#32
  let v50 : BitVec 1 := Scalar.cmpi .slt c2_i32 c0_i32_29
  let v51 : BitVec 32 := Scalar.extui v50
  let v52 : BitVec 32 := Scalar.subi v49 v51
  let v53 : BitVec 1 := Scalar.cmpi .ne v47 v52
  let v54 : BitVec 32 := Scalar.remsi v41 c2_i32
  let c0_i32_30 : BitVec 32 := 0#32
  let v55 : BitVec 1 := Scalar.cmpi .ne v54 c0_i32_30
  let v56 : BitVec 1 := Scalar.andi v53 v55
  let v42 : BitVec 32 := Scalar.divsi v41 c2_i32
  let c1_i32_31 : BitVec 32 := 1#32
  let v57 : BitVec 32 := Scalar.subi v42 c1_i32_31
  let v58 : BitVec 32 := Scalar.select v56 v57 v42
  let v59 : BitVec 32 := Scalar.subi v58 c0_i32_32
  let c1_i32_33 : BitVec 32 := 1#32
  let v61 : BitVec 32 := Scalar.divsi v59 c1_i32_33
  let v62 : BitVec 32 := Scalar.muli v61 c1_i32_33
  let v63 : BitVec 32 := Scalar.addi c0_i32_32 v62
  let c1_i32_35 : BitVec 32 := 1#32
  let arg16 : BitVec 32 := Scf.iv v63 c1_i32_35 k0_t2
  let v135 : BitVec 32 := Scalar.muli c2_i32_68 arg16
  let c1_i32_80 : BitVec 32 := 1#32
  let v150 : BitVec 32 := Scalar.subi v135 c1_i32_80
  let c0_i32_81 : BitVec 32 := 0#32
  let v151 : BitVec 32 := Scalar.maxsi v150 c0_i32_81
  let c512_i32_82 : BitVec 32 := 512#32
  let v152 : BitVec 32 := Scalar.muli v151 c512_i32_82
  v152
def k0_off6 (i : grid0.Coords) (k0_t2 : Fin (k0_t2_loop i).trips) : Fin 3 → Nat :=
  let c0_86 : Index := 0#32
  let c0_87 : Index := 0#32
  let c2_i32_68 : BitVec 32 := 2#32
  let c0_i32_32 : BitVec 32 := 0#32
  let arg2 : BitVec 32 := BitVec.ofNat 32 (i 2).val
  let c1_i32 : BitVec 32 := 1#32
  let v40 : BitVec 32 := Scalar.subi arg2 c1_i32
  let c0_i32_25 : BitVec 32 := 0#32
  let v41 : BitVec 32 := Scalar.maxsi v40 c0_i32_25
  let c0_i32_26 : BitVec 32 := 0#32
  let v43 : BitVec 1 := Scalar.cmpi .sgt v41 c0_i32_26
  let v44 : BitVec 32 := Scalar.extui v43
  let c0_i32_27 : BitVec 32 := 0#32
  let v45 : BitVec 1 := Scalar.cmpi .slt v41 c0_i32_27
  let v46 : BitVec 32 := Scalar.extui v45
  let v47 : BitVec 32 := Scalar.subi v44 v46
  let c2_i32 : BitVec 32 := 2#32
  let c0_i32_28 : BitVec 32 := 0#32
  let v48 : BitVec 1 := Scalar.cmpi .sgt c2_i32 c0_i32_28
  let v49 : BitVec 32 := Scalar.extui v48
  let c0_i32_29 : BitVec 32 := 0#32
  let v50 : BitVec 1 := Scalar.cmpi .slt c2_i32 c0_i32_29
  let v51 : BitVec 32 := Scalar.extui v50
  let v52 : BitVec 32 := Scalar.subi v49 v51
  let v53 : BitVec 1 := Scalar.cmpi .ne v47 v52
  let v54 : BitVec 32 := Scalar.remsi v41 c2_i32
  let c0_i32_30 : BitVec 32 := 0#32
  let v55 : BitVec 1 := Scalar.cmpi .ne v54 c0_i32_30
  let v56 : BitVec 1 := Scalar.andi v53 v55
  let v42 : BitVec 32 := Scalar.divsi v41 c2_i32
  let c1_i32_31 : BitVec 32 := 1#32
  let v57 : BitVec 32 := Scalar.subi v42 c1_i32_31
  let v58 : BitVec 32 := Scalar.select v56 v57 v42
  let v59 : BitVec 32 := Scalar.subi v58 c0_i32_32
  let c1_i32_33 : BitVec 32 := 1#32
  let v61 : BitVec 32 := Scalar.divsi v59 c1_i32_33
  let v62 : BitVec 32 := Scalar.muli v61 c1_i32_33
  let v63 : BitVec 32 := Scalar.addi c0_i32_32 v62
  let c1_i32_35 : BitVec 32 := 1#32
  let arg16 : BitVec 32 := Scf.iv v63 c1_i32_35 k0_t2
  let v135 : BitVec 32 := Scalar.muli c2_i32_68 arg16
  let c1_i32_80 : BitVec 32 := 1#32
  let v150 : BitVec 32 := Scalar.subi v135 c1_i32_80
  let c0_i32_81 : BitVec 32 := 0#32
  let v151 : BitVec 32 := Scalar.maxsi v150 c0_i32_81
  let c512_i32_82 : BitVec 32 := 512#32
  let v152 : BitVec 32 := Scalar.muli v151 c512_i32_82
  let v153 : BitVec 32 := v152
  let v161 : Index := Scalar.indexCast v153
  ![0, 0, v161.toNat]
def k0_mult8 (i : grid0.Coords) (k0_t2 : Fin (k0_t2_loop i).trips) : BitVec 32 :=
  let c2_i32_817 : BitVec 32 := 2#32
  let c0_i32_32 : BitVec 32 := 0#32
  let arg2 : BitVec 32 := BitVec.ofNat 32 (i 2).val
  let c1_i32 : BitVec 32 := 1#32
  let v40 : BitVec 32 := Scalar.subi arg2 c1_i32
  let c0_i32_25 : BitVec 32 := 0#32
  let v41 : BitVec 32 := Scalar.maxsi v40 c0_i32_25
  let c0_i32_26 : BitVec 32 := 0#32
  let v43 : BitVec 1 := Scalar.cmpi .sgt v41 c0_i32_26
  let v44 : BitVec 32 := Scalar.extui v43
  let c0_i32_27 : BitVec 32 := 0#32
  let v45 : BitVec 1 := Scalar.cmpi .slt v41 c0_i32_27
  let v46 : BitVec 32 := Scalar.extui v45
  let v47 : BitVec 32 := Scalar.subi v44 v46
  let c2_i32 : BitVec 32 := 2#32
  let c0_i32_28 : BitVec 32 := 0#32
  let v48 : BitVec 1 := Scalar.cmpi .sgt c2_i32 c0_i32_28
  let v49 : BitVec 32 := Scalar.extui v48
  let c0_i32_29 : BitVec 32 := 0#32
  let v50 : BitVec 1 := Scalar.cmpi .slt c2_i32 c0_i32_29
  let v51 : BitVec 32 := Scalar.extui v50
  let v52 : BitVec 32 := Scalar.subi v49 v51
  let v53 : BitVec 1 := Scalar.cmpi .ne v47 v52
  let v54 : BitVec 32 := Scalar.remsi v41 c2_i32
  let c0_i32_30 : BitVec 32 := 0#32
  let v55 : BitVec 1 := Scalar.cmpi .ne v54 c0_i32_30
  let v56 : BitVec 1 := Scalar.andi v53 v55
  let v42 : BitVec 32 := Scalar.divsi v41 c2_i32
  let c1_i32_31 : BitVec 32 := 1#32
  let v57 : BitVec 32 := Scalar.subi v42 c1_i32_31
  let v58 : BitVec 32 := Scalar.select v56 v57 v42
  let v59 : BitVec 32 := Scalar.subi v58 c0_i32_32
  let c1_i32_33 : BitVec 32 := 1#32
  let v61 : BitVec 32 := Scalar.divsi v59 c1_i32_33
  let v62 : BitVec 32 := Scalar.muli v61 c1_i32_33
  let v63 : BitVec 32 := Scalar.addi c0_i32_32 v62
  let c1_i32_35 : BitVec 32 := 1#32
  let arg16 : BitVec 32 := Scf.iv v63 c1_i32_35 k0_t2
  let v1102 : BitVec 32 := Scalar.muli c2_i32_817 arg16
  let c1_i32_818 : BitVec 32 := 1#32
  let v1103 : BitVec 32 := Scalar.addi v1102 c1_i32_818
  let c1_i32_819 : BitVec 32 := 1#32
  let v1104 : BitVec 32 := Scalar.addi v1103 c1_i32_819
  let c512_i32_820 : BitVec 32 := 512#32
  let v1105 : BitVec 32 := Scalar.muli v1104 c512_i32_820
  v1105
def k0_off7 (i : grid0.Coords) (k0_t2 : Fin (k0_t2_loop i).trips) : Fin 3 → Nat :=
  let c0_821 : Index := 0#32
  let c2_i32_817 : BitVec 32 := 2#32
  let c0_i32_32 : BitVec 32 := 0#32
  let arg2 : BitVec 32 := BitVec.ofNat 32 (i 2).val
  let c1_i32 : BitVec 32 := 1#32
  let v40 : BitVec 32 := Scalar.subi arg2 c1_i32
  let c0_i32_25 : BitVec 32 := 0#32
  let v41 : BitVec 32 := Scalar.maxsi v40 c0_i32_25
  let c0_i32_26 : BitVec 32 := 0#32
  let v43 : BitVec 1 := Scalar.cmpi .sgt v41 c0_i32_26
  let v44 : BitVec 32 := Scalar.extui v43
  let c0_i32_27 : BitVec 32 := 0#32
  let v45 : BitVec 1 := Scalar.cmpi .slt v41 c0_i32_27
  let v46 : BitVec 32 := Scalar.extui v45
  let v47 : BitVec 32 := Scalar.subi v44 v46
  let c2_i32 : BitVec 32 := 2#32
  let c0_i32_28 : BitVec 32 := 0#32
  let v48 : BitVec 1 := Scalar.cmpi .sgt c2_i32 c0_i32_28
  let v49 : BitVec 32 := Scalar.extui v48
  let c0_i32_29 : BitVec 32 := 0#32
  let v50 : BitVec 1 := Scalar.cmpi .slt c2_i32 c0_i32_29
  let v51 : BitVec 32 := Scalar.extui v50
  let v52 : BitVec 32 := Scalar.subi v49 v51
  let v53 : BitVec 1 := Scalar.cmpi .ne v47 v52
  let v54 : BitVec 32 := Scalar.remsi v41 c2_i32
  let c0_i32_30 : BitVec 32 := 0#32
  let v55 : BitVec 1 := Scalar.cmpi .ne v54 c0_i32_30
  let v56 : BitVec 1 := Scalar.andi v53 v55
  let v42 : BitVec 32 := Scalar.divsi v41 c2_i32
  let c1_i32_31 : BitVec 32 := 1#32
  let v57 : BitVec 32 := Scalar.subi v42 c1_i32_31
  let v58 : BitVec 32 := Scalar.select v56 v57 v42
  let v59 : BitVec 32 := Scalar.subi v58 c0_i32_32
  let c1_i32_33 : BitVec 32 := 1#32
  let v61 : BitVec 32 := Scalar.divsi v59 c1_i32_33
  let v62 : BitVec 32 := Scalar.muli v61 c1_i32_33
  let v63 : BitVec 32 := Scalar.addi c0_i32_32 v62
  let c1_i32_35 : BitVec 32 := 1#32
  let arg16 : BitVec 32 := Scf.iv v63 c1_i32_35 k0_t2
  let v1102 : BitVec 32 := Scalar.muli c2_i32_817 arg16
  let c1_i32_818 : BitVec 32 := 1#32
  let v1103 : BitVec 32 := Scalar.addi v1102 c1_i32_818
  let c1_i32_819 : BitVec 32 := 1#32
  let v1104 : BitVec 32 := Scalar.addi v1103 c1_i32_819
  let c512_i32_820 : BitVec 32 := 512#32
  let v1105 : BitVec 32 := Scalar.muli v1104 c512_i32_820
  let v1106 : BitVec 32 := v1105
  let v1107 : Index := Scalar.indexCast v1106
  let c0_822 : Index := 0#32
  ![0, v1107.toNat, 0]
def k0_mult9 (i : grid0.Coords) (k0_t2 : Fin (k0_t2_loop i).trips) : BitVec 32 :=
  let c2_i32_817 : BitVec 32 := 2#32
  let c0_i32_32 : BitVec 32 := 0#32
  let arg2 : BitVec 32 := BitVec.ofNat 32 (i 2).val
  let c1_i32 : BitVec 32 := 1#32
  let v40 : BitVec 32 := Scalar.subi arg2 c1_i32
  let c0_i32_25 : BitVec 32 := 0#32
  let v41 : BitVec 32 := Scalar.maxsi v40 c0_i32_25
  let c0_i32_26 : BitVec 32 := 0#32
  let v43 : BitVec 1 := Scalar.cmpi .sgt v41 c0_i32_26
  let v44 : BitVec 32 := Scalar.extui v43
  let c0_i32_27 : BitVec 32 := 0#32
  let v45 : BitVec 1 := Scalar.cmpi .slt v41 c0_i32_27
  let v46 : BitVec 32 := Scalar.extui v45
  let v47 : BitVec 32 := Scalar.subi v44 v46
  let c2_i32 : BitVec 32 := 2#32
  let c0_i32_28 : BitVec 32 := 0#32
  let v48 : BitVec 1 := Scalar.cmpi .sgt c2_i32 c0_i32_28
  let v49 : BitVec 32 := Scalar.extui v48
  let c0_i32_29 : BitVec 32 := 0#32
  let v50 : BitVec 1 := Scalar.cmpi .slt c2_i32 c0_i32_29
  let v51 : BitVec 32 := Scalar.extui v50
  let v52 : BitVec 32 := Scalar.subi v49 v51
  let v53 : BitVec 1 := Scalar.cmpi .ne v47 v52
  let v54 : BitVec 32 := Scalar.remsi v41 c2_i32
  let c0_i32_30 : BitVec 32 := 0#32
  let v55 : BitVec 1 := Scalar.cmpi .ne v54 c0_i32_30
  let v56 : BitVec 1 := Scalar.andi v53 v55
  let v42 : BitVec 32 := Scalar.divsi v41 c2_i32
  let c1_i32_31 : BitVec 32 := 1#32
  let v57 : BitVec 32 := Scalar.subi v42 c1_i32_31
  let v58 : BitVec 32 := Scalar.select v56 v57 v42
  let v59 : BitVec 32 := Scalar.subi v58 c0_i32_32
  let c1_i32_33 : BitVec 32 := 1#32
  let v61 : BitVec 32 := Scalar.divsi v59 c1_i32_33
  let v62 : BitVec 32 := Scalar.muli v61 c1_i32_33
  let v63 : BitVec 32 := Scalar.addi c0_i32_32 v62
  let c1_i32_35 : BitVec 32 := 1#32
  let arg16 : BitVec 32 := Scf.iv v63 c1_i32_35 k0_t2
  let v1102 : BitVec 32 := Scalar.muli c2_i32_817 arg16
  let c1_i32_818 : BitVec 32 := 1#32
  let v1103 : BitVec 32 := Scalar.addi v1102 c1_i32_818
  let c1_i32_831 : BitVec 32 := 1#32
  let v1118 : BitVec 32 := Scalar.subi v1103 c1_i32_831
  let c0_i32_832 : BitVec 32 := 0#32
  let v1119 : BitVec 32 := Scalar.maxsi v1118 c0_i32_832
  let c512_i32_833 : BitVec 32 := 512#32
  let v1120 : BitVec 32 := Scalar.muli v1119 c512_i32_833
  v1120
def k0_off8 (i : grid0.Coords) (k0_t2 : Fin (k0_t2_loop i).trips) : Fin 3 → Nat :=
  let c0_837 : Index := 0#32
  let c0_838 : Index := 0#32
  let c2_i32_817 : BitVec 32 := 2#32
  let c0_i32_32 : BitVec 32 := 0#32
  let arg2 : BitVec 32 := BitVec.ofNat 32 (i 2).val
  let c1_i32 : BitVec 32 := 1#32
  let v40 : BitVec 32 := Scalar.subi arg2 c1_i32
  let c0_i32_25 : BitVec 32 := 0#32
  let v41 : BitVec 32 := Scalar.maxsi v40 c0_i32_25
  let c0_i32_26 : BitVec 32 := 0#32
  let v43 : BitVec 1 := Scalar.cmpi .sgt v41 c0_i32_26
  let v44 : BitVec 32 := Scalar.extui v43
  let c0_i32_27 : BitVec 32 := 0#32
  let v45 : BitVec 1 := Scalar.cmpi .slt v41 c0_i32_27
  let v46 : BitVec 32 := Scalar.extui v45
  let v47 : BitVec 32 := Scalar.subi v44 v46
  let c2_i32 : BitVec 32 := 2#32
  let c0_i32_28 : BitVec 32 := 0#32
  let v48 : BitVec 1 := Scalar.cmpi .sgt c2_i32 c0_i32_28
  let v49 : BitVec 32 := Scalar.extui v48
  let c0_i32_29 : BitVec 32 := 0#32
  let v50 : BitVec 1 := Scalar.cmpi .slt c2_i32 c0_i32_29
  let v51 : BitVec 32 := Scalar.extui v50
  let v52 : BitVec 32 := Scalar.subi v49 v51
  let v53 : BitVec 1 := Scalar.cmpi .ne v47 v52
  let v54 : BitVec 32 := Scalar.remsi v41 c2_i32
  let c0_i32_30 : BitVec 32 := 0#32
  let v55 : BitVec 1 := Scalar.cmpi .ne v54 c0_i32_30
  let v56 : BitVec 1 := Scalar.andi v53 v55
  let v42 : BitVec 32 := Scalar.divsi v41 c2_i32
  let c1_i32_31 : BitVec 32 := 1#32
  let v57 : BitVec 32 := Scalar.subi v42 c1_i32_31
  let v58 : BitVec 32 := Scalar.select v56 v57 v42
  let v59 : BitVec 32 := Scalar.subi v58 c0_i32_32
  let c1_i32_33 : BitVec 32 := 1#32
  let v61 : BitVec 32 := Scalar.divsi v59 c1_i32_33
  let v62 : BitVec 32 := Scalar.muli v61 c1_i32_33
  let v63 : BitVec 32 := Scalar.addi c0_i32_32 v62
  let c1_i32_35 : BitVec 32 := 1#32
  let arg16 : BitVec 32 := Scf.iv v63 c1_i32_35 k0_t2
  let v1102 : BitVec 32 := Scalar.muli c2_i32_817 arg16
  let c1_i32_818 : BitVec 32 := 1#32
  let v1103 : BitVec 32 := Scalar.addi v1102 c1_i32_818
  let c1_i32_831 : BitVec 32 := 1#32
  let v1118 : BitVec 32 := Scalar.subi v1103 c1_i32_831
  let c0_i32_832 : BitVec 32 := 0#32
  let v1119 : BitVec 32 := Scalar.maxsi v1118 c0_i32_832
  let c512_i32_833 : BitVec 32 := 512#32
  let v1120 : BitVec 32 := Scalar.muli v1119 c512_i32_833
  let v1121 : BitVec 32 := v1120
  let v1129 : Index := Scalar.indexCast v1121
  ![0, 0, v1129.toNat]
def k0_cond2 (i : grid0.Coords) : BitVec 1 :=
  let arg2 : BitVec 32 := BitVec.ofNat 32 (i 2).val
  let c0_i32_36 : BitVec 32 := 0#32
  let v66 : BitVec 1 := Scalar.cmpi .eq arg2 c0_i32_36
  let c0_i32_44 : BitVec 32 := 0#32
  let c1_i32_43 : BitVec 32 := 1#32
  let c1_i32 : BitVec 32 := 1#32
  let v40 : BitVec 32 := Scalar.subi arg2 c1_i32
  let c0_i32_25 : BitVec 32 := 0#32
  let v41 : BitVec 32 := Scalar.maxsi v40 c0_i32_25
  let c2_i32_37 : BitVec 32 := 2#32
  let c0_i32_38 : BitVec 32 := 0#32
  let v67 : BitVec 1 := Scalar.cmpi .eq c2_i32_37 c0_i32_38
  let c1_i32_39 : BitVec 32 := 1#32
  let v68 : BitVec 32 := Scalar.select v67 c1_i32_39 c2_i32_37
  let v69 : BitVec 32 := Scalar.remsi v41 v68
  let c0_i32_41 : BitVec 32 := 0#32
  let v71 : BitVec 1 := Scalar.cmpi .slt v69 c0_i32_41
  let c0_i32_42 : BitVec 32 := 0#32
  let v72 : BitVec 1 := Scalar.cmpi .slt v68 c0_i32_42
  let v73 : BitVec 1 := Scalar.xori v71 v72
  let c0_i32_40 : BitVec 32 := 0#32
  let v70 : BitVec 1 := Scalar.cmpi .ne v69 c0_i32_40
  let v74 : BitVec 1 := Scalar.andi v73 v70
  let v75 : BitVec 32 := Scalar.addi v69 v68
  let v76 : BitVec 32 := Scalar.select v74 v75 v69
  let v77 : BitVec 32 := Scalar.addi c1_i32_43 v76
  let v78 : BitVec 32 := Scalar.select v66 c0_i32_44 v77
  let c0_i32_45 : BitVec 32 := 0#32
  let v79 : BitVec 32 := Scalar.maxsi v78 c0_i32_45
  let c2_i32_46 : BitVec 32 := 2#32
  let v80 : BitVec 32 := Scalar.minsi v79 c2_i32_46
  let c0_i32_47 : BitVec 32 := 0#32
  let v81 : BitVec 1 := Scalar.cmpi .ne v80 c0_i32_47
  v81

def k0_cond3 (i : grid0.Coords) : BitVec 1 :=
  let arg2 : BitVec 32 := BitVec.ofNat 32 (i 2).val
  let c0_i32_36 : BitVec 32 := 0#32
  let v66 : BitVec 1 := Scalar.cmpi .eq arg2 c0_i32_36
  let c0_i32_44 : BitVec 32 := 0#32
  let c1_i32_43 : BitVec 32 := 1#32
  let c1_i32 : BitVec 32 := 1#32
  let v40 : BitVec 32 := Scalar.subi arg2 c1_i32
  let c0_i32_25 : BitVec 32 := 0#32
  let v41 : BitVec 32 := Scalar.maxsi v40 c0_i32_25
  let c2_i32_37 : BitVec 32 := 2#32
  let c0_i32_38 : BitVec 32 := 0#32
  let v67 : BitVec 1 := Scalar.cmpi .eq c2_i32_37 c0_i32_38
  let c1_i32_39 : BitVec 32 := 1#32
  let v68 : BitVec 32 := Scalar.select v67 c1_i32_39 c2_i32_37
  let v69 : BitVec 32 := Scalar.remsi v41 v68
  let c0_i32_41 : BitVec 32 := 0#32
  let v71 : BitVec 1 := Scalar.cmpi .slt v69 c0_i32_41
  let c0_i32_42 : BitVec 32 := 0#32
  let v72 : BitVec 1 := Scalar.cmpi .slt v68 c0_i32_42
  let v73 : BitVec 1 := Scalar.xori v71 v72
  let c0_i32_40 : BitVec 32 := 0#32
  let v70 : BitVec 1 := Scalar.cmpi .ne v69 c0_i32_40
  let v74 : BitVec 1 := Scalar.andi v73 v70
  let v75 : BitVec 32 := Scalar.addi v69 v68
  let v76 : BitVec 32 := Scalar.select v74 v75 v69
  let v77 : BitVec 32 := Scalar.addi c1_i32_43 v76
  let v78 : BitVec 32 := Scalar.select v66 c0_i32_44 v77
  let c0_i32_45 : BitVec 32 := 0#32
  let v79 : BitVec 32 := Scalar.maxsi v78 c0_i32_45
  let c2_i32_46 : BitVec 32 := 2#32
  let v80 : BitVec 32 := Scalar.minsi v79 c2_i32_46
  let c1_i32_68 : BitVec 32 := 1#32
  let v135 : BitVec 32 := Scalar.subi v80 c1_i32_68
  let c0_i32_69 : BitVec 32 := 0#32
  let v136 : BitVec 1 := Scalar.cmpi .ne v135 c0_i32_69
  v136

def k0_mult10 (i : grid0.Coords) : BitVec 32 :=
  let arg2 : BitVec 32 := BitVec.ofNat 32 (i 2).val
  let c2_i32_70 : BitVec 32 := 2#32
  let v137 : BitVec 32 := Scalar.subi arg2 c2_i32_70
  let c1_i32_71 : BitVec 32 := 1#32
  let v138 : BitVec 32 := Scalar.addi v137 c1_i32_71
  let c512_i32 : BitVec 32 := 512#32
  let v139 : BitVec 32 := Scalar.muli v138 c512_i32
  v139
def k0_off9 (i : grid0.Coords) (c2_i32_70 : BitVec 32) : Fin 3 → Nat :=
  let c0_72 : Index := 0#32
  let arg2 : BitVec 32 := BitVec.ofNat 32 (i 2).val
  let v137 : BitVec 32 := Scalar.subi arg2 c2_i32_70
  let c1_i32_71 : BitVec 32 := 1#32
  let v138 : BitVec 32 := Scalar.addi v137 c1_i32_71
  let c512_i32 : BitVec 32 := 512#32
  let v139 : BitVec 32 := Scalar.muli v138 c512_i32
  let v140 : BitVec 32 := v139
  let v141 : Index := Scalar.indexCast v140
  let c0_73 : Index := 0#32
  ![0, v141.toNat, 0]
def k0_mult11 (i : grid0.Coords) : BitVec 32 :=
  let arg2 : BitVec 32 := BitVec.ofNat 32 (i 2).val
  let c2_i32_70 : BitVec 32 := 2#32
  let v137 : BitVec 32 := Scalar.subi arg2 c2_i32_70
  let c1_i32_82 : BitVec 32 := 1#32
  let v152 : BitVec 32 := Scalar.subi v137 c1_i32_82
  let c0_i32_83 : BitVec 32 := 0#32
  let v153 : BitVec 32 := Scalar.maxsi v152 c0_i32_83
  let c512_i32_84 : BitVec 32 := 512#32
  let v154 : BitVec 32 := Scalar.muli v153 c512_i32_84
  v154
def k0_off10 (i : grid0.Coords) (c2_i32_70 : BitVec 32) : Fin 3 → Nat :=
  let c0_88 : Index := 0#32
  let c0_89 : Index := 0#32
  let arg2 : BitVec 32 := BitVec.ofNat 32 (i 2).val
  let v137 : BitVec 32 := Scalar.subi arg2 c2_i32_70
  let c1_i32_82 : BitVec 32 := 1#32
  let v152 : BitVec 32 := Scalar.subi v137 c1_i32_82
  let c0_i32_83 : BitVec 32 := 0#32
  let v153 : BitVec 32 := Scalar.maxsi v152 c0_i32_83
  let c512_i32_84 : BitVec 32 := 512#32
  let v154 : BitVec 32 := Scalar.muli v153 c512_i32_84
  let v155 : BitVec 32 := v154
  let v163 : Index := Scalar.indexCast v155
  ![0, 0, v163.toNat]
def k0_mult12 (i : grid0.Coords) : BitVec 32 :=
  let arg2 : BitVec 32 := BitVec.ofNat 32 (i 2).val
  let c1_i32_819 : BitVec 32 := 1#32
  let v1104 : BitVec 32 := Scalar.subi arg2 c1_i32_819
  let c1_i32_820 : BitVec 32 := 1#32
  let v1105 : BitVec 32 := Scalar.addi v1104 c1_i32_820
  let c512_i32_821 : BitVec 32 := 512#32
  let v1106 : BitVec 32 := Scalar.muli v1105 c512_i32_821
  v1106
def k0_mult13 (i : grid0.Coords) : BitVec 32 :=
  let arg2 : BitVec 32 := BitVec.ofNat 32 (i 2).val
  let c1_i32_819 : BitVec 32 := 1#32
  let v1104 : BitVec 32 := Scalar.subi arg2 c1_i32_819
  let c1_i32_832 : BitVec 32 := 1#32
  let v1119 : BitVec 32 := Scalar.subi v1104 c1_i32_832
  let c0_i32_833 : BitVec 32 := 0#32
  let v1120 : BitVec 32 := Scalar.maxsi v1119 c0_i32_833
  let c512_i32_834 : BitVec 32 := 512#32
  let v1121 : BitVec 32 := Scalar.muli v1120 c512_i32_834
  v1121
def k0_mult14 (i : grid0.Coords) : BitVec 32 :=
  let arg2 : BitVec 32 := BitVec.ofNat 32 (i 2).val
  let c1_i32_2401 : BitVec 32 := 1#32
  let v2647 : BitVec 32 := Scalar.subi arg2 c1_i32_2401
  let c0_i32_2402 : BitVec 32 := 0#32
  let v2648 : BitVec 32 := Scalar.maxsi v2647 c0_i32_2402
  let c512_i32_2403 : BitVec 32 := 512#32
  let v2649 : BitVec 32 := Scalar.muli v2648 c512_i32_2403
  v2649
def k0_off11 (i : grid0.Coords) : Fin 3 → Nat :=
  let c0_2407 : Index := 0#32
  let c0_2408 : Index := 0#32
  let arg2 : BitVec 32 := BitVec.ofNat 32 (i 2).val
  let c1_i32_2401 : BitVec 32 := 1#32
  let v2647 : BitVec 32 := Scalar.subi arg2 c1_i32_2401
  let c0_i32_2402 : BitVec 32 := 0#32
  let v2648 : BitVec 32 := Scalar.maxsi v2647 c0_i32_2402
  let c512_i32_2403 : BitVec 32 := 512#32
  let v2649 : BitVec 32 := Scalar.muli v2648 c512_i32_2403
  let v2650 : BitVec 32 := v2649
  let v2658 : Index := Scalar.indexCast v2650
  ![0, 0, v2658.toNat]
def k0_mult15 (i : grid0.Coords) : BitVec 32 :=
  let arg2 : BitVec 32 := BitVec.ofNat 32 (i 2).val
  let c512_i32_3970 : BitVec 32 := 512#32
  let v4175 : BitVec 32 := Scalar.muli arg2 c512_i32_3970
  v4175
def k0_off12 (i : grid0.Coords) : Fin 3 → Nat :=
  let c0_3974 : Index := 0#32
  let c0_3975 : Index := 0#32
  let arg2 : BitVec 32 := BitVec.ofNat 32 (i 2).val
  let c512_i32_3970 : BitVec 32 := 512#32
  let v4175 : BitVec 32 := Scalar.muli arg2 c512_i32_3970
  let v4176 : BitVec 32 := v4175
  let v4184 : Index := Scalar.indexCast v4176
  ![0, 0, v4184.toNat]
def k0_mult16 (i : grid0.Coords) : BitVec 32 :=
  let arg2 : BitVec 32 := BitVec.ofNat 32 (i 2).val
  let c1_i32_70 : BitVec 32 := 1#32
  let v137 : BitVec 32 := Scalar.subi arg2 c1_i32_70
  let c1_i32_71 : BitVec 32 := 1#32
  let v138 : BitVec 32 := Scalar.addi v137 c1_i32_71
  let c512_i32 : BitVec 32 := 512#32
  let v139 : BitVec 32 := Scalar.muli v138 c512_i32
  v139
def k0_off13 (i : grid0.Coords) : Fin 3 → Nat :=
  let c0_72 : Index := 0#32
  let arg2 : BitVec 32 := BitVec.ofNat 32 (i 2).val
  let c1_i32_70 : BitVec 32 := 1#32
  let v137 : BitVec 32 := Scalar.subi arg2 c1_i32_70
  let c1_i32_71 : BitVec 32 := 1#32
  let v138 : BitVec 32 := Scalar.addi v137 c1_i32_71
  let c512_i32 : BitVec 32 := 512#32
  let v139 : BitVec 32 := Scalar.muli v138 c512_i32
  let v140 : BitVec 32 := v139
  let v141 : Index := Scalar.indexCast v140
  let c0_73 : Index := 0#32
  ![0, v141.toNat, 0]
def k0_mult17 (i : grid0.Coords) : BitVec 32 :=
  let arg2 : BitVec 32 := BitVec.ofNat 32 (i 2).val
  let c1_i32_70 : BitVec 32 := 1#32
  let v137 : BitVec 32 := Scalar.subi arg2 c1_i32_70
  let c1_i32_82 : BitVec 32 := 1#32
  let v152 : BitVec 32 := Scalar.subi v137 c1_i32_82
  let c0_i32_83 : BitVec 32 := 0#32
  let v153 : BitVec 32 := Scalar.maxsi v152 c0_i32_83
  let c512_i32_84 : BitVec 32 := 512#32
  let v154 : BitVec 32 := Scalar.muli v153 c512_i32_84
  v154
def k0_off14 (i : grid0.Coords) : Fin 3 → Nat :=
  let c0_88 : Index := 0#32
  let c0_89 : Index := 0#32
  let arg2 : BitVec 32 := BitVec.ofNat 32 (i 2).val
  let c1_i32_70 : BitVec 32 := 1#32
  let v137 : BitVec 32 := Scalar.subi arg2 c1_i32_70
  let c1_i32_82 : BitVec 32 := 1#32
  let v152 : BitVec 32 := Scalar.subi v137 c1_i32_82
  let c0_i32_83 : BitVec 32 := 0#32
  let v153 : BitVec 32 := Scalar.maxsi v152 c0_i32_83
  let c512_i32_84 : BitVec 32 := 512#32
  let v154 : BitVec 32 := Scalar.muli v153 c512_i32_84
  let v155 : BitVec 32 := v154
  let v163 : Index := Scalar.indexCast v155
  ![0, 0, v163.toNat]
def k0_mult18 (i : grid0.Coords) : BitVec 32 :=
  let arg2 : BitVec 32 := BitVec.ofNat 32 (i 2).val
  let c1_i32_1587 : BitVec 32 := 1#32
  let v1680 : BitVec 32 := Scalar.subi arg2 c1_i32_1587
  let c0_i32_1588 : BitVec 32 := 0#32
  let v1681 : BitVec 32 := Scalar.maxsi v1680 c0_i32_1588
  let c512_i32_1589 : BitVec 32 := 512#32
  let v1682 : BitVec 32 := Scalar.muli v1681 c512_i32_1589
  v1682
def k0_off15 (i : grid0.Coords) : Fin 3 → Nat :=
  let c0_1593 : Index := 0#32
  let c0_1594 : Index := 0#32
  let arg2 : BitVec 32 := BitVec.ofNat 32 (i 2).val
  let c1_i32_1587 : BitVec 32 := 1#32
  let v1680 : BitVec 32 := Scalar.subi arg2 c1_i32_1587
  let c0_i32_1588 : BitVec 32 := 0#32
  let v1681 : BitVec 32 := Scalar.maxsi v1680 c0_i32_1588
  let c512_i32_1589 : BitVec 32 := 512#32
  let v1682 : BitVec 32 := Scalar.muli v1681 c512_i32_1589
  let v1683 : BitVec 32 := v1682
  let v1691 : Index := Scalar.indexCast v1683
  ![0, 0, v1691.toNat]
def k0_mult19 (i : grid0.Coords) : BitVec 32 :=
  let arg2 : BitVec 32 := BitVec.ofNat 32 (i 2).val
  let c512_i32_3156 : BitVec 32 := 512#32
  let v3208 : BitVec 32 := Scalar.muli arg2 c512_i32_3156
  v3208
def k0_off16 (i : grid0.Coords) : Fin 3 → Nat :=
  let c0_3160 : Index := 0#32
  let c0_3161 : Index := 0#32
  let arg2 : BitVec 32 := BitVec.ofNat 32 (i 2).val
  let c512_i32_3156 : BitVec 32 := 512#32
  let v3208 : BitVec 32 := Scalar.muli arg2 c512_i32_3156
  let v3209 : BitVec 32 := v3208
  let v3217 : Index := Scalar.indexCast v3209
  ![0, 0, v3217.toNat]
def k0_mult20 (i : grid0.Coords) : BitVec 32 :=
  let arg2 : BitVec 32 := BitVec.ofNat 32 (i 2).val
  let c1_i32_68 : BitVec 32 := 1#32
  let v135 : BitVec 32 := Scalar.subi arg2 c1_i32_68
  let c0_i32_69 : BitVec 32 := 0#32
  let v136 : BitVec 32 := Scalar.maxsi v135 c0_i32_69
  let c512_i32 : BitVec 32 := 512#32
  let v137 : BitVec 32 := Scalar.muli v136 c512_i32
  v137
def k0_off17 (i : grid0.Coords) : Fin 3 → Nat :=
  let c0_73 : Index := 0#32
  let c0_74 : Index := 0#32
  let arg2 : BitVec 32 := BitVec.ofNat 32 (i 2).val
  let c1_i32_68 : BitVec 32 := 1#32
  let v135 : BitVec 32 := Scalar.subi arg2 c1_i32_68
  let c0_i32_69 : BitVec 32 := 0#32
  let v136 : BitVec 32 := Scalar.maxsi v135 c0_i32_69
  let c512_i32 : BitVec 32 := 512#32
  let v137 : BitVec 32 := Scalar.muli v136 c512_i32
  let v138 : BitVec 32 := v137
  let v146 : Index := Scalar.indexCast v138
  ![0, 0, v146.toNat]
def k0_mult21 (i : grid0.Coords) : BitVec 32 :=
  let arg2 : BitVec 32 := BitVec.ofNat 32 (i 2).val
  let c512_i32_1572 : BitVec 32 := 512#32
  let v1663 : BitVec 32 := Scalar.muli arg2 c512_i32_1572
  v1663
def k0_off18 (i : grid0.Coords) : Fin 3 → Nat :=
  let c0_1576 : Index := 0#32
  let c0_1577 : Index := 0#32
  let arg2 : BitVec 32 := BitVec.ofNat 32 (i 2).val
  let c512_i32_1572 : BitVec 32 := 512#32
  let v1663 : BitVec 32 := Scalar.muli arg2 c512_i32_1572
  let v1664 : BitVec 32 := v1663
  let v1672 : Index := Scalar.indexCast v1664
  ![0, 0, v1672.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![arg0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![v0.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "scale" => some ((8⁻¹ * (Real.log 2)⁻¹ : ℝ) : EReal)
  | _ => none
-- ==== ReferenceIdeal.lean ====
abbrev S2048x32768 : Shape := ⟨2, ![2048, 32768]⟩
abbrev S8x4096x3072 : Shape := ⟨3, ![8, 4096, 3072]⟩
abbrev S64 : Shape := ⟨1, ![64]⟩
abbrev S128 : Shape := ⟨1, ![128]⟩
abbrev S32x8 : Shape := ⟨2, ![32, 8]⟩
abbrev S32768x2048 : Shape := ⟨2, ![32768, 2048]⟩
abbrev S8x4096x2048 : Shape := ⟨3, ![8, 4096, 2048]⟩
abbrev S8x4096x1024 : Shape := ⟨3, ![8, 4096, 1024]⟩
abbrev S8x4096x8x2x64 : Shape := ⟨5, ![8, 4096, 8, 2, 64]⟩
abbrev S8x4096x8x128 : Shape := ⟨4, ![8, 4096, 8, 128]⟩
abbrev S_ : Shape := ⟨0, ![]⟩
abbrev S8x8x2x4096x64 : Shape := ⟨5, ![8, 8, 2, 4096, 64]⟩
abbrev S8x8x4096x128 : Shape := ⟨4, ![8, 8, 4096, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S4096x4096x8 : Shape := ⟨3, ![4096, 4096, 8]⟩
abbrev S8x4096x4096 : Shape := ⟨3, ![8, 4096, 4096]⟩
abbrev S8x8x2x4096x4096 : Shape := ⟨5, ![8, 8, 2, 4096, 4096]⟩
abbrev S1x8x1x4096x4096 : Shape := ⟨5, ![1, 8, 1, 4096, 4096]⟩
abbrev S1x1x1x4096x4096 : Shape := ⟨5, ![1, 1, 1, 4096, 4096]⟩
abbrev S8x8x2x4096 : Shape := ⟨4, ![8, 8, 2, 4096]⟩
abbrev S8x8x2x4096x1 : Shape := ⟨5, ![8, 8, 2, 4096, 1]⟩
abbrev S8x8x1x4096x4096 : Shape := ⟨5, ![8, 8, 1, 4096, 4096]⟩
abbrev S8x8x4096x4096 : Shape := ⟨4, ![8, 8, 4096, 4096]⟩
abbrev S8x8x128x4096 : Shape := ⟨4, ![8, 8, 128, 4096]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩

abbrev nBuf : Space → Nat
  | .hbm => 136
  | .vmem => 0
  | .smem => 0
  | _ => 0

abbrev hbmTy0_0 (i : Nat) : BufTy := match i % 128 with
  | 0 => ⟨S2048x32768, .bf16⟩
  | 1 => ⟨S8x4096x3072, .bf16⟩
  | 2 => ⟨S64, .f32⟩
  | 3 => ⟨S64, .f32⟩
  | 4 => ⟨S64, .f32⟩
  | 5 => ⟨S64, .f32⟩
  | 6 => ⟨S128, .f32⟩
  | 7 => ⟨S32x8, .f32⟩
  | 8 => ⟨S2048x32768, .f32⟩
  | 9 => ⟨S32768x2048, .f32⟩
  | 10 => ⟨S8x4096x2048, .f32⟩
  | 11 => ⟨S8x4096x1024, .f32⟩
  | 12 => ⟨S8x4096x8x2x64, .f32⟩
  | 13 => ⟨S8x4096x3072, .f32⟩
  | 14 => ⟨S8x4096x1024, .f32⟩
  | 15 => ⟨S8x4096x8x2x64, .f32⟩
  | 16 => ⟨S8x4096x1024, .f32⟩
  | 17 => ⟨S8x4096x8x128, .f32⟩
  | 18 => ⟨S64, .f32⟩
  | 19 => ⟨S_, .f32⟩
  | 20 => ⟨S_, .f32⟩
  | 21 => ⟨S_, .f32⟩
  | 22 => ⟨S64, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S8x8x2x4096x64, .f32⟩
  | 30 => ⟨S8x8x2x4096x64, .f32⟩
  | 31 => ⟨S8x8x4096x128, .f32⟩
  | 32 => ⟨S4096, .i32⟩
  | 33 => ⟨S4096x1, .i32⟩
  | 34 => ⟨S1x4096, .i32⟩
  | 35 => ⟨S4096x4096, .i32⟩
  | 36 => ⟨S4096x4096, .i32⟩
  | 37 => ⟨S4096x4096, .i32⟩
  | 38 => ⟨S_, .i32⟩
  | 39 => ⟨S4096x4096, .i32⟩
  | 40 => ⟨S4096x4096, .i32⟩
  | 41 => ⟨S_, .i32⟩
  | 42 => ⟨S4096x4096, .i32⟩
  | 43 => ⟨S4096x4096, .i32⟩
  | 44 => ⟨S4096x4096, .f32⟩
  | 45 => ⟨S_, .f32⟩
  | 46 => ⟨S4096x4096, .f32⟩
  | 47 => ⟨S4096x4096, .f32⟩
  | 48 => ⟨S4096x4096, .f32⟩
  | 49 => ⟨S_, .f32⟩
  | 50 => ⟨S4096x4096, .f32⟩
  | 51 => ⟨S4096x4096, .f32⟩
  | 52 => ⟨S_, .f32⟩
  | 53 => ⟨S4096x4096, .f32⟩
  | 54 => ⟨S4096x4096, .f32⟩
  | 55 => ⟨S4096x4096, .i32⟩
  | 56 => ⟨S_, .i32⟩
  | 57 => ⟨S4096x4096, .i32⟩
  | 58 => ⟨S4096x4096, .i32⟩
  | 59 => ⟨S_, .i32⟩
  | 60 => ⟨S4096x4096, .i32⟩
  | 61 => ⟨S4096x4096, .i32⟩
  | 62 => ⟨S_, .i32⟩
  | 63 => ⟨S4096x4096, .i32⟩
  | 64 => ⟨S4096x4096, .i1⟩
  | 65 => ⟨S4096x4096, .i32⟩
  | 66 => ⟨S_, .i32⟩
  | 67 => ⟨S4096x4096, .i32⟩
  | 68 => ⟨S4096x4096, .i1⟩
  | 69 => ⟨S_, .i32⟩
  | 70 => ⟨S4096x4096, .i32⟩
  | 71 => ⟨S4096x4096, .i32⟩
  | 72 => ⟨S4096x4096, .i32⟩
  | 73 => ⟨S4096x4096x1, .i32⟩
  | 74 => ⟨S4096x4096x8, .f32⟩
  | 75 => ⟨S8x4096x4096, .f32⟩
  | 76 => ⟨S8x8x2x4096x4096, .f32⟩
  | 77 => ⟨S_, .f32⟩
  | 78 => ⟨S8x8x2x4096x4096, .f32⟩
  | 79 => ⟨S8x8x2x4096x4096, .f32⟩
  | 80 => ⟨S1x8x1x4096x4096, .f32⟩
  | 81 => ⟨S8x8x2x4096x4096, .f32⟩
  | 82 => ⟨S8x8x2x4096x4096, .f32⟩
  | 83 => ⟨S_, .i32⟩
  | 84 => ⟨S4096x4096, .i32⟩
  | 85 => ⟨S4096x4096, .i1⟩
  | 86 => ⟨S1x1x1x4096x4096, .i1⟩
  | 87 => ⟨S_, .f32⟩
  | 88 => ⟨S_, .f32⟩
  | 89 => ⟨S8x8x2x4096x4096, .i1⟩
  | 90 => ⟨S8x8x2x4096x4096, .f32⟩
  | 91 => ⟨S8x8x2x4096x4096, .f32⟩
  | 92 => ⟨S_, .f32⟩
  | 93 => ⟨S8x8x2x4096, .f32⟩
  | 94 => ⟨S_, .f32⟩
  | 95 => ⟨S8x8x2x4096, .f32⟩
  | 96 => ⟨S8x8x2x4096, .f32⟩
  | 97 => ⟨S8x8x2x4096x1, .f32⟩
  | 98 => ⟨S8x8x2x4096x4096, .f32⟩
  | 99 => ⟨S8x8x2x4096x4096, .f32⟩
  | 100 => ⟨S8x8x2x4096x4096, .f32⟩
  | 101 => ⟨S_, .f32⟩
  | 102 => ⟨S8x8x2x4096, .f32⟩
  | 103 => ⟨S8x8x2x4096x1, .f32⟩
  | 104 => ⟨S8x8x2x4096x4096, .f32⟩
  | 105 => ⟨S8x8x2x4096x4096, .f32⟩
  | 106 => ⟨S8x8x1x4096x4096, .f32⟩
  | 107 => ⟨S8x8x4096x4096, .f32⟩
  | 108 => ⟨S8x8x1x4096x4096, .f32⟩
  | 109 => ⟨S8x8x4096x4096, .f32⟩
  | 110 => ⟨S8x8x4096x4096, .f32⟩
  | 111 => ⟨S8x8x4096x4096, .f32⟩
  | 112 => ⟨S8x8x4096x4096, .f32⟩
  | 113 => ⟨S8x8x128x4096, .f32⟩
  | 114 => ⟨S8x4096x8x128, .f32⟩
  | 115 => ⟨S8x4096x8x128, .f32⟩
  | 116 => ⟨S_, .f32⟩
  | 117 => ⟨S8x4096x8, .f32⟩
  | 118 => ⟨S8x4096x8x1, .f32⟩
  | 119 => ⟨S_, .f32⟩
  | 120 => ⟨S8x4096x8x1, .f32⟩
  | 121 => ⟨S8x4096x8x1, .f32⟩
  | 122 => ⟨S_, .f32⟩
  | 123 => ⟨S8x4096x8x1, .f32⟩
  | 124 => ⟨S8x4096x8x1, .f32⟩
  | 125 => ⟨S8x4096x8x1, .f32⟩
  | 126 => ⟨S8x4096x8x128, .f32⟩
  | 127 => ⟨S8x4096x8x128, .f32⟩
  | _ => ⟨S2048x32768, .bf16⟩

abbrev hbmTy0_1 (i : Nat) : BufTy := match i % 128 with
  | 0 => ⟨S1x1x1x128, .f32⟩
  | 1 => ⟨S8x4096x8x128, .f32⟩
  | 2 => ⟨S8x4096x8x128, .f32⟩
  | 3 => ⟨S_, .f32⟩
  | 4 => ⟨S8x4096x8x128, .f32⟩
  | 5 => ⟨S8x4096x8x128, .f32⟩
  | 6 => ⟨S8x4096x1024, .f32⟩
  | 7 => ⟨S8x4096x1024, .bf16⟩
  | _ => ⟨S2048x32768, .bf16⟩

abbrev hbmTy (i : Nat) : BufTy := match i / 128 with
  | 0 => hbmTy0_0 i
  | 1 => hbmTy0_1 i
  | _ => ⟨S2048x32768, .bf16⟩

abbrev bufTy : (tb : Table) → Fin (tcTables nBuf tb) → BufTy
  | .hbm, ⟨i, _⟩ => hbmTy i
  | _, _ => ⟨S2048x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_v27 : Ref sig .tc := ⟨.hbm, 39, rfl⟩
abbrev main_v28 : Ref sig .tc := ⟨.hbm, 40, rfl⟩
abbrev main_c_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_cst_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_17 : Ref sig .tc := ⟨.hbm, 116, rfl⟩
abbrev main_v86 : Ref sig .tc := ⟨.hbm, 117, rfl⟩
abbrev main_v87 : Ref sig .tc := ⟨.hbm, 118, rfl⟩
abbrev main_cst_18 : Ref sig .tc := ⟨.hbm, 119, rfl⟩
abbrev main_v88 : Ref sig .tc := ⟨.hbm, 120, rfl⟩
abbrev main_v89 : Ref sig .tc := ⟨.hbm, 121, rfl⟩
abbrev main_cst_19 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_20 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩

abbrev nD : Nat := 1
abbrev τ : Topo := Topo.v7x

variable {F : FTy → Type} [FloatOps F]
-- ==== Kernel2.lean ====
abbrev S8x4096x2048 : Shape := ⟨3, ![8, 4096, 2048]⟩
abbrev S1x2048x5120 : Shape := ⟨3, ![1, 2048, 5120]⟩
abbrev S32768x2048 : Shape := ⟨2, ![32768, 2048]⟩
abbrev S2048x5120 : Shape := ⟨2, ![2048, 5120]⟩
abbrev S2048x1024 : Shape := ⟨2, ![2048, 1024]⟩
abbrev S2048x2048 : Shape := ⟨2, ![2048, 2048]⟩
abbrev S2048x3072 : Shape := ⟨2, ![2048, 3072]⟩
abbrev S32768x3072 : Shape := ⟨2, ![32768, 3072]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 9
  | .vmem => 7
  | .smem => 0
  | _ => 0

abbrev bufTy : (tb : Table) → Fin (tcTables nBuf tb) → BufTy
  | .hbm, ⟨0, _⟩ => ⟨S8x4096x2048, .f32⟩
  | .hbm, ⟨1, _⟩ => ⟨S1x2048x5120, .f32⟩
  | .hbm, ⟨2, _⟩ => ⟨S32768x2048, .f32⟩
  | .hbm, ⟨3, _⟩ => ⟨S2048x5120, .f32⟩
  | .hbm, ⟨4, _⟩ => ⟨S2048x5120, .bf16⟩
  | .hbm, ⟨5, _⟩ => ⟨S2048x1024, .bf16⟩
  | .hbm, ⟨6, _⟩ => ⟨S2048x2048, .bf16⟩
  | .hbm, ⟨7, _⟩ => ⟨S2048x3072, .bf16⟩
  | .hbm, ⟨8, _⟩ => ⟨S32768x3072, .bf16⟩
  | .local _ .vmem, ⟨0, _⟩ => ⟨S1024x2048, .f32⟩
  | .local _ .vmem, ⟨1, _⟩ => ⟨S1024x2048, .f32⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8x4096x2048 : Shape := ⟨3, ![8, 4096, 2048]⟩
abbrev S1x2048x5120 : Shape := ⟨3, ![1, 2048, 5120]⟩
abbrev S2048x5120 : Shape := ⟨2, ![2048, 5120]⟩
abbrev S8x4096x5120 : Shape := ⟨3, ![8, 4096, 5120]⟩
abbrev S8x4096x1024 : Shape := ⟨3, ![8, 4096, 1024]⟩
abbrev S8x4096x3072 : Shape := ⟨3, ![8, 4096, 3072]⟩
abbrev S32768x3072 : Shape := ⟨2, ![32768, 3072]⟩

abbrev nBuf : Space → Nat
  | .hbm => 9
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S1x2048x5120, .f32⟩
  | .hbm, ⟨2, _⟩ => ⟨S2048x5120, .f32⟩
  | .hbm, ⟨3, _⟩ => ⟨S8x4096x5120, .f32⟩
  | .hbm, ⟨4, _⟩ => ⟨S8x4096x1024, .f32⟩
  | .hbm, ⟨5, _⟩ => ⟨S8x4096x2048, .f32⟩
  | .hbm, ⟨6, _⟩ => ⟨S8x4096x3072, .f32⟩
  | .hbm, ⟨7, _⟩ => ⟨S32768x3072, .f32⟩
  | .hbm, ⟨8, _⟩ => ⟨S32768x3072, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel3.lean ====
abbrev S8x4096x2048 : Shape := ⟨3, ![8, 4096, 2048]⟩
abbrev S1x2048x5120 : Shape := ⟨3, ![1, 2048, 5120]⟩
abbrev S32768x2048 : Shape := ⟨2, ![32768, 2048]⟩
abbrev S2048x5120 : Shape := ⟨2, ![2048, 5120]⟩
abbrev S2048x1024 : Shape := ⟨2, ![2048, 1024]⟩
abbrev S2048x2048 : Shape := ⟨2, ![2048, 2048]⟩
abbrev S2048x32768 : Shape := ⟨2, ![2048, 32768]⟩
abbrev S512x2048 : Shape := ⟨2, ![512, 2048]⟩
abbrev S2048x512 : Shape := ⟨2, ![2048, 512]⟩

abbrev nBuf : Space → Nat
  | .hbm => 10
  | .vmem => 6
  | .smem => 0
  | _ => 0

abbrev bufTy : (tb : Table) → Fin (tcTables nBuf tb) → BufTy
  | .hbm, ⟨0, _⟩ => ⟨S8x4096x2048, .f32⟩
  | .hbm, ⟨1, _⟩ => ⟨S1x2048x5120, .f32⟩
  | .hbm, ⟨2, _⟩ => ⟨S32768x2048, .f32⟩
  | .hbm, ⟨3, _⟩ => ⟨S2048x5120, .f32⟩
  | .hbm, ⟨4, _⟩ => ⟨S2048x5120, .bf16⟩
  | .hbm, ⟨5, _⟩ => ⟨S2048x1024, .bf16⟩
  | .hbm, ⟨6, _⟩ => ⟨S2048x1024, .bf16⟩
  | .hbm, ⟨7, _⟩ => ⟨S2048x2048, .bf16⟩
  | .hbm, ⟨8, _⟩ => ⟨S2048x2048, .bf16⟩
  | .hbm, ⟨9, _⟩ => ⟨S2048x32768, .bf16⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8x4096x2048 : Shape := ⟨3, ![8, 4096, 2048]⟩
abbrev S1x2048x5120 : Shape := ⟨3, ![1, 2048, 5120]⟩
abbrev S2048x5120 : Shape := ⟨2, ![2048, 5120]⟩
abbrev S8x4096x5120 : Shape := ⟨3, ![8, 4096, 5120]⟩
abbrev S8x4096x1024 : Shape := ⟨3, ![8, 4096, 1024]⟩
abbrev S32768x2048 : Shape := ⟨2, ![32768, 2048]⟩
abbrev S2048x32768 : Shape := ⟨2, ![2048, 32768]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S1x2048x5120, .f32⟩
  | .hbm, ⟨2, _⟩ => ⟨S2048x5120, .f32⟩
  | .hbm, ⟨3, _⟩ => ⟨S8x4096x5120, .f32⟩
  | .hbm, ⟨4, _⟩ => ⟨S8x4096x1024, .f32⟩
  | .hbm, ⟨5, _⟩ => ⟨S8x4096x1024, .f32⟩
  | .hbm, ⟨6, _⟩ => ⟨S8x4096x2048, .f32⟩
  | .hbm, ⟨7, _⟩ => ⟨S32768x2048, .f32⟩
  | .hbm, ⟨8, _⟩ => ⟨S2048x32768, .f32⟩
  | .hbm, ⟨9, _⟩ => ⟨S2048x32768, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel4.lean ====
abbrev S8x4096x1024 : Shape := ⟨3, ![8, 4096, 1024]⟩
abbrev S1x2048x2048 : Shape := ⟨3, ![1, 2048, 2048]⟩
abbrev S8x4096x2048 : Shape := ⟨3, ![8, 4096, 2048]⟩
abbrev S1x2048 : Shape := ⟨2, ![1, 2048]⟩
abbrev S32768x2048 : Shape := ⟨2, ![32768, 2048]⟩
abbrev S32768x1024 : Shape := ⟨2, ![32768, 1024]⟩
abbrev S2048x2048 : Shape := ⟨2, ![2048, 2048]⟩
abbrev S2048 : Shape := ⟨1, ![2048]⟩
abbrev S1024x2048 : Shape := ⟨2, ![1024, 2048]⟩
abbrev S2048x32768 : Shape := ⟨2, ![2048, 32768]⟩
abbrev S512x1024 : Shape := ⟨2, ![512, 1024]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 20
  | .vmem => 16
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S1x2048x2048, .f32⟩
  | .hbm, ⟨3, _⟩ => ⟨S8x4096x2048, .f32⟩
  | .hbm, ⟨4, _⟩ => ⟨S1x2048, .f32⟩
  | .hbm, ⟨5, _⟩ => ⟨S1x2048, .f32⟩
  | .hbm, ⟨6, _⟩ => ⟨S32768x2048, .f32⟩
  | .hbm, ⟨7, _⟩ => ⟨S32768x1024, .bf16⟩
  | .hbm, ⟨8, _⟩ => ⟨S32768x1024, .bf16⟩
  | .hbm, ⟨9, _⟩ => ⟨S2048x2048, .f32⟩
  | .hbm, ⟨10, _⟩ => ⟨S2048x2048, .bf16⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S1024x2048, .bf16⟩
  | .hbm, ⟨16, _⟩ => ⟨S1024x2048, .bf16⟩
  | .hbm, ⟨17, _⟩ => ⟨S32768x2048, .f32⟩
  | .hbm, ⟨18, _⟩ => ⟨S32768x2048, .bf16⟩
  | .hbm, ⟨19, _⟩ => ⟨S2048x32768, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S2048x512, .bf16⟩
  | .local _ .vmem, ⟨15, _⟩ => ⟨S2048x512, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S8x4096x1024 : Shape := ⟨3, ![8, 4096, 1024]⟩
abbrev S1x2048x2048 : Shape := ⟨3, ![1, 2048, 2048]⟩
abbrev S8x4096x2048 : Shape := ⟨3, ![8, 4096, 2048]⟩
abbrev S1x2048 : Shape := ⟨2, ![1, 2048]⟩
abbrev S2048x2048 : Shape := ⟨2, ![2048, 2048]⟩
abbrev S_ : Shape := ⟨0, ![]⟩
abbrev S8x4096 : Shape := ⟨2, ![8, 4096]⟩
abbrev S8x4096x1 : Shape := ⟨3, ![8, 4096, 1]⟩
abbrev S2048 : Shape := ⟨1, ![2048]⟩
abbrev S1x1x2048 : Shape := ⟨3, ![1, 1, 2048]⟩
abbrev S32768x2048 : Shape := ⟨2, ![32768, 2048]⟩
abbrev S2048x32768 : Shape := ⟨2, ![2048, 32768]⟩

abbrev nBuf : Space → Nat
  | .hbm => 49
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S1x2048x2048, .f32⟩
  | .hbm, ⟨3, _⟩ => ⟨S8x4096x2048, .f32⟩
  | .hbm, ⟨4, _⟩ => ⟨S1x2048, .f32⟩
  | .hbm, ⟨5, _⟩ => ⟨S1x2048, .f32⟩
  | .hbm, ⟨6, _⟩ => ⟨S8x4096x2048, .bf16⟩
  | .hbm, ⟨7, _⟩ => ⟨S8x4096x2048, .f32⟩
  | .hbm, ⟨8, _⟩ => ⟨S2048x2048, .f32⟩
  | .hbm, ⟨9, _⟩ => ⟨S8x4096x2048, .f32⟩
  | .hbm, ⟨10, _⟩ => ⟨S_, .f32⟩
  | .hbm, ⟨11, _⟩ => ⟨S8x4096x2048, .f32⟩
  | .hbm, ⟨12, _⟩ => ⟨S8x4096x2048, .f32⟩
  | .hbm, ⟨13, _⟩ => ⟨S8x4096x2048, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x2048, .f32⟩
  | .hbm, ⟨21, _⟩ => ⟨S8x4096x2048, .f32⟩
  | .hbm, ⟨22, _⟩ => ⟨S8x4096x2048, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x2048, .f32⟩
  | .hbm, ⟨30, _⟩ => ⟨S8x4096x2048, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S8x4096x1, .f32⟩
  | .hbm, ⟨35, _⟩ => ⟨S8x4096x2048, .f32⟩
  | .hbm, ⟨36, _⟩ => ⟨S8x4096x2048, .f32⟩
  | .hbm, ⟨37, _⟩ => ⟨S2048, .f32⟩
  | .hbm, ⟨38, _⟩ => ⟨S1x1x2048, .f32⟩
  | .hbm, ⟨39, _⟩ => ⟨S8x4096x2048, .f32⟩
  | .hbm, ⟨40, _⟩ => ⟨S8x4096x2048, .f32⟩
  | .hbm, ⟨41, _⟩ => ⟨S2048, .f32⟩
  | .hbm, ⟨42, _⟩ => ⟨S1x1x2048, .f32⟩
  | .hbm, ⟨43, _⟩ => ⟨S8x4096x2048, .f32⟩
  | .hbm, ⟨44, _⟩ => ⟨S8x4096x2048, .f32⟩
  | .hbm, ⟨45, _⟩ => ⟨S32768x2048, .f32⟩
  | .hbm, ⟨46, _⟩ => ⟨S32768x2048, .bf16⟩
  | .hbm, ⟨47, _⟩ => ⟨S2048x32768, .f32⟩
  | .hbm, ⟨48, _⟩ => ⟨S2048x32768, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Steps.lean ====
/- The attention body as a few blocks of memory operations: the scores of a tile, the weighted sum of the
   values, the running maximum of a channel, the tile of exponentials. Each block is written with its
   continuation, its rows by recursion on how many are left. -/
module

public import proofs.«01_k».proof.Proof.Gen.KernelIdeal

@[expose] public section

noncomputable section

namespace Cert.Attn

open Idealize.ShloMosaic Idealize.SL.Sem
open Cert.KernelIdeal
open Cert.KernelIdeal.Facts₀ Cert.KernelIdeal.Facts

variable {F : FTy → Type} [FloatOps F]

/-- A program of the body, with result `β`. -/
abbrev PG (F : FTy → Type) (β : Type) := Prog (TpuEff nD τ sig (Elt F) Λ₀ .tc) β

variable {β : Type}

theorem inb8 (c : Fin 2) {j : ℕ} (h : j < 64) : ∀ a, (![c.val, 8 * j, 0] : Fin 3 → ℕ) a + S1x8x512.size a ≤ S2x512x512.size a := by
  have := c.isLt
  intro a; match a with
  | 0 => show c.val + 1 ≤ 2; omega
  | 1 => show 8 * j + 8 ≤ 512; omega
  | 2 => show 0 + 512 ≤ 512; omega

theorem inb16 (c : Fin 2) {j : ℕ} (h : j < 32) : ∀ a, (![c.val, 16 * j, 0] : Fin 3 → ℕ) a + S1x16x512.size a ≤ S2x512x512.size a := by
  have := c.isLt
  intro a; match a with
  | 0 => show c.val + 1 ≤ 2; omega
  | 1 => show 16 * j + 16 ≤ 512; omega
  | 2 => show 0 + 512 ≤ 512; omega

theorem inbB8 (b : Fin 2) {j : ℕ} (h : j < 64) : ∀ a, (![0, b.val, 8 * j, 0] : Fin 4 → ℕ) a + S1x1x8x512.size a ≤ S1x2x512x512.size a := by
  have := b.isLt
  intro a; match a with
  | 0 => show 0 + 1 ≤ 1; omega
  | 1 => show b.val + 1 ≤ 2; omega
  | 2 => show 8 * j + 8 ≤ 512; omega
  | 3 => show 0 + 512 ≤ 512; omega

theorem inbB16 (b : Fin 2) {j : ℕ} (h : j < 32) : ∀ a, (![0, b.val, 16 * j, 0] : Fin 4 → ℕ) a + S1x1x16x512.size a ≤ S1x2x512x512.size a := by
  have := b.isLt
  intro a; match a with
  | 0 => show 0 + 1 ≤ 1; omega
  | 1 => show b.val + 1 ≤ 2; omega
  | 2 => show 16 * j + 16 ≤ 512; omega
  | 3 => show 0 + 512 ≤ 512; omega

theorem inbS (c : Fin 2) : ∀ a, (![c.val, 0, 0] : Fin 3 → ℕ) a + S1x512x512.size a ≤ S2x512x512.size a := by
  have := c.isLt
  intro a; match a with
  | 0 => show c.val + 1 ≤ 2; omega
  | 1 => show 0 + 512 ≤ 512; omega
  | 2 => show 0 + 512 ≤ 512; omega

theorem inbA (c : Fin 2) : ∀ a, (![c.val, 0, 0] : Fin 3 → ℕ) a + S1x144x512.size a ≤ S2x144x512.size a := by
  have := c.isLt
  intro a; match a with
  | 0 => show c.val + 1 ≤ 2; omega
  | 1 => show 0 + 144 ≤ 144; omega
  | 2 => show 0 + 512 ≤ 512; omega

theorem packed16 (c : Fin 2) {j : ℕ} (h : j < 32) :
    (Rect.unit (s := S2x512x512) ![c.val, 16 * j, 0] S1x16x512.size (inb16 c h)).PackedRows (EltTy.packing .bf16) :=
  .inr ⟨by decide, rfl, .inl ⟨⟨8 * j, by show 16 * j = 2 * (8 * j); omega⟩, ⟨8, rfl⟩⟩⟩

section blocks

variable (s : Memref sig .tc .vmem S2x512x512 .f32) (p : Memref sig .tc .vmem S2x512x512 .bf16) (hp : p.IsWhole)
  (bm : Memref sig .tc .vmem S1x2x512x512 .f32) (b : Option (Fin 2)) (c : Fin 2)

/-- Eight rows of a channel's scores, the bias tile's rows added where the step has one. -/
def row8 (j : ℕ) (hj : j < 64) (k : FVec F S8x512 .f32 → PG F β) : PG F β :=
  .op (.load s (Rect.unit (s := S2x512x512) ![c.val, 8 * j, 0] S1x8x512.size (inb8 c hj)).toLoadRect (View.loadsAt_vmem h_S1x8x512)) fun v =>
    match b with
    | none => k (shapeCast S8x512 v shapeCasts_S1x8x512_S8x512)
    | some b => .op (.load bm (Rect.unit (s := S1x2x512x512) ![0, b.val, 8 * j, 0] S1x1x8x512.size (inbB8 b hj)).toLoadRect (View.loadsAt_vmem h_S1x1x8x512)) fun w =>
        k (addf (shapeCast S8x512 v shapeCasts_S1x8x512_S8x512) (shapeCast S8x512 w shapeCasts_S1x1x8x512_S8x512))

/-- Sixteen rows of them. -/
def row16 (j : ℕ) (hj : j < 32) (k : FVec F S16x512 .f32 → PG F β) : PG F β :=
  .op (.load s (Rect.unit (s := S2x512x512) ![c.val, 16 * j, 0] S1x16x512.size (inb16 c hj)).toLoadRect (View.loadsAt_vmem h_S1x16x512)) fun v =>
    match b with
    | none => k (shapeCast S16x512 v shapeCasts_S1x16x512_S16x512)
    | some b => .op (.load bm (Rect.unit (s := S1x2x512x512) ![0, b.val, 16 * j, 0] S1x1x16x512.size (inbB16 b hj)).toLoadRect (View.loadsAt_vmem h_S1x1x16x512)) fun w =>
        k (addf (shapeCast S16x512 v shapeCasts_S1x16x512_S16x512) (shapeCast S16x512 w shapeCasts_S1x1x16x512_S16x512))

/-- The maximum of what is carried and the `n` groups of rows from `j` on. -/
def maxRest : (n j : ℕ) → j + n ≤ 64 → FVec F S8x512 .f32 → (FVec F S8x512 .f32 → PG F β) → PG F β
  | 0, _, _, a, k => k a
  | n + 1, j, h, a, k => row8 s bm b c j (by omega) fun x => maxRest n (j + 1) (by omega) (maximumf a x) k

/-- The exponentials of the `n` groups of sixteen rows from `j` on, over the maxima `m16`. -/
def expRest (m16 : FVec F S16x512 .f32) : (n j : ℕ) → j + n ≤ 32 → PG F β → PG F β
  | 0, _, _, k => k
  | n + 1, j, h, k => row16 s bm b c j (by omega) fun x =>
      .op (.load p (Rect.unit (s := S2x512x512) ![c.val, 16 * j, 0] S1x16x512.size (inb16 c (by omega))).toLoadRect (View.loadsAt_vmem h_S1x16x512)) fun _ =>
      .op (.store p (Rect.unit (s := S2x512x512) ![c.val, 16 * j, 0] S1x16x512.size (inb16 c (by omega)))
        (shapeCast S1x16x512 (truncf .bf16 (exp2 (subf x m16)) bitsLt_bf16_f32) shapeCasts_S16x512_S1x16x512) Finset.univ
        (View.stores_vmem h_S1x16x512 (hp.storeExact_slice rfl _ (packed16 c (by omega))) (fun _ => rfl)) (.inl rfl)) fun _ =>
      expRest m16 n (j + 1) (by omega) k

/-- The maximum over eight sublanes, in every one of them. -/
def rollMax (x : FVec F S8x512 .f32) : FVec F S8x512 .f32 :=
  have v380 : FVec F S8x512 .f32 := maximumf x (dynamicRotate 0 4#32 none x rotates_S8x512_d0)
  have v382 : FVec F S8x512 .f32 := maximumf v380 (dynamicRotate 0 2#32 none v380 rotates_S8x512_d0)
  maximumf v382 (dynamicRotate 0 1#32 none v382 rotates_S8x512_d0)

/-- Eight sublanes twice. -/
def twice (x : FVec F S8x512 .f32) : FVec F S16x512 .f32 :=
  concatenate S16x512 0 [⟨S8x512, x⟩, ⟨S8x512, x⟩] concatenates_S8x512_S8x512_S16x512_d0

/-- One channel of a step: its new maximum, its tile of exponentials. -/
def chanK (mo : FVec F S8x512 .f32) (k : FVec F S8x512 .f32 → PG F β) : PG F β :=
  row8 s bm b c 0 (by decide) fun x => maxRest s bm b c 63 1 (by decide) x fun m8 =>
    expRest s p hp bm b c (twice (maximumf mo (rollMax m8))) 32 0 (by decide) (k (maximumf mo (rollMax m8)))

end blocks

section prods

variable (km : Memref sig .tc .vmem S1x4096x128 .bf16) (vx : Memref sig .tc .vmem S1x144x4096 .bf16)
  (s : Memref sig .tc .vmem S2x512x512 .f32) (p : Memref sig .tc .vmem S2x512x512 .bf16)
  (ac : Memref sig .tc .vmem S2x144x512 .f32)

/-- The scores of one channel from the keys `kj`. -/
def scoreOf (kj : Vec F S1x512x128 .bf16) (q : FVec F S128x512 .bf16) : FVec F S1x512x512 .f32 :=
  shapeCast S1x512x512 (matmul dot_S512x128_S128x512_S512x512_1_0_0_1_n_n none
    (shapeCast S512x128 kj shapeCasts_S1x512x128_S512x128 : FVec F S512x128 .bf16) q (constant S512x512 .f32 0x00000000#32)) shapeCasts_S512x512_S1x512x512

/-- Both channels' scores of the key tile at `off`. -/
def qkK (off : Fin 3 → ℕ) (h : ∀ a, off a + S1x512x128.size a ≤ S1x4096x128.size a) (q0 q1 : FVec F S128x512 .bf16) (k : PG F β) : PG F β :=
  .op (.load km (Rect.unit (s := S1x4096x128) off S1x512x128.size h).toLoadRect (View.loadsAt_vmem h_S1x512x128)) fun kj =>
  .op (.load s (Rect.unit (s := S2x512x512) ![(0 : Fin 2).val, 0, 0] S1x512x512.size (inbS 0)).toLoadRect (View.loadsAt_vmem h_S1x512x512)) fun _ =>
  .op (.store s (Rect.unit (s := S2x512x512) ![(0 : Fin 2).val, 0, 0] S1x512x512.size (inbS 0)) (scoreOf kj q0) Finset.univ (View.stores_vmem_bits_univ h_S1x512x512 rfl) (.inl rfl)) fun _ =>
  .op (.load s (Rect.unit (s := S2x512x512) ![(1 : Fin 2).val, 0, 0] S1x512x512.size (inbS 1)).toLoadRect (View.loadsAt_vmem h_S1x512x512)) fun _ =>
  .op (.store s (Rect.unit (s := S2x512x512) ![(1 : Fin 2).val, 0, 0] S1x512x512.size (inbS 1)) (scoreOf kj q1) Finset.univ (View.stores_vmem_bits_univ h_S1x512x512 rfl) (.inl rfl)) fun _ =>
  k

/-- One channel's sum scaled by `al` and added the products of the values with the exponentials. -/
def accOf (a : Vec F S1x144x512 .f32) (al : FVec F S8x512 .f32) (v : Vec F S1x144x512 .bf16) (pt : Vec F S1x512x512 .bf16) : FVec F S1x144x512 .f32 :=
  shapeCast S1x144x512 (addf
    (shapeCast S144x512 (mulf (shapeCast S18x8x512 (shapeCast S144x512 a shapeCasts_S1x144x512_S144x512 : FVec F S144x512 .f32) shapeCasts_S144x512_S18x8x512 : FVec F S18x8x512 .f32)
      (broadcastTo S18x8x512 (shapeCast S1x8x512 al shapeCasts_S8x512_S1x8x512 : FVec F S1x8x512 .f32) broadcasts_S1x8x512_S18x8x512)) shapeCasts_S18x8x512_S144x512 : FVec F S144x512 .f32)
    (matmul dot_S144x512_S512x512_S144x512_1_0_0_1_n_n none (shapeCast S144x512 v shapeCasts_S1x144x512_S144x512 : FVec F S144x512 .bf16)
      (shapeCast S512x512 pt shapeCasts_S1x512x512_S512x512 : FVec F S512x512 .bf16) (constant S144x512 .f32 0x00000000#32))) shapeCasts_S144x512_S1x144x512

/-- One channel's step of the sum of values. -/
def pv1K (c : Fin 2) (off : Fin 3 → ℕ) (h : ∀ a, off a + S1x144x512.size a ≤ S1x144x4096.size a) (al : FVec F S8x512 .f32) (k : PG F β) : PG F β :=
  .op (.load ac (Rect.unit (s := S2x144x512) ![c.val, 0, 0] S1x144x512.size (inbA c)).toLoadRect (View.loadsAt_vmem h_S1x144x512)) fun a =>
  .op (.load vx (Rect.unit (s := S1x144x4096) off S1x144x512.size h).toLoadRect (View.loadsAt_vmem h_S1x144x512)) fun v =>
  .op (.load p (Rect.unit (s := S2x512x512) ![c.val, 0, 0] S1x512x512.size (inbS c)).toLoadRect (View.loadsAt_vmem h_S1x512x512)) fun pt =>
  .op (.load ac (Rect.unit (s := S2x144x512) ![c.val, 0, 0] S1x144x512.size (inbA c)).toLoadRect (View.loadsAt_vmem h_S1x144x512)) fun _ =>
  .op (.store ac (Rect.unit (s := S2x144x512) ![c.val, 0, 0] S1x144x512.size (inbA c)) (accOf a al v pt) Finset.univ (View.stores_vmem_bits_univ h_S1x144x512 rfl) (.inl rfl)) fun _ =>
  k

/-- Both channels'. -/
def pvK (off : Fin 3 → ℕ) (h : ∀ a, off a + S1x144x512.size a ≤ S1x144x4096.size a) (al0 al1 : FVec F S8x512 .f32) (k : PG F β) : PG F β :=
  pv1K vx p ac 0 off h al0 (pv1K vx p ac 1 off h al1 k)

/-- What a step hands to the next: both channels' maxima and scalings. -/
abbrev St (F : FTy → Type) := FVec F S8x512 .f32 × FVec F S8x512 .f32 × FVec F S8x512 .f32 × FVec F S8x512 .f32

/-- A step after its scores: the previous tile's products, then both channels. -/
def stepK (bm : Memref sig .tc .vmem S1x2x512x512 .f32) (po : Memref sig .tc .vmem S2x512x512 .bf16) (hp : p.IsWhole) (b : Option (Fin 2))
    (off : Fin 3 → ℕ) (h : ∀ a, off a + S1x144x512.size a ≤ S1x144x4096.size a) (st : St F) (k : St F → PG F β) : PG F β :=
  pvK vx po ac off h st.2.2.1 st.2.2.2 <|
  chanK s p hp bm b 0 st.1 fun m0 => chanK s p hp bm b 1 st.2.1 fun m1 =>
  k (m0, m1, exp2 (subf st.1 m0), exp2 (subf st.2.1 m1))

end prods

end Cert.Attn
-- ==== Proof.Triples.lean ====
/- What each block of the attention body does to the buffers it works on: the contents it leaves, and the value it
   hands on, as functions of the contents it finds. -/
module

public import proofs.«01_k».proof.Proof.Steps
public import Idealize.ShloMosaic.Lib.Tactic
public import Idealize.ShloMosaic.Lib.VecWindow
public import Idealize.ShloMosaic.Lib.Pipeline.Kit

@[expose] public section

noncomputable section

namespace Cert.Attn

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow
open Cert.KernelIdeal
open Cert.KernelIdeal.Facts₀ Cert.KernelIdeal.Facts

variable {F : FTy → Type} [FloatOps F] [Named F]

local notation "𝕄" => MT nD τ sig Unit (Elt F) ℕ (UR sig nD τ) ℕ

/-- A buffer held whole, reading `X`. -/
abbrev ow (d : Dev nD) {sp : Space} {S : Shape} {e : EltTy} (m : Memref sig .tc sp S e) (X : S.Idx → Elt F e) : sProp 𝕄 :=
  owns (d.tc : Thread nD τ) m fullShare X

/-- The program `p` run to `Q`. -/
abbrev W {β : Type} (d : Dev nD) (Q : β → sProp 𝕄) (p : PG F β) : sProp 𝕄 :=
  wp frame (wpE (defs₀ (F := F)) Variants.none (d : Thread nD τ) none) Set.univ p Q

theorem ld {β : Type} (d : Dev nD) (Q : β → sProp 𝕄) {cs : CoreSpace} {S : Shape} {e : EltTy} (m : Memref sig .tc cs S e) (X : S.Idx → Elt F e) {off size : Fin S.rank → ℕ}
    (inb : ∀ a, off a + size a ≤ S.size a) (hl : m.view.LoadsAt (Rect.unit off size inb).toLoadRect)
    (k : ((Rect.unit off size inb).shape.Idx → Elt F e) → PG F β) :
    ow d m X ⊢ iprop((ow d m X -∗ W d Q (k (window X off size inb)))
      -∗ W d Q (.op (.load m (Rect.unit off size inb).toLoadRect hl) k)) := by
  unfold ow owns
  iintro ⟨%f, %hf, H⟩ Hk
  subst hf
  iapply (wp_load (defs := defs₀ (F := F)) Variants.none (d.tc : Thread nD τ) none Set.univ (S := m.view.set) (f := f) (q := fullShare)
    (m.view.setOn_subset_set _)) $$ H
  iintro H
  iapply Hk
  iexists f
  isplitr [H]
  · ipureintro; rfl
  · iexact H

theorem sto {β : Type} (d : Dev nD) (Q : β → sProp 𝕄) {cs : CoreSpace} {S : Shape} {e : EltTy} (m : Memref sig .tc cs S e) (X : S.Idx → Elt F e) {off size : Fin S.rank → ℕ}
    (inb : ∀ a, off a + size a ≤ S.size a) (w : (Rect.unit off size inb).shape.Idx → Elt F e)
    (hx : (m.access (Rect.unit off size inb)).Stores Finset.univ)
    (hm : Finset.univ = Finset.univ ∨ ∀ a, (Rect.unit off size inb).stride a = 1)
    (k : PUnit → PG F β) :
    ow d m X ⊢ iprop((ow d m (put X off size w) -∗ W d Q (k ⟨⟩))
      -∗ W d Q (.op (.store m (Rect.unit off size inb) w Finset.univ hx hm) k)) := by
  unfold ow owns
  iintro ⟨%f, %hf, H⟩ Hk
  subst hf
  iapply (wp_store_writes₀ (defs := defs₀ (F := F)) Variants.none (d.tc : Thread nD τ) none Set.univ (S := m.view.set) (f := f)
    ((m.view.set_slice_subset_setOn _).trans (m.view.setOn_subset_set _))) $$ H
  iintro H
  iapply Hk
  iexists _
  isplitr [H]
  · ipureintro
    exact (View.read_writes_cons_put m.view f inb w [] rfl).trans (by rw [View.writes_nil])
  · iexact H

/-! ## What the blocks compute -/

section model

/-- Eight rows of a channel's scores, a bias tile's rows added where there is one. -/
def row8V (S : Vec F S2x512x512 .f32) (B : Vec F S1x2x512x512 .f32) (b : Option (Fin 2)) (c : Fin 2) (j : ℕ) (hj : j < 64) : FVec F S8x512 .f32 :=
  match b with
  | none => shapeCast S8x512 (window S ![c.val, 8 * j, 0] S1x8x512.size (inb8 c hj) : Vec F S1x8x512 .f32) shapeCasts_S1x8x512_S8x512
  | some b => addf (shapeCast S8x512 (window S ![c.val, 8 * j, 0] S1x8x512.size (inb8 c hj) : Vec F S1x8x512 .f32) shapeCasts_S1x8x512_S8x512)
      (shapeCast S8x512 (window B ![0, b.val, 8 * j, 0] S1x1x8x512.size (inbB8 b hj) : Vec F S1x1x8x512 .f32) shapeCasts_S1x1x8x512_S8x512)

/-- Sixteen rows of them. -/
def row16V (S : Vec F S2x512x512 .f32) (B : Vec F S1x2x512x512 .f32) (b : Option (Fin 2)) (c : Fin 2) (j : ℕ) (hj : j < 32) : FVec F S16x512 .f32 :=
  match b with
  | none => shapeCast S16x512 (window S ![c.val, 16 * j, 0] S1x16x512.size (inb16 c hj) : Vec F S1x16x512 .f32) shapeCasts_S1x16x512_S16x512
  | some b => addf (shapeCast S16x512 (window S ![c.val, 16 * j, 0] S1x16x512.size (inb16 c hj) : Vec F S1x16x512 .f32) shapeCasts_S1x16x512_S16x512)
      (shapeCast S16x512 (window B ![0, b.val, 16 * j, 0] S1x1x16x512.size (inbB16 b hj) : Vec F S1x1x16x512 .f32) shapeCasts_S1x1x16x512_S16x512)

/-- The maximum of `a` and the `n` groups of eight rows from `j` on. -/
def maxV (S : Vec F S2x512x512 .f32) (B : Vec F S1x2x512x512 .f32) (b : Option (Fin 2)) (c : Fin 2) : (n j : ℕ) → j + n ≤ 64 → FVec F S8x512 .f32 → FVec F S8x512 .f32
  | 0, _, _, a => a
  | n + 1, j, h, a => maxV S B b c n (j + 1) (by omega) (maximumf a (row8V S B b c j (by omega)))

/-- The exponentials of sixteen rows over the maxima `m16`, rounded. -/
def exp16V (x m16 : FVec F S16x512 .f32) : Vec F S1x16x512 .bf16 :=
  shapeCast S1x16x512 (truncf .bf16 (exp2 (subf x m16)) bitsLt_bf16_f32) shapeCasts_S16x512_S1x16x512

/-- `P` with the exponentials of the `n` groups of sixteen rows from `j` on. -/
def expV (S : Vec F S2x512x512 .f32) (B : Vec F S1x2x512x512 .f32) (b : Option (Fin 2)) (c : Fin 2) (m16 : FVec F S16x512 .f32) :
    (n j : ℕ) → j + n ≤ 32 → Vec F S2x512x512 .bf16 → Vec F S2x512x512 .bf16
  | 0, _, _, P => P
  | n + 1, j, h, P => expV S B b c m16 n (j + 1) (by omega) (put P ![c.val, 16 * j, 0] S1x16x512.size (exp16V (row16V S B b c j (by omega)) m16))

/-- A channel's new maximum. -/
def chanM (S : Vec F S2x512x512 .f32) (B : Vec F S1x2x512x512 .f32) (b : Option (Fin 2)) (c : Fin 2) (mo : FVec F S8x512 .f32) : FVec F S8x512 .f32 :=
  maximumf mo (rollMax (maxV S B b c 63 1 (by decide) (row8V S B b c 0 (by decide))))

/-- `P` with a channel's exponentials. -/
def chanP (S : Vec F S2x512x512 .f32) (B : Vec F S1x2x512x512 .f32) (b : Option (Fin 2)) (c : Fin 2) (mo : FVec F S8x512 .f32) (P : Vec F S2x512x512 .bf16) : Vec F S2x512x512 .bf16 :=
  expV S B b c (twice (chanM S B b c mo)) 32 0 (by decide) P

/-- Both channels' scores of a key tile. -/
def qkV (kj : Vec F S1x512x128 .bf16) (q0 q1 : FVec F S128x512 .bf16) (S : Vec F S2x512x512 .f32) : Vec F S2x512x512 .f32 :=
  put (put S ![(0 : Fin 2).val, 0, 0] S1x512x512.size (scoreOf kj q0)) ![(1 : Fin 2).val, 0, 0] S1x512x512.size (scoreOf kj q1)

/-- One channel's step of the sum of values. -/
def pv1V (c : Fin 2) (v : Vec F S1x144x512 .bf16) (al : FVec F S8x512 .f32) (P : Vec F S2x512x512 .bf16) (A : Vec F S2x144x512 .f32) : Vec F S2x144x512 .f32 :=
  put A ![c.val, 0, 0] S1x144x512.size (accOf (window A ![c.val, 0, 0] S1x144x512.size (inbA c) : Vec F S1x144x512 .f32) al v
    (window P ![c.val, 0, 0] S1x512x512.size (inbS c) : Vec F S1x512x512 .bf16))

/-- Both channels'. -/
def pvV (v : Vec F S1x144x512 .bf16) (al0 al1 : FVec F S8x512 .f32) (P : Vec F S2x512x512 .bf16) (A : Vec F S2x144x512 .f32) : Vec F S2x144x512 .f32 :=
  pv1V 1 v al1 P (pv1V 0 v al0 P A)

/-- The maxima and scalings after a step. -/
def stepS (S : Vec F S2x512x512 .f32) (B : Vec F S1x2x512x512 .f32) (b : Option (Fin 2)) (st : St F) : St F :=
  (chanM S B b 0 st.1, chanM S B b 1 st.2.1, exp2 (subf st.1 (chanM S B b 0 st.1)), exp2 (subf st.2.1 (chanM S B b 1 st.2.1)))

/-- The exponentials a step leaves. -/
def stepP (S : Vec F S2x512x512 .f32) (B : Vec F S1x2x512x512 .f32) (b : Option (Fin 2)) (st : St F) (P : Vec F S2x512x512 .bf16) : Vec F S2x512x512 .bf16 :=
  chanP S B b 1 st.2.1 (chanP S B b 0 st.1 P)

end model

/-! ## The blocks -/

section blocks

variable (s : Memref sig .tc .vmem S2x512x512 .f32) (p : Memref sig .tc .vmem S2x512x512 .bf16) (hp : p.IsWhole)
  (bm : Memref sig .tc .vmem S1x2x512x512 .f32) (b : Option (Fin 2)) (c : Fin 2)
  (S : Vec F S2x512x512 .f32) (B : Vec F S1x2x512x512 .f32)

theorem t_row8 {β : Type} (d : Dev nD) (Q : β → sProp 𝕄) (j : ℕ) (hj : j < 64) (k : FVec F S8x512 .f32 → PG F β) :
    ow d s S ⊢ iprop(ow d bm B -∗ (ow d s S -∗ ow d bm B -∗ W d Q (k (row8V S B b c j hj))) -∗ W d Q (row8 s bm b c j hj k)) := by
  cases b with
  | none =>
    iintro Hs Hb Hk
    iapply (ld d Q s S (inb8 c hj) _ _) $$ Hs
    iintro Hs
    iapply Hk $$ Hs Hb
  | some b =>
    iintro Hs Hb Hk
    iapply (ld d Q s S (inb8 c hj) _ _) $$ Hs
    iintro Hs
    iapply (ld d Q bm B (inbB8 b hj) _ _) $$ Hb
    iintro Hb
    iapply Hk $$ Hs Hb

theorem t_row16 {β : Type} (d : Dev nD) (Q : β → sProp 𝕄) (j : ℕ) (hj : j < 32) (k : FVec F S16x512 .f32 → PG F β) :
    ow d s S ⊢ iprop(ow d bm B -∗ (ow d s S -∗ ow d bm B -∗ W d Q (k (row16V S B b c j hj))) -∗ W d Q (row16 s bm b c j hj k)) := by
  cases b with
  | none =>
    iintro Hs Hb Hk
    iapply (ld d Q s S (inb16 c hj) _ _) $$ Hs
    iintro Hs
    iapply Hk $$ Hs Hb
  | some b =>
    iintro Hs Hb Hk
    iapply (ld d Q s S (inb16 c hj) _ _) $$ Hs
    iintro Hs
    iapply (ld d Q bm B (inbB16 b hj) _ _) $$ Hb
    iintro Hb
    iapply Hk $$ Hs Hb

theorem t_max {β : Type} (d : Dev nD) (Q : β → sProp 𝕄) (n : ℕ) : ∀ (j : ℕ) (h : j + n ≤ 64) (a : FVec F S8x512 .f32) (k : FVec F S8x512 .f32 → PG F β),
    ow d s S ⊢ iprop(ow d bm B -∗ (ow d s S -∗ ow d bm B -∗ W d Q (k (maxV S B b c n j h a))) -∗ W d Q (maxRest s bm b c n j h a k)) := by
  induction n with
  | zero =>
    intro j h a k
    iintro Hs Hb Hk
    iapply Hk $$ Hs Hb
  | succ n ih =>
    intro j h a k
    iintro Hs Hb Hk
    iapply (t_row8 s bm b c S B d Q j _ _) $$ Hs Hb
    iintro Hs Hb
    iapply (ih (j + 1) _ _ k) $$ Hs Hb
    iintro Hs Hb
    iapply Hk $$ Hs Hb

theorem t_exp {β : Type} (d : Dev nD) (Q : β → sProp 𝕄) (m16 : FVec F S16x512 .f32) (n : ℕ) : ∀ (j : ℕ) (h : j + n ≤ 32) (P : Vec F S2x512x512 .bf16) (k : PG F β),
    ow d s S ⊢ iprop(ow d bm B -∗ ow d p P -∗ (ow d s S -∗ ow d bm B -∗ ow d p (expV S B b c m16 n j h P) -∗ W d Q k)
      -∗ W d Q (expRest s p hp bm b c m16 n j h k)) := by
  induction n with
  | zero =>
    intro j h P k
    rw [expV]
    iintro Hs Hb Hp Hk
    iapply Hk $$ Hs Hb Hp
  | succ n ih =>
    intro j h P k
    rw [expV]
    unfold exp16V
    iintro Hs Hb Hp Hk
    iapply (t_row16 s bm b c S B d Q j _ _) $$ Hs Hb
    iintro Hs Hb
    iapply (ld d Q p P (inb16 c (by omega)) _ _) $$ Hp
    iintro Hp
    iapply (sto d Q p P (inb16 c (by omega)) _ _ _ _) $$ Hp
    iintro Hp
    iapply (ih (j + 1) _ _ k) $$ Hs Hb Hp
    iintro Hs Hb Hp
    iapply Hk $$ Hs Hb Hp

theorem t_chan {β : Type} (d : Dev nD) (Q : β → sProp 𝕄) (mo : FVec F S8x512 .f32) (P : Vec F S2x512x512 .bf16) (k : FVec F S8x512 .f32 → PG F β) :
    ow d s S ⊢ iprop(ow d bm B -∗ ow d p P -∗ (ow d s S -∗ ow d bm B -∗ ow d p (chanP S B b c mo P) -∗ W d Q (k (chanM S B b c mo)))
      -∗ W d Q (chanK s p hp bm b c mo k)) := by
  unfold chanP chanM
  iintro Hs Hb Hp Hk
  iapply (t_row8 s bm b c S B d Q 0 _ _) $$ Hs Hb
  iintro Hs Hb
  iapply (t_max s bm b c S B d Q 63 1 _ _ _) $$ Hs Hb
  iintro Hs Hb
  iapply (t_exp s p hp bm b c S B d Q _ 32 0 _ P _) $$ Hs Hb Hp
  iintro Hs Hb Hp
  iapply Hk $$ Hs Hb Hp

end blocks

section prods

variable (km : Memref sig .tc .vmem S1x4096x128 .bf16) (vx : Memref sig .tc .vmem S1x144x4096 .bf16)
  (s : Memref sig .tc .vmem S2x512x512 .f32) (p : Memref sig .tc .vmem S2x512x512 .bf16)
  (ac : Memref sig .tc .vmem S2x144x512 .f32)
  (K : Vec F S1x4096x128 .bf16) (X : Vec F S1x144x4096 .bf16) (S : Vec F S2x512x512 .f32) (P : Vec F S2x512x512 .bf16) (A : Vec F S2x144x512 .f32)

theorem t_qk {β : Type} (d : Dev nD) (Q : β → sProp 𝕄) (off : Fin 3 → ℕ) (h : ∀ a, off a + S1x512x128.size a ≤ S1x4096x128.size a) (q0 q1 : FVec F S128x512 .bf16) (k : PG F β) :
    ow d km K ⊢ iprop(ow d s S -∗ (ow d km K -∗ ow d s (qkV (window K off S1x512x128.size h) q0 q1 S) -∗ W d Q k) -∗ W d Q (qkK km s off h q0 q1 k)) := by
  unfold qkV
  iintro Hm Hs Hk
  iapply (ld d Q km K h _ _) $$ Hm
  iintro Hm
  iapply (ld d Q s S (inbS 0) _ _) $$ Hs
  iintro Hs
  iapply (sto d Q s S (inbS 0) _ _ _ _) $$ Hs
  iintro Hs
  iapply (ld d Q s _ (inbS 1) _ _) $$ Hs
  iintro Hs
  iapply (sto d Q s _ (inbS 1) _ _ _ _) $$ Hs
  iintro Hs
  iapply Hk $$ Hm Hs

theorem t_pv1 {β : Type} (d : Dev nD) (Q : β → sProp 𝕄) (c : Fin 2) (off : Fin 3 → ℕ) (h : ∀ a, off a + S1x144x512.size a ≤ S1x144x4096.size a) (al : FVec F S8x512 .f32) (k : PG F β) :
    ow d vx X ⊢ iprop(ow d p P -∗ ow d ac A -∗ (ow d vx X -∗ ow d p P -∗ ow d ac (pv1V c (window X off S1x144x512.size h) al P A) -∗ W d Q k)
      -∗ W d Q (pv1K vx p ac c off h al k)) := by
  unfold pv1V
  iintro Hv Hp Ha Hk
  iapply (ld d Q ac A (inbA c) _ _) $$ Ha
  iintro Ha
  iapply (ld d Q vx X h _ _) $$ Hv
  iintro Hv
  iapply (ld d Q p P (inbS c) _ _) $$ Hp
  iintro Hp
  iapply (ld d Q ac A (inbA c) _ _) $$ Ha
  iintro Ha
  iapply (sto d Q ac A (inbA c) _ _ _ _) $$ Ha
  iintro Ha
  iapply Hk $$ Hv Hp Ha

theorem t_pv {β : Type} (d : Dev nD) (Q : β → sProp 𝕄) (off : Fin 3 → ℕ) (h : ∀ a, off a + S1x144x512.size a ≤ S1x144x4096.size a) (al0 al1 : FVec F S8x512 .f32) (k : PG F β) :
    ow d vx X ⊢ iprop(ow d p P -∗ ow d ac A -∗ (ow d vx X -∗ ow d p P -∗ ow d ac (pvV (window X off S1x144x512.size h) al0 al1 P A) -∗ W d Q k)
      -∗ W d Q (pvK vx p ac off h al0 al1 k)) := by
  unfold pvV
  iintro Hv Hp Ha Hk
  iapply (t_pv1 vx p ac X P A d Q 0 off h al0 _) $$ Hv Hp Ha
  iintro Hv Hp Ha
  iapply (t_pv1 vx p ac X P _ d Q 1 off h al1 _) $$ Hv Hp Ha
  iintro Hv Hp Ha
  iapply Hk $$ Hv Hp Ha

variable (bm : Memref sig .tc .vmem S1x2x512x512 .f32) (po : Memref sig .tc .vmem S2x512x512 .bf16) (hp : p.IsWhole)
  (B : Vec F S1x2x512x512 .f32) (P' : Vec F S2x512x512 .bf16)

theorem t_step {β : Type} (d : Dev nD) (Q : β → sProp 𝕄) (b : Option (Fin 2)) (off : Fin 3 → ℕ) (h : ∀ a, off a + S1x144x512.size a ≤ S1x144x4096.size a) (st : St F) (k : St F → PG F β) :
    ow d vx X ⊢ iprop(ow d s S -∗ ow d bm B -∗ ow d p P -∗ ow d po P' -∗ ow d ac A
      -∗ (ow d vx X -∗ ow d s S -∗ ow d bm B -∗ ow d p (stepP S B b st P) -∗ ow d po P'
          -∗ ow d ac (pvV (window X off S1x144x512.size h) st.2.2.1 st.2.2.2 P' A) -∗ W d Q (k (stepS S B b st)))
      -∗ W d Q (stepK vx s p ac bm po hp b off h st k)) := by
  unfold stepP stepS
  iintro Hv Hs Hb Hp Ho Ha Hk
  iapply (t_pv vx po ac X P' A d Q off h _ _ _) $$ Hv Ho Ha
  iintro Hv Ho Ha
  iapply (t_chan s p hp bm b 0 S B d Q st.1 P _) $$ Hs Hb Hp
  iintro Hs Hb Hp
  iapply (t_chan s p hp bm b 1 S B d Q st.2.1 _ _) $$ Hs Hb Hp
  iintro Hs Hb Hp
  iapply Hk $$ Hv Hs Hb Hp Ho Ha

end prods

end Cert.Attn
-- ==== Proof.Model.lean ====
/- The attention of one query tile as a function: the states the steps go through, tile by tile, none of them
   depending on what the scratch buffers held before. -/
module

public import proofs.«01_k».proof.Proof.Triples
public import proofs.«01_k».proof.Proof.Gen.KernelIdeal.Skeleton
public import Idealize.ShloMosaic.Lib.ValueLayout

@[expose] public section

noncomputable section

namespace Cert.Attn

open Idealize.ShloMosaic Idealize.SL.Sem
open Idealize.ShloMosaic.VecWindow Idealize.ShloMosaic.ValueIdx
open Cert.KernelIdeal
open Cert.KernelIdeal.Facts₀ Cert.KernelIdeal.Facts

variable {F : FTy → Type} [FloatOps F] [Named F]

section put

variable {α : Type} {s : Shape}

theorem put_hit (x : s.Idx → α) (off size : Fin s.rank → ℕ) (w : ((a : Fin s.rank) → Fin (size a)) → α) (y : s.Idx)
    (h : ∀ a, off a ≤ (y a).val ∧ (y a).val < off a + size a) :
    put x off size w y = w (Rect.unitLocal (s := s) (off := off) (size := size) y h) := dif_pos h

theorem put_miss (x : s.Idx → α) (off size : Fin s.rank → ℕ) (w : ((a : Fin s.rank) → Fin (size a)) → α) (y : s.Idx)
    (a : Fin s.rank) (h : ¬(off a ≤ (y a).val ∧ (y a).val < off a + size a)) : put x off size w y = x y :=
  dif_neg fun h' => h (h' a)

theorem put_full (x : s.Idx → α) (off : Fin s.rank → ℕ) (h0 : ∀ a, off a = 0) (w : s.Idx → α) : put x off s.size w = w := by
  funext y
  rw [put_hit x off s.size w y fun a => by rw [h0 a]; exact ⟨Nat.zero_le _, by have : (y a).val < s.size a := (y a).isLt; omega⟩]
  exact congrArg w (funext fun a => Fin.ext (by rw [Rect.unitLocal_val, h0 a]; rfl))

theorem window_congr (x : s.Idx → α) (off off' size : Fin s.rank → ℕ) (e : off = off') (inb : ∀ a, off a + size a ≤ s.size a)
    (inb' : ∀ a, off' a + size a ≤ s.size a) : window x off size inb = window x off' size inb' := by subst e; rfl

end put

/-- A channel of a tile is the rectangle whose first coordinate it is. -/
theorem inChan (c : Fin 2) (y : S2x512x512.Idx) (h : (y 0).val = c.val) :
    ∀ a, (![c.val, 0, 0] : Fin 3 → ℕ) a ≤ (y a).val ∧ (y a).val < (![c.val, 0, 0] : Fin 3 → ℕ) a + S1x512x512.size a := by
  have h1 : (y 1).val < 512 := (y 1).isLt
  have h2 : (y 2).val < 512 := (y 2).isLt
  intro a; match a with
  | 0 => show c.val ≤ (y 0).val ∧ (y 0).val < c.val + 1; omega
  | 1 => show 0 ≤ (y 1).val ∧ (y 1).val < 0 + 512; omega
  | 2 => show 0 ≤ (y 2).val ∧ (y 2).val < 0 + 512; omega

/-- Sixteen rows of a channel. -/
theorem inRows (c : Fin 2) (j : ℕ) (y : S2x512x512.Idx) (h : (y 0).val = c.val) (h1 : 16 * j ≤ (y 1).val) (h2 : (y 1).val < 16 * (j + 1)) :
    ∀ a, (![c.val, 16 * j, 0] : Fin 3 → ℕ) a ≤ (y a).val ∧ (y a).val < (![c.val, 16 * j, 0] : Fin 3 → ℕ) a + S1x16x512.size a := by
  have h3 : (y 2).val < 512 := (y 2).isLt
  intro a; match a with
  | 0 => show c.val ≤ (y 0).val ∧ (y 0).val < c.val + 1; omega
  | 1 => show 16 * j ≤ (y 1).val ∧ (y 1).val < 16 * j + 16; omega
  | 2 => show 0 ≤ (y 2).val ∧ (y 2).val < 0 + 512; omega

theorem qkV_zero (kj : Vec F S1x512x128 .bf16) (q0 q1 : FVec F S128x512 .bf16) (S : Vec F S2x512x512 .f32) (y : S2x512x512.Idx) (h : (y 0).val = 0) :
    qkV kj q0 q1 S y = scoreOf kj q0 (ix3 0 (y 1) (y 2)) := by
  unfold qkV
  rw [put_miss _ _ _ _ y 0 (by show ¬(1 ≤ (y 0).val ∧ _); omega), put_hit _ _ _ _ y (inChan 0 y h)]
  refine congrArg (scoreOf kj q0) (funext fun a => ?_)
  match a with
  | 0 => exact Fin.ext (by show (y 0).val - 0 = 0; omega)
  | 1 => exact Fin.ext (by show (y 1).val - 0 = (y 1).val; omega)
  | 2 => exact Fin.ext (by show (y 2).val - 0 = (y 2).val; omega)

theorem qkV_one (kj : Vec F S1x512x128 .bf16) (q0 q1 : FVec F S128x512 .bf16) (S : Vec F S2x512x512 .f32) (y : S2x512x512.Idx) (h : (y 0).val = 1) :
    qkV kj q0 q1 S y = scoreOf kj q1 (ix3 0 (y 1) (y 2)) := by
  unfold qkV
  rw [put_hit _ _ _ _ y (inChan 1 y h)]
  refine congrArg (scoreOf kj q1) (funext fun a => ?_)
  match a with
  | 0 => exact Fin.ext (by show (y 0).val - 1 = 0; omega)
  | 1 => exact Fin.ext (by show (y 1).val - 0 = (y 1).val; omega)
  | 2 => exact Fin.ext (by show (y 2).val - 0 = (y 2).val; omega)

theorem qkV_indep (kj : Vec F S1x512x128 .bf16) (q0 q1 : FVec F S128x512 .bf16) (S S' : Vec F S2x512x512 .f32) : qkV kj q0 q1 S = qkV kj q0 q1 S' := by
  funext y
  have h : (y 0).val < 2 := (y 0).isLt
  by_cases h1 : (y 0).val = 1
  · rw [qkV_one _ _ _ _ _ h1, qkV_one _ _ _ _ _ h1]
  · rw [qkV_zero _ _ _ _ _ (by omega), qkV_zero _ _ _ _ _ (by omega)]

section exps

variable (S : Vec F S2x512x512 .f32) (B : Vec F S1x2x512x512 .f32) (b : Option (Fin 2)) (c : Fin 2) (m16 : FVec F S16x512 .f32)

theorem expV_same (n : ℕ) : ∀ (j : ℕ) (h : j + n ≤ 32) (P : Vec F S2x512x512 .bf16) (y : S2x512x512.Idx),
    (y 0).val ≠ c.val ∨ (y 1).val < 16 * j → expV S B b c m16 n j h P y = P y := by
  induction n with
  | zero => intro j h P y hy; rfl
  | succ n ih =>
    intro j h P y hy
    refine (ih (j + 1) (by omega) _ y (by omega)).trans ?_
    rcases hy with hy | hy
    · exact put_miss _ _ _ _ y 0 (by show ¬(c.val ≤ (y 0).val ∧ (y 0).val < c.val + 1); omega)
    · exact put_miss _ _ _ _ y 1 (by show ¬(16 * j ≤ (y 1).val ∧ _); omega)

theorem expV_apply (n : ℕ) : ∀ (j : ℕ) (h : j + n ≤ 32) (P : Vec F S2x512x512 .bf16) (y : S2x512x512.Idx) (hy : (y 0).val = c.val)
    (h1 : 16 * j ≤ (y 1).val) (h2 : (y 1).val < 16 * (j + n)),
    expV S B b c m16 n j h P y = exp16V (row16V S B b c ((y 1).val / 16) (by omega)) m16 (ix3 0 ⟨(y 1).val % 16, Nat.mod_lt _ (by decide)⟩ (y 2)) := by
  induction n with
  | zero => intro j h P y hy h1 h2; omega
  | succ n ih =>
    intro j h P y hy h1 h2
    by_cases h3 : (y 1).val < 16 * (j + 1)
    · refine (expV_same S B b c m16 n (j + 1) (by omega) _ y (.inr h3)).trans ?_
      rw [put_hit _ _ _ _ y (inRows c j y hy h1 h3)]
      obtain rfl : j = (y 1).val / 16 := by omega
      refine congrArg (exp16V _ m16) (funext fun a => ?_)
      match a with
      | 0 => exact Fin.ext (by show (y 0).val - c.val = 0; omega)
      | 1 => exact Fin.ext (by show (y 1).val - 16 * ((y 1).val / 16) = (y 1).val % 16; omega)
      | 2 => exact Fin.ext (by show (y 2).val - 0 = (y 2).val; omega)
    · exact ih (j + 1) (by omega) _ y hy (by omega) (by omega)

end exps

section steps

variable (S : Vec F S2x512x512 .f32) (B : Vec F S1x2x512x512 .f32) (b : Option (Fin 2))

/-- The exponentials a step leaves, at an element. -/
theorem stepP_apply (st : St F) (P : Vec F S2x512x512 .bf16) (c : Fin 2) (y : S2x512x512.Idx) (hy : (y 0).val = c.val) :
    stepP S B b st P y = exp16V (row16V S B b c ((y 1).val / 16) (by have : (y 1).val < 512 := (y 1).isLt; omega))
      (twice (chanM S B b c (if c = 0 then st.1 else st.2.1))) (ix3 0 ⟨(y 1).val % 16, Nat.mod_lt _ (by decide)⟩ (y 2)) := by
  have h1 : (y 1).val < 512 := (y 1).isLt
  match c with
  | 0 =>
    refine (expV_same S B b 1 _ 32 0 (by decide) _ y (.inl (by rw [hy]; decide))).trans ?_
    exact expV_apply S B b 0 _ 32 0 (by decide) _ y hy (by omega) (by omega)
  | 1 => exact expV_apply S B b 1 _ 32 0 (by decide) _ y hy (by omega) (by omega)

theorem stepP_indep (st : St F) (P P' : Vec F S2x512x512 .bf16) : stepP S B b st P = stepP S B b st P' := by
  funext y
  have h : (y 0).val < 2 := (y 0).isLt
  rw [stepP_apply S B b st P ⟨(y 0).val, h⟩ y rfl, stepP_apply S B b st P' ⟨(y 0).val, h⟩ y rfl]

end steps

/-! ## The chain of a query tile -/

/-- What a step leaves for the next: the exponentials of its tile, the sums so far, the maxima and scalings. -/
structure Ch (F : FTy → Type) where
  P : Vec F S2x512x512 .bf16
  A : Vec F S2x144x512 .f32
  st : St F

/-- Rows of keys of tile `n`. -/
def Kt (K : Vec F S1x4096x128 .bf16) (n : ℕ) : Vec F S1x512x128 .bf16 :=
  window K ![0, 512 * min n 7, 0] S1x512x128.size (by
    intro a; match a with
    | 0 => show 0 + 1 ≤ 1; omega
    | 1 => show 512 * min n 7 + 512 ≤ 4096; omega
    | 2 => show 0 + 128 ≤ 128; omega)

/-- Columns of values of tile `n`. -/
def Vt (X : Vec F S1x144x4096 .bf16) (n : ℕ) : Vec F S1x144x512 .bf16 :=
  window X ![0, 0, 512 * min n 7] S1x144x512.size (by
    intro a; match a with
    | 0 => show 0 + 1 ≤ 1; omega
    | 1 => show 0 + 144 ≤ 144; omega
    | 2 => show 512 * min n 7 + 512 ≤ 4096; omega)

section chain

variable (K : Vec F S1x4096x128 .bf16) (X : Vec F S1x144x4096 .bf16) (B : Vec F S1x2x512x512 .f32) (q0 q1 : FVec F S128x512 .bf16)

/-- The scores of tile `n`. -/
def Sc (n : ℕ) : Vec F S2x512x512 .f32 := qkV (Kt K n) q0 q1 (constant S2x512x512 .f32 0x00000000#32)

/-- The step at tile `n`. -/
def stepC (b : Option (Fin 2)) (n : ℕ) (σ : Ch F) : Ch F :=
  ⟨stepP (Sc K q0 q1 n) B b σ.st σ.P, pvV (Vt X (n - 1)) σ.st.2.2.1 σ.st.2.2.2 σ.P σ.A, stepS (Sc K q0 q1 n) B b σ.st⟩

/-- Which bias tile is added at tile `n` of query tile `qi`: none far from the diagonal. -/
def biasAt (qi n : ℕ) : Option (Fin 2) := if n = qi then some 1 else if n + 1 = qi then some 0 else none

/-- Before the first step. -/
def chain0 : Ch F := ⟨Gen.k0_pay1232, Gen.k0_pay1231, (Gen.k0_pay1233, Gen.k0_pay1233, Gen.k0_pay1234, Gen.k0_pay1234)⟩

/-- After `n` steps. -/
def chain (qi : ℕ) : ℕ → Ch F
  | 0 => chain0
  | n + 1 => stepC K X B q0 q1 (biasAt qi n) n (chain qi n)

/-- The sums at the end. -/
def finA (qi : ℕ) : Vec F S2x144x512 .f32 :=
  pvV (Vt X qi) (chain K X B q0 q1 qi (qi + 1)).st.2.2.1 (chain K X B q0 q1 qi (qi + 1)).st.2.2.2 (chain K X B q0 q1 qi (qi + 1)).P (chain K X B q0 q1 qi (qi + 1)).A

end chain

/-- The values with the rows of ones under them. -/
def vext (V : Vec F S128x4096 .bf16) : Vec F S1x144x4096 .bf16 :=
  put (put (constant S1x144x4096 .bf16 0x0000#16) ![0, 0, 0] S1x128x4096.size (Gen.k0_pay1226 V)) ![0, 128, 0] S1x16x4096.size (Gen.k0_pay1227 (F := F))

theorem vext_indep (V : Vec F S128x4096 .bf16) (X : Vec F S1x144x4096 .bf16) :
    put (put X ![0, 0, 0] S1x128x4096.size (Gen.k0_pay1226 V)) ![0, 128, 0] S1x16x4096.size (Gen.k0_pay1227 (F := F)) = vext V := by
  funext y
  have h0 : (y 0).val < 1 := (y 0).isLt
  have h1 : (y 1).val < 144 := (y 1).isLt
  have h2 : (y 2).val < 4096 := (y 2).isLt
  unfold vext
  by_cases h : 128 ≤ (y 1).val
  · have hh : ∀ a, (![0, 128, 0] : Fin 3 → ℕ) a ≤ (y a).val ∧ (y a).val < (![0, 128, 0] : Fin 3 → ℕ) a + S1x16x4096.size a := by
      intro a; match a with
      | 0 => show 0 ≤ (y 0).val ∧ (y 0).val < 0 + 1; omega
      | 1 => show 128 ≤ (y 1).val ∧ (y 1).val < 128 + 16; omega
      | 2 => show 0 ≤ (y 2).val ∧ (y 2).val < 0 + 4096; omega
    rw [put_hit _ _ _ _ y hh, put_hit _ _ _ _ y hh]
  · have hh : ∀ a, (![0, 0, 0] : Fin 3 → ℕ) a ≤ (y a).val ∧ (y a).val < (![0, 0, 0] : Fin 3 → ℕ) a + S1x128x4096.size a := by
      intro a; match a with
      | 0 => show 0 ≤ (y 0).val ∧ (y 0).val < 0 + 1; omega
      | 1 => show 0 ≤ (y 1).val ∧ (y 1).val < 0 + 128; omega
      | 2 => show 0 ≤ (y 2).val ∧ (y 2).val < 0 + 4096; omega
    have hm : ¬((![0, 128, 0] : Fin 3 → ℕ) 1 ≤ (y 1).val ∧ (y 1).val < (![0, 128, 0] : Fin 3 → ℕ) 1 + S1x16x4096.size 1) := by
      show ¬(128 ≤ (y 1).val ∧ _); omega
    rw [put_miss _ _ _ _ y 1 hm, put_miss _ _ _ _ y 1 hm, put_hit _ _ _ _ y hh, put_hit _ _ _ _ y hh]

/-- What a point writes: the two channels' sums divided, their difference normalised. -/
def outV (qi : ℕ) (L : Vec F S4x64 .f32) (G : Vec F S128x1 .f32) (Q : Vec F S128x512 .bf16) (K : Vec F S1x4096x128 .bf16) (V : Vec F S128x4096 .bf16)
    (B : Vec F S1x2x512x512 .f32) : Vec F S1x512x128 .bf16 :=
  Gen.k0_pay1 (Gen.k0_pay1251 L)
    (Gen.k0_pay1253 (window (finA K (vext V) B (Gen.k0_pay1229 Q) (Gen.k0_pay1230 Q) qi) ![(1 : Fin 2).val, 0, 0] S1x144x512.size (inbA 1)))
    (Gen.k0_pay1254 (window (finA K (vext V) B (Gen.k0_pay1229 Q) (Gen.k0_pay1230 Q) qi) ![(0 : Fin 2).val, 0, 0] S1x144x512.size (inbA 0)))
    (Gen.k0_pay1255 (window (finA K (vext V) B (Gen.k0_pay1229 Q) (Gen.k0_pay1230 Q) qi) ![(0 : Fin 2).val, 0, 0] S1x144x512.size (inbA 0))) G

end Cert.Attn
-- ==== Proof.Offs.lean ====
/- Which tile each load of the body reads, which branch the switch takes, how many trips the loop makes: over the
   points of the grid. -/
module

public import proofs.«01_k».proof.Proof.Gen.KernelIdeal

@[expose] public section

namespace Cert.Attn

open Idealize.ShloMosaic
open Cert.KernelIdeal

set_option maxRecDepth 100000

theorem off1_eq : ∀ (i : grid0.Coords) (k : Fin (k0_t1_loop i).trips), k0_off1 i k = ![0, 512 * (2 * k.val + 1), 0] := by decide +kernel
theorem off2_eq : ∀ (i : grid0.Coords) (k : Fin (k0_t1_loop i).trips), k0_off2 i k = ![0, 0, 512 * (2 * k.val - 1)] := by decide +kernel
theorem off3_eq : ∀ (i : grid0.Coords) (k : Fin (k0_t1_loop i).trips), k0_off3 i k = ![0, 512 * (2 * k.val + 2), 0] := by decide +kernel
theorem off4_eq : ∀ (i : grid0.Coords) (k : Fin (k0_t1_loop i).trips), k0_off4 i k = ![0, 0, 512 * (2 * k.val + 1 - 1)] := by decide +kernel
theorem trips_eq : ∀ i : grid0.Coords, 2 * (k0_t1_loop i).trips = ((i 2).val - 1) - ((i 2).val - 1) % 2 := by decide +kernel
theorem trips2_eq : ∀ i : grid0.Coords, (k0_t2_loop i).trips = 0 := by decide +kernel
theorem cond1_iff : ∀ i : grid0.Coords, Scalar.cmpi .ne (Scalar.extui (Scalar.cmpi .eq (BitVec.ofNat 32 (i 2).val) 0#32)) 0#32 = 1#1 ↔ (i 2).val = 0 := by decide +kernel
theorem cond2_iff : ∀ i : grid0.Coords, k0_cond2 i = 1#1 ↔ 1 ≤ (i 2).val := by decide +kernel
theorem cond3_iff : ∀ i : grid0.Coords, k0_cond2 i = 1#1 → (k0_cond3 i = 1#1 ↔ ((i 2).val - 1) % 2 = 1) := by decide +kernel
theorem off9_2_eq : ∀ i : grid0.Coords, k0_cond2 i = 1#1 → k0_cond3 i = 1#1 → k0_off9 i 2#32 = ![0, 512 * ((i 2).val - 1), 0] := by decide +kernel
theorem off9_1_eq : ∀ i : grid0.Coords, k0_cond2 i = 1#1 → k0_cond3 i = 1#1 → k0_off9 i 1#32 = ![0, 512 * (i 2).val, 0] := by decide +kernel
theorem off10_2_eq : ∀ i : grid0.Coords, k0_cond2 i = 1#1 → k0_cond3 i = 1#1 → k0_off10 i 2#32 = ![0, 0, 512 * ((i 2).val - 2 - 1)] := by decide +kernel
theorem off10_1_eq : ∀ i : grid0.Coords, k0_cond2 i = 1#1 → k0_cond3 i = 1#1 → k0_off10 i 1#32 = ![0, 0, 512 * ((i 2).val - 1 - 1)] := by decide +kernel
theorem off11_eq : ∀ i : grid0.Coords, k0_cond2 i = 1#1 → k0_cond3 i = 1#1 → k0_off11 i = ![0, 0, 512 * ((i 2).val - 1)] := by decide +kernel
theorem off14_eq : ∀ i : grid0.Coords, k0_cond2 i = 1#1 → ¬k0_cond3 i = 1#1 → k0_off14 i = ![0, 0, 512 * ((i 2).val - 1 - 1)] := by decide +kernel
theorem off15_eq : ∀ i : grid0.Coords, k0_cond2 i = 1#1 → ¬k0_cond3 i = 1#1 → k0_off15 i = ![0, 0, 512 * ((i 2).val - 1)] := by decide +kernel
theorem off17_eq : ∀ i : grid0.Coords, ¬k0_cond2 i = 1#1 → k0_off17 i = ![0, 0, 512 * ((i 2).val - 1)] := by decide +kernel

end Cert.Attn
-- ==== Proof.Eqs.lean ====
/- The printed body is the blocks in order: the loop region is two steps, each branch of the switch one, two or
   three and the last product, the rest the set-up before and the normalisation after. -/
module

public import proofs.«01_k».proof.Proof.Steps
public import proofs.«01_k».proof.Proof.Gen.KernelIdeal.Skeleton
public import Idealize.ShloMosaic.Lib.Pipeline.Regions

@[expose] public section

noncomputable section

namespace Cert.Attn

open Idealize.ShloMosaic Idealize.SL.Sem
open Cert.KernelIdeal
open Cert.KernelIdeal.Facts₀ Cert.KernelIdeal.Facts

variable {F : FTy → Type} [FloatOps F] [Named F]

section

variable (i : grid0.Coords) (arg3 : Memref sig .tc .vmem S4x64 .f32) (harg3 : arg3.IsWhole) (arg4 : Memref sig .tc .vmem S128x1 .f32) (harg4 : arg4.IsWhole) (arg5 : Memref sig .tc .vmem S128x512 .bf16) (harg5 : arg5.IsWhole) (arg6 : Memref sig .tc .vmem S1x4096x128 .bf16) (harg6 : arg6.IsWhole) (arg7 : Memref sig .tc .vmem S128x4096 .bf16) (harg7 : arg7.IsWhole) (arg8 : Memref sig .tc .vmem S1x2x512x512 .f32) (harg8 : arg8.IsWhole) (arg9 : Memref sig .tc .vmem S1x512x128 .bf16) (harg9 : arg9.IsWhole) (arg10 : Memref sig .tc .vmem S1x144x4096 .bf16) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .bf16) (harg13 : arg13.IsWhole) (arg14 : Memref sig .tc .vmem S2x512x512 .bf16) (harg14 : arg14.IsWhole) (arg15 : Memref sig .tc .vmem S2x144x512 .f32) (harg15 : arg15.IsWhole)

/-- One trip of the loop: two steps, each with the next tile's scores first. -/
def tripK (v12 v17 : FVec F S128x512 .bf16) (k : Fin (k0_t1_loop i).trips) (st : St F) : PG F (St F) :=
  qkK arg6 arg12 (k0_off1 i k) (k0_off1_inb i k) v12 v17 <|
  stepK arg10 arg11 arg13 arg15 arg8 arg14 harg13 none (k0_off2 i k) (k0_off2_inb i k) st fun st =>
  qkK arg6 arg11 (k0_off3 i k) (k0_off3_inb i k) v12 v17 <|
  stepK arg10 arg12 arg14 arg15 arg8 arg13 harg14 none (k0_off4 i k) (k0_off4_inb i k) st .ret

set_option maxRecDepth 100000 in
theorem t1_eq (arg2 : BitVec 32) (v12 v17 : FVec F S128x512 .bf16) (v26 v27 : FVec F S8x512 .f32) (v31 : FVec F S512x128 .bf16)
    (k : Fin (k0_t1_loop i).trips) (m0 m1 a0 a1 : FVec F S8x512 .f32) :
    Gen.k0_t1_body i arg3 harg3 arg4 harg4 arg5 harg5 arg6 harg6 arg7 harg7 arg8 harg8 arg9 harg9 arg10 harg10 arg11 harg11 arg12 harg12 arg13 harg13 arg14 harg14 arg15 harg15 arg2 v12 v17 v26 v27 v31 k (m0, m1, a0, a1) =
      tripK i arg6 arg8 arg10 arg11 arg12 arg13 harg13 arg14 harg14 arg15 v12 v17 k (m0, m1, a0, a1) := by
  chain_rfl

/-- The branch of an odd number of far tiles: the last of them, the tile before the diagonal, the diagonal. -/
def tailOdd (v12 v17 : FVec F S128x512 .bf16) (h2 : k0_cond2 i = 1#1) (h3 : k0_cond3 i = 1#1) (st : St F) : PG F PUnit :=
  qkK arg6 arg12 (k0_off9 i 2#32) (k0_off9_inb i h2 h3 1) v12 v17 <|
  stepK arg10 arg11 arg13 arg15 arg8 arg14 harg13 none (k0_off10 i 2#32) (k0_off10_inb i h2 h3 1) st fun st =>
  qkK arg6 arg11 (k0_off9 i 1#32) (k0_off9_inb i h2 h3 0) v12 v17 <|
  stepK arg10 arg12 arg14 arg15 arg8 arg13 harg14 (some 0) (k0_off10 i 1#32) (k0_off10_inb i h2 h3 0) st fun st =>
  stepK arg10 arg11 arg13 arg15 arg8 arg14 harg13 (some 1) (k0_off11 i) (k0_off11_inb i h2 h3) st fun st =>
  pvK arg10 arg13 arg15 (k0_off12 i) (k0_off12_inb i h2 h3) st.2.2.1 st.2.2.2 (.ret ⟨⟩)

/-- Of an even number: the tile before the diagonal, the diagonal. -/
def tailEven (v12 v17 : FVec F S128x512 .bf16) (h2 : k0_cond2 i = 1#1) (h3 : ¬k0_cond3 i = 1#1) (st : St F) : PG F PUnit :=
  qkK arg6 arg12 (k0_off13 i) (k0_off13_inb i h2 h3) v12 v17 <|
  stepK arg10 arg11 arg13 arg15 arg8 arg14 harg13 (some 0) (k0_off14 i) (k0_off14_inb i h2 h3) st fun st =>
  stepK arg10 arg12 arg14 arg15 arg8 arg13 harg14 (some 1) (k0_off15 i) (k0_off15_inb i h2 h3) st fun st =>
  pvK arg10 arg14 arg15 (k0_off16 i) (k0_off16_inb i h2 h3) st.2.2.1 st.2.2.2 (.ret ⟨⟩)

/-- Of the first query tile: the diagonal alone. -/
def tailFirst (h2 : ¬k0_cond2 i = 1#1) (st : St F) : PG F PUnit :=
  stepK arg10 arg11 arg13 arg15 arg8 arg14 harg13 (some 1) (k0_off17 i) (k0_off17_inb i h2) st fun st =>
  pvK arg10 arg13 arg15 (k0_off18 i) (k0_off18_inb i h2) st.2.2.1 st.2.2.2 (.ret ⟨⟩)

/-- What follows the switch. -/
def finK : PG F (Σ' (v98 : FVec F S1x1 .f32) (v102 : FVec F S144x512 .f32) (v103 : FVec F S128x512 .f32), FVec F S1x512 .f32) :=
  .op (.load arg3 (Rect.unit (s := S4x64) ![0, 0] S4x64.size inb_S4x64_S4x64_0_0).toLoadRect (View.loadsAt_vmem h_S4x64)) fun v82 =>
  .op (.load arg15 (Rect.unit (s := S2x144x512) ![(0 : Fin 2).val, 0, 0] S1x144x512.size (inbA 0)).toLoadRect (View.loadsAt_vmem h_S1x144x512)) fun v99 =>
  .op (.load arg15 (Rect.unit (s := S2x144x512) ![(1 : Fin 2).val, 0, 0] S1x144x512.size (inbA 1)).toLoadRect (View.loadsAt_vmem h_S1x144x512)) fun v101 =>
  .ret ⟨Gen.k0_pay1251 v82, Gen.k0_pay1253 v101, Gen.k0_pay1254 v99, Gen.k0_pay1255 v99⟩

set_option maxRecDepth 100000 in
theorem part429_odd (arg2 : BitVec 32) (v12 v17 : FVec F S128x512 .bf16) (v41 : BitVec 32) (m0 m1 a0 a1 : FVec F S8x512 .f32) (v66 : BitVec 1) (c2 : BitVec 32)
    (h2 : k0_cond2 i = 1#1) (h3 : k0_cond3 i = 1#1) :
    k0_part429 i arg3 harg3 arg4 harg4 arg5 harg5 arg6 harg6 arg7 harg7 arg8 harg8 arg9 harg9 arg10 harg10 arg11 harg11 arg12 harg12 arg13 harg13 arg14 harg14 arg15 harg15 arg2 v12 v17 v41 m0 m1 a0 a1 v66 c2 =
      (tailOdd i arg6 arg8 arg10 arg11 arg12 arg13 harg13 arg14 harg14 arg15 v12 v17 h2 h3 (m0, m1, a0, a1) >>= fun _ => finK arg3 arg15) := by
  rw [Gen.k0_part429_eq_skeleton]
  unfold Gen.k0_part429_skel
  rw [dif_pos h2, dif_pos h3]
  chain_rfl

set_option maxRecDepth 100000 in
theorem part429_even (arg2 : BitVec 32) (v12 v17 : FVec F S128x512 .bf16) (v41 : BitVec 32) (m0 m1 a0 a1 : FVec F S8x512 .f32) (v66 : BitVec 1) (c2 : BitVec 32)
    (h2 : k0_cond2 i = 1#1) (h3 : ¬k0_cond3 i = 1#1) :
    k0_part429 i arg3 harg3 arg4 harg4 arg5 harg5 arg6 harg6 arg7 harg7 arg8 harg8 arg9 harg9 arg10 harg10 arg11 harg11 arg12 harg12 arg13 harg13 arg14 harg14 arg15 harg15 arg2 v12 v17 v41 m0 m1 a0 a1 v66 c2 =
      (tailEven i arg6 arg8 arg10 arg11 arg12 arg13 harg13 arg14 harg14 arg15 v12 v17 h2 h3 (m0, m1, a0, a1) >>= fun _ => finK arg3 arg15) := by
  rw [Gen.k0_part429_eq_skeleton]
  unfold Gen.k0_part429_skel
  rw [dif_pos h2, dif_neg h3]
  chain_rfl

set_option maxRecDepth 100000 in
theorem part429_first (arg2 : BitVec 32) (v12 v17 : FVec F S128x512 .bf16) (v41 : BitVec 32) (m0 m1 a0 a1 : FVec F S8x512 .f32) (v66 : BitVec 1) (c2 : BitVec 32)
    (h2 : ¬k0_cond2 i = 1#1) :
    k0_part429 i arg3 harg3 arg4 harg4 arg5 harg5 arg6 harg6 arg7 harg7 arg8 harg8 arg9 harg9 arg10 harg10 arg11 harg11 arg12 harg12 arg13 harg13 arg14 harg14 arg15 harg15 arg2 v12 v17 v41 m0 m1 a0 a1 v66 c2 =
      (tailFirst i arg8 arg10 arg11 arg13 harg13 arg14 arg15 h2 (m0, m1, a0, a1) >>= fun _ => finK arg3 arg15) := by
  rw [Gen.k0_part429_eq_skeleton]
  unfold Gen.k0_part429_skel
  rw [dif_neg h2]
  chain_rfl

end

end Cert.Attn
-- ==== Proof.Body.lean ====
/- The body at a point of the grid, run through its blocks: it leaves the attention of its query tile in the output's
   buffer, the values with their rows of ones in the first scratch buffer, and hands back the rest. -/
module

public import proofs.«01_k».proof.Proof.Model
public import proofs.«01_k».proof.Proof.Offs
public import proofs.«01_k».proof.Proof.Eqs

@[expose] public section

noncomputable section

namespace Cert.Attn

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow Idealize.ShloMosaic.ValueIdx
open Cert.KernelIdeal
open Cert.KernelIdeal.Facts₀ Cert.KernelIdeal.Facts

variable {F : FTy → Type} [FloatOps F] [Named F]

local notation "𝕄" => MT nD τ sig Unit (Elt F) ℕ (UR sig nD τ) ℕ

/-- A buffer held whole, whatever it reads. -/
abbrev owx (d : Dev nD) {sp : Space} {S : Shape} {e : EltTy} (m : Memref sig .tc sp S e) : sProp 𝕄 := iprop(∃ X, ow d m X)

theorem t_ret {β : Type} (d : Dev nD) (Q : β → sProp 𝕄) (x : β) : Q x ⊢ W d Q (.ret x) := by
  show Q x ⊢ iprop(|={Set.univ}[frame]=> Q x)
  iintro H
  imodintro
  iexact H

section chain

variable (K : Vec F S1x4096x128 .bf16) (X : Vec F S1x144x4096 .bf16) (B : Vec F S1x2x512x512 .f32) (q0 q1 : FVec F S128x512 .bf16)
  (km : Memref sig .tc .vmem S1x4096x128 .bf16) (vx : Memref sig .tc .vmem S1x144x4096 .bf16) (bm : Memref sig .tc .vmem S1x2x512x512 .f32)
  (s : Memref sig .tc .vmem S2x512x512 .f32) (p : Memref sig .tc .vmem S2x512x512 .bf16) (hp : p.IsWhole) (po : Memref sig .tc .vmem S2x512x512 .bf16)
  (ac : Memref sig .tc .vmem S2x144x512 .f32)

theorem t_qkN {β : Type} (d : Dev nD) (Q : β → sProp 𝕄) (n : ℕ) (hn : n < 8) (off : Fin 3 → ℕ) (h : ∀ a, off a + S1x512x128.size a ≤ S1x4096x128.size a) (e : off = ![0, 512 * n, 0]) (k : PG F β) :
    ow d km K ⊢ iprop(owx d s -∗ (ow d km K -∗ ow d s (Sc K q0 q1 n) -∗ W d Q k) -∗ W d Q (qkK km s off h q0 q1 k)) := by
  iintro Hm ⟨%S, Hs⟩ Hk
  iapply (t_qk km s K S d Q off h q0 q1 k) $$ Hm Hs
  have e2 : qkV (window K off S1x512x128.size h) q0 q1 S = Sc K q0 q1 n := by
    unfold Sc Kt
    rw [qkV_indep _ _ _ S]
    refine congrArg (fun w => qkV w q0 q1 _) (window_congr K off _ _ ?_ _ _)
    rw [e, Nat.min_eq_left (by omega : n ≤ 7)]
  rw [e2]
  iexact Hk

theorem vt_eq (n : ℕ) (hn : n < 8) (off : Fin 3 → ℕ) (h : ∀ a, off a + S1x144x512.size a ≤ S1x144x4096.size a) (e : off = ![0, 0, 512 * n]) :
    window X off S1x144x512.size h = Vt X n :=
  window_congr X off _ _ (by rw [e, Nat.min_eq_left (by omega : n ≤ 7)]) _ _

theorem t_stepN {β : Type} (d : Dev nD) (Q : β → sProp 𝕄) (b : Option (Fin 2)) (n : ℕ) (hn : n - 1 < 8) (σ : Ch F) (off : Fin 3 → ℕ) (h : ∀ a, off a + S1x144x512.size a ≤ S1x144x4096.size a)
    (e : off = ![0, 0, 512 * (n - 1)]) (k : St F → PG F β) :
    ow d vx X ⊢ iprop(ow d s (Sc K q0 q1 n) -∗ ow d bm B -∗ owx d p -∗ ow d po σ.P -∗ ow d ac σ.A
      -∗ (ow d vx X -∗ ow d s (Sc K q0 q1 n) -∗ ow d bm B -∗ ow d p (stepC K X B q0 q1 b n σ).P -∗ ow d po σ.P
          -∗ ow d ac (stepC K X B q0 q1 b n σ).A -∗ W d Q (k (stepC K X B q0 q1 b n σ).st))
      -∗ W d Q (stepK vx s p ac bm po hp b off h σ.st k)) := by
  iintro Hv Hs Hb ⟨%P, Hp⟩ Ho Ha Hk
  iapply (t_step vx s p ac X _ P σ.A bm po hp B σ.P d Q b off h σ.st k) $$ Hv Hs Hb Hp Ho Ha
  rw [vt_eq X (n - 1) hn off h e, stepP_indep _ B b σ.st P σ.P]
  iexact Hk

theorem t_pvN {β : Type} (d : Dev nD) (Q : β → sProp 𝕄) (n : ℕ) (hn : n < 8) (σ : Ch F) (off : Fin 3 → ℕ) (h : ∀ a, off a + S1x144x512.size a ≤ S1x144x4096.size a)
    (e : off = ![0, 0, 512 * n]) (k : PG F β) :
    ow d vx X ⊢ iprop(ow d p σ.P -∗ ow d ac σ.A
      -∗ (ow d vx X -∗ ow d p σ.P -∗ ow d ac (pvV (Vt X n) σ.st.2.2.1 σ.st.2.2.2 σ.P σ.A) -∗ W d Q k)
      -∗ W d Q (pvK vx p ac off h σ.st.2.2.1 σ.st.2.2.2 k)) := by
  iintro Hv Hp Ha Hk
  iapply (t_pv vx p ac X σ.P σ.A d Q off h _ _ k) $$ Hv Hp Ha
  rw [vt_eq X n hn off h e]
  iexact Hk

end chain

section body

variable (K : Vec F S1x4096x128 .bf16) (X : Vec F S1x144x4096 .bf16) (B : Vec F S1x2x512x512 .f32) (q0 q1 : FVec F S128x512 .bf16)
variable (i : grid0.Coords) (arg3 : Memref sig .tc .vmem S4x64 .f32) (harg3 : arg3.IsWhole) (arg4 : Memref sig .tc .vmem S128x1 .f32) (harg4 : arg4.IsWhole) (arg5 : Memref sig .tc .vmem S128x512 .bf16) (harg5 : arg5.IsWhole) (arg6 : Memref sig .tc .vmem S1x4096x128 .bf16) (harg6 : arg6.IsWhole) (arg7 : Memref sig .tc .vmem S128x4096 .bf16) (harg7 : arg7.IsWhole) (arg8 : Memref sig .tc .vmem S1x2x512x512 .f32) (harg8 : arg8.IsWhole) (arg9 : Memref sig .tc .vmem S1x512x128 .bf16) (harg9 : arg9.IsWhole) (arg10 : Memref sig .tc .vmem S1x144x4096 .bf16) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .bf16) (harg13 : arg13.IsWhole) (arg14 : Memref sig .tc .vmem S2x512x512 .bf16) (harg14 : arg14.IsWhole) (arg15 : Memref sig .tc .vmem S2x144x512 .f32) (harg15 : arg15.IsWhole)

/-- Between two pairs of steps: `n` tiles done, the next one's scores in the first score buffer. -/
def Mid (d : Dev nD) (qi n : ℕ) (st : St F) : sProp 𝕄 :=
  iprop(⌜st = (chain K X B q0 q1 qi n).st⌝ ∗ ow d arg6 K ∗ ow d arg8 B ∗ ow d arg10 X ∗ ow d arg11 (Sc K q0 q1 n) ∗ owx d arg12 ∗ owx d arg13
    ∗ ow d arg14 (chain K X B q0 q1 qi n).P ∗ ow d arg15 (chain K X B q0 q1 qi n).A)

/-- After the last step. -/
def Fin' (d : Dev nD) (qi : ℕ) : sProp 𝕄 :=
  iprop(ow d arg6 K ∗ ow d arg8 B ∗ ow d arg10 X ∗ owx d arg11 ∗ owx d arg12 ∗ owx d arg13 ∗ owx d arg14 ∗ ow d arg15 (finA K X B q0 q1 qi))

theorem t_trip (d : Dev nD) (k : Fin (k0_t1_loop i).trips) (st : St F) :
    Mid K X B q0 q1 arg6 arg8 arg10 arg11 arg12 arg13 arg14 arg15 d (i 2).val (2 * k.val) st
      ⊢ W d (Mid K X B q0 q1 arg6 arg8 arg10 arg11 arg12 arg13 arg14 arg15 d (i 2).val (2 * k.val + 2))
          (tripK i arg6 arg8 arg10 arg11 arg12 arg13 harg13 arg14 harg14 arg15 q0 q1 k st) := by
  have hk := k.isLt
  have ht := trips_eq i
  have hi : (i 2).val < 8 := (i 2).isLt
  unfold Mid
  iintro ⟨%hst, Hk, Hb, Hv, H11, H12, H13, H14, H15⟩
  subst hst
  unfold tripK
  iapply (t_qkN K q0 q1 arg6 arg12 d _ (2 * k.val + 1) (by omega) _ _ (off1_eq i k) _) $$ Hk H12
  iintro Hk H12
  iapply (t_stepN K X B q0 q1 arg10 arg8 arg11 arg13 harg13 arg14 arg15 d _ none (2 * k.val) (by omega) _ _ _ (off2_eq i k) _) $$ Hv H11 Hb H13 H14 H15
  iintro Hv H11 Hb H13 H14 H15
  have e1 : stepC K X B q0 q1 none (2 * k.val) (chain K X B q0 q1 (i 2).val (2 * k.val)) = chain K X B q0 q1 (i 2).val (2 * k.val + 1) := by
    show _ = stepC K X B q0 q1 (biasAt (i 2).val (2 * k.val)) _ _
    unfold biasAt; rw [if_neg (by omega), if_neg (by omega)]
  rw [e1]
  iapply (t_qkN K q0 q1 arg6 arg11 d _ (2 * k.val + 2) (by omega) _ _ (off3_eq i k) _) $$ Hk [H11]
  · iexists _; iexact H11
  iintro Hk H11
  iapply (t_stepN K X B q0 q1 arg10 arg8 arg12 arg14 harg14 arg13 arg15 d _ none (2 * k.val + 1) (by omega) _ _ _ (off4_eq i k) _) $$ Hv H12 Hb [H14] H13 H15
  · iexists _; iexact H14
  iintro Hv H12 Hb H14 H13 H15
  have e2 : stepC K X B q0 q1 none (2 * k.val + 1) (chain K X B q0 q1 (i 2).val (2 * k.val + 1)) = chain K X B q0 q1 (i 2).val (2 * k.val + 2) := by
    show _ = stepC K X B q0 q1 (biasAt (i 2).val (2 * k.val + 1)) _ _
    unfold biasAt; rw [if_neg (by omega), if_neg (by omega)]
  rw [e2]
  iapply (t_ret d _ _)
  isplitr
  · ipureintro; rfl
  isplitl [Hk]; · iexact Hk
  isplitl [Hb]; · iexact Hb
  isplitl [Hv]; · iexact Hv
  isplitl [H11]; · iexact H11
  isplitl [H12]; · iexists _; iexact H12
  isplitl [H13]; · iexists _; iexact H13
  isplitl [H14]; · iexact H14
  iexact H15

theorem t_tailOdd (d : Dev nD) (h2 : k0_cond2 i = 1#1) (h3 : k0_cond3 i = 1#1) (st : St F) (n : ℕ) (hn : n + 2 = (i 2).val) :
    Mid K X B q0 q1 arg6 arg8 arg10 arg11 arg12 arg13 arg14 arg15 d (i 2).val n st
      ⊢ W d (fun _ => Fin' K X B q0 q1 arg6 arg8 arg10 arg11 arg12 arg13 arg14 arg15 d (i 2).val)
          (tailOdd i arg6 arg8 arg10 arg11 arg12 arg13 harg13 arg14 harg14 arg15 q0 q1 h2 h3 st) := by
  have hi : (i 2).val < 8 := (i 2).isLt
  unfold Mid
  iintro ⟨%hst, Hk, Hb, Hv, H11, H12, H13, H14, H15⟩
  subst hst
  unfold tailOdd
  iapply (t_qkN K q0 q1 arg6 arg12 d _ (n + 1) (by omega) _ _ (by rw [off9_2_eq i h2 h3, ← hn]; rfl) _) $$ Hk H12
  iintro Hk H12
  iapply (t_stepN K X B q0 q1 arg10 arg8 arg11 arg13 harg13 arg14 arg15 d _ none n (by omega) _ _ _ (by rw [off10_2_eq i h2 h3, ← hn]; rfl) _) $$ Hv H11 Hb H13 H14 H15
  iintro Hv H11 Hb H13 H14 H15
  have e1 : stepC K X B q0 q1 none n (chain K X B q0 q1 (i 2).val n) = chain K X B q0 q1 (i 2).val (n + 1) := by
    show _ = stepC K X B q0 q1 (biasAt (i 2).val n) _ _
    unfold biasAt; rw [if_neg (by omega), if_neg (by omega)]
  rw [e1]
  iapply (t_qkN K q0 q1 arg6 arg11 d _ (n + 2) (by omega) _ _ (by rw [off9_1_eq i h2 h3, ← hn]) _) $$ Hk [H11]
  · iexists _; iexact H11
  iintro Hk H11
  iapply (t_stepN K X B q0 q1 arg10 arg8 arg12 arg14 harg14 arg13 arg15 d _ (some 0) (n + 1) (by omega) _ _ _ (by rw [off10_1_eq i h2 h3, ← hn]; rfl) _) $$ Hv H12 Hb [H14] H13 H15
  · iexists _; iexact H14
  iintro Hv H12 Hb H14 H13 H15
  have e2 : stepC K X B q0 q1 (some 0) (n + 1) (chain K X B q0 q1 (i 2).val (n + 1)) = chain K X B q0 q1 (i 2).val (n + 2) := by
    show _ = stepC K X B q0 q1 (biasAt (i 2).val (n + 1)) _ _
    unfold biasAt; rw [if_neg (by omega), if_pos (by omega)]
  rw [e2]
  iapply (t_stepN K X B q0 q1 arg10 arg8 arg11 arg13 harg13 arg14 arg15 d _ (some 1) (n + 2) (by omega) _ _ _ (by rw [off11_eq i h2 h3, ← hn]) _) $$ Hv H11 Hb [H13] H14 H15
  · iexists _; iexact H13
  iintro Hv H11 Hb H13 H14 H15
  have e3 : stepC K X B q0 q1 (some 1) (n + 2) (chain K X B q0 q1 (i 2).val (n + 2)) = chain K X B q0 q1 (i 2).val ((i 2).val + 1) := by
    rw [← hn]
    show _ = stepC K X B q0 q1 (biasAt (n + 2) (n + 2)) _ _
    unfold biasAt; rw [if_pos rfl]
  rw [e3]
  iapply (t_pvN X arg10 arg13 arg15 d _ (i 2).val (by omega) _ _ _ (Gen.k0_off12_eq i) _) $$ Hv H13 H15
  iintro Hv H13 H15
  iapply (t_ret d _ _)
  unfold Fin'
  isplitl [Hk]; · iexact Hk
  isplitl [Hb]; · iexact Hb
  isplitl [Hv]; · iexact Hv
  isplitl [H11]; · iexists _; iexact H11
  isplitl [H12]; · iexists _; iexact H12
  isplitl [H13]; · iexists _; iexact H13
  isplitl [H14]; · iexists _; iexact H14
  iexact H15

theorem t_tailEven (d : Dev nD) (h2 : k0_cond2 i = 1#1) (h3 : ¬k0_cond3 i = 1#1) (st : St F) (n : ℕ) (hn : n + 1 = (i 2).val) :
    Mid K X B q0 q1 arg6 arg8 arg10 arg11 arg12 arg13 arg14 arg15 d (i 2).val n st
      ⊢ W d (fun _ => Fin' K X B q0 q1 arg6 arg8 arg10 arg11 arg12 arg13 arg14 arg15 d (i 2).val)
          (tailEven i arg6 arg8 arg10 arg11 arg12 arg13 harg13 arg14 harg14 arg15 q0 q1 h2 h3 st) := by
  have hi : (i 2).val < 8 := (i 2).isLt
  unfold Mid
  iintro ⟨%hst, Hk, Hb, Hv, H11, H12, H13, H14, H15⟩
  subst hst
  unfold tailEven
  iapply (t_qkN K q0 q1 arg6 arg12 d _ (n + 1) (by omega) _ _ (by rw [Gen.k0_off13_eq i, ← hn]) _) $$ Hk H12
  iintro Hk H12
  iapply (t_stepN K X B q0 q1 arg10 arg8 arg11 arg13 harg13 arg14 arg15 d _ (some 0) n (by omega) _ _ _ (by rw [off14_eq i h2 h3, ← hn]; rfl) _) $$ Hv H11 Hb H13 H14 H15
  iintro Hv H11 Hb H13 H14 H15
  have e1 : stepC K X B q0 q1 (some 0) n (chain K X B q0 q1 (i 2).val n) = chain K X B q0 q1 (i 2).val (n + 1) := by
    show _ = stepC K X B q0 q1 (biasAt (i 2).val n) _ _
    unfold biasAt; rw [if_neg (by omega), if_pos (by omega)]
  rw [e1]
  iapply (t_stepN K X B q0 q1 arg10 arg8 arg12 arg14 harg14 arg13 arg15 d _ (some 1) (n + 1) (by omega) _ _ _ (by rw [off15_eq i h2 h3, ← hn]) _) $$ Hv H12 Hb [H14] H13 H15
  · iexists _; iexact H14
  iintro Hv H12 Hb H14 H13 H15
  have e2 : stepC K X B q0 q1 (some 1) (n + 1) (chain K X B q0 q1 (i 2).val (n + 1)) = chain K X B q0 q1 (i 2).val ((i 2).val + 1) := by
    rw [← hn]
    show _ = stepC K X B q0 q1 (biasAt (n + 1) (n + 1)) _ _
    unfold biasAt; rw [if_pos rfl]
  rw [e2]
  iapply (t_pvN X arg10 arg14 arg15 d _ (i 2).val (by omega) _ _ _ (Gen.k0_off16_eq i) _) $$ Hv H14 H15
  iintro Hv H14 H15
  iapply (t_ret d _ _)
  unfold Fin'
  isplitl [Hk]; · iexact Hk
  isplitl [Hb]; · iexact Hb
  isplitl [Hv]; · iexact Hv
  isplitl [H11]; · iexists _; iexact H11
  isplitl [H12]; · iexists _; iexact H12
  isplitl [H13]; · iexists _; iexact H13
  isplitl [H14]; · iexists _; iexact H14
  iexact H15

theorem t_tailFirst (d : Dev nD) (h2 : ¬k0_cond2 i = 1#1) (st : St F) (hn : (i 2).val = 0) :
    Mid K X B q0 q1 arg6 arg8 arg10 arg11 arg12 arg13 arg14 arg15 d (i 2).val 0 st
      ⊢ W d (fun _ => Fin' K X B q0 q1 arg6 arg8 arg10 arg11 arg12 arg13 arg14 arg15 d (i 2).val)
          (tailFirst i arg8 arg10 arg11 arg13 harg13 arg14 arg15 h2 st) := by
  unfold Mid
  iintro ⟨%hst, Hk, Hb, Hv, H11, H12, H13, H14, H15⟩
  subst hst
  unfold tailFirst
  iapply (t_stepN K X B q0 q1 arg10 arg8 arg11 arg13 harg13 arg14 arg15 d _ (some 1) 0 (by omega) _ _ _ (by rw [off17_eq i h2, hn]) _) $$ Hv H11 Hb H13 H14 H15
  iintro Hv H11 Hb H13 H14 H15
  have e1 : stepC K X B q0 q1 (some 1) 0 (chain K X B q0 q1 (i 2).val 0) = chain K X B q0 q1 (i 2).val ((i 2).val + 1) := by
    rw [hn]
    rfl
  rw [e1]
  iapply (t_pvN X arg10 arg13 arg15 d _ (i 2).val (by omega) _ _ _ (Gen.k0_off18_eq i) _) $$ Hv H13 H15
  iintro Hv H13 H15
  iapply (t_ret d _ _)
  unfold Fin'
  isplitl [Hk]; · iexact Hk
  isplitl [Hb]; · iexact Hb
  isplitl [Hv]; · iexact Hv
  isplitl [H11]; · iexists _; iexact H11
  isplitl [H12]; · iexact H12
  isplitl [H13]; · iexists _; iexact H13
  isplitl [H14]; · iexists _; iexact H14
  iexact H15

end body

end Cert.Attn
-- ==== Proof.Parts.lean ====
/- The printed body at a point: the values filled in at the first query tile, the sums cleared, the first tile's
   scores, the loop, the switch, the output written. -/
module

public import proofs.«01_k».proof.Proof.Eqs

@[expose] public section

noncomputable section

namespace Cert.Attn

open Idealize.ShloMosaic Idealize.SL.Sem
open Cert.KernelIdeal
open Cert.KernelIdeal.Facts₀ Cert.KernelIdeal.Facts

variable {F : FTy → Type} [FloatOps F] [Named F]

section

variable {β : Type} (i : grid0.Coords) (arg3 : Memref sig .tc .vmem S4x64 .f32) (harg3 : arg3.IsWhole) (arg4 : Memref sig .tc .vmem S128x1 .f32) (harg4 : arg4.IsWhole) (arg5 : Memref sig .tc .vmem S128x512 .bf16) (harg5 : arg5.IsWhole) (arg6 : Memref sig .tc .vmem S1x4096x128 .bf16) (harg6 : arg6.IsWhole) (arg7 : Memref sig .tc .vmem S128x4096 .bf16) (harg7 : arg7.IsWhole) (arg8 : Memref sig .tc .vmem S1x2x512x512 .f32) (harg8 : arg8.IsWhole) (arg9 : Memref sig .tc .vmem S1x512x128 .bf16) (harg9 : arg9.IsWhole) (arg10 : Memref sig .tc .vmem S1x144x4096 .bf16) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .bf16) (harg13 : arg13.IsWhole) (arg14 : Memref sig .tc .vmem S2x512x512 .bf16) (harg14 : arg14.IsWhole) (arg15 : Memref sig .tc .vmem S2x144x512 .f32) (harg15 : arg15.IsWhole)

/-- The values and the rows of ones written. -/
def fillK (k : PG F β) : PG F β :=
  .op (.load arg7 (Rect.unit (s := S128x4096) ![0, 0] S128x4096.size inb_S128x4096_S128x4096_0_0).toLoadRect (View.loadsAt_vmem h_S128x4096)) fun v =>
  .op (.load arg10 (Rect.unit (s := S1x144x4096) ![0, 0, 0] S1x128x4096.size inb_S1x144x4096_S1x128x4096_0_0_0).toLoadRect (View.loadsAt_vmem h_S1x128x4096)) fun _ =>
  .op (.store arg10 (Rect.unit (s := S1x144x4096) ![0, 0, 0] S1x128x4096.size inb_S1x144x4096_S1x128x4096_0_0_0) (Gen.k0_pay1226 v) Finset.univ
    (View.stores_vmem h_S1x128x4096 (harg10.storeExact_slice rfl _ packedbf16_S1x144x4096_S1x128x4096_0_0_0) (fun _ => rfl)) (.inl rfl)) fun _ =>
  .op (.load arg10 (Rect.unit (s := S1x144x4096) ![0, 128, 0] S1x16x4096.size inb_S1x144x4096_S1x16x4096_0_128_0).toLoadRect (View.loadsAt_vmem h_S1x16x4096)) fun _ =>
  .op (.store arg10 (Rect.unit (s := S1x144x4096) ![0, 128, 0] S1x16x4096.size inb_S1x144x4096_S1x16x4096_0_128_0) (Gen.k0_pay1227 (F := F)) Finset.univ
    (View.stores_vmem h_S1x16x4096 (harg10.storeExact_slice rfl _ packedbf16_S1x144x4096_S1x16x4096_0_128_0) (fun _ => rfl)) (.inl rfl)) fun _ =>
  k

/-- The queries read, the sums and the first exponentials cleared. -/
def initK (k : Vec F S128x512 .bf16 → PG F β) : PG F β :=
  .op (.load arg5 (Rect.unit (s := S128x512) ![0, 0] S128x512.size inb_S128x512_S128x512_0_0).toLoadRect (View.loadsAt_vmem h_S128x512)) fun v =>
  .op (.load arg15 (Rect.unit (s := S2x144x512) ![0, 0, 0] S2x144x512.size inb_S2x144x512_S2x144x512_0_0_0).toLoadRect (View.loadsAt_vmem h_S2x144x512)) fun _ =>
  .op (.store arg15 (Rect.unit (s := S2x144x512) ![0, 0, 0] S2x144x512.size inb_S2x144x512_S2x144x512_0_0_0) (Gen.k0_pay1231 (F := F)) Finset.univ
    (View.stores_vmem_bits_univ h_S2x144x512 rfl) (.inl rfl)) fun _ =>
  .op (.load arg14 (Rect.unit (s := S2x512x512) ![0, 0, 0] S2x512x512.size inb_S2x512x512_S2x512x512_0_0_0).toLoadRect (View.loadsAt_vmem h_S2x512x512)) fun _ =>
  .op (.store arg14 (Rect.unit (s := S2x512x512) ![0, 0, 0] S2x512x512.size inb_S2x512x512_S2x512x512_0_0_0) (Gen.k0_pay1232 (F := F)) Finset.univ
    (View.stores_vmem h_S2x512x512 (harg14.storeExact_slice rfl _ packedbf16_S2x512x512_S2x512x512_0_0_0) (fun _ => rfl)) (.inl rfl)) fun _ =>
  k v

/-- The output written. -/
def endK (r : Σ' (v98 : FVec F S1x1 .f32) (v102 : FVec F S144x512 .f32) (v103 : FVec F S128x512 .f32), FVec F S1x512 .f32) : PG F PUnit :=
  .op (.load arg4 (Rect.unit (s := S128x1) ![0, 0] S128x1.size inb_S128x1_S128x1_0_0).toLoadRect (View.loadsAt_vmem h_S128x1)) fun g =>
  .op (.load arg9 (Rect.unit (s := S1x512x128) ![0, 0, 0] S1x512x128.size inb_S1x512x128_S1x512x128_0_0_0).toLoadRect (View.loadsAt_vmem h_S1x512x128)) fun _ =>
  .op (.store arg9 (Rect.unit (s := S1x512x128) ![0, 0, 0] S1x512x128.size inb_S1x512x128_S1x512x128_0_0_0) (Gen.k0_pay1 r.1 r.2.1 r.2.2.1 r.2.2.2 g) Finset.univ
    (View.stores_vmem h_S1x512x128 (harg9.storeExact_slice rfl _ packedbf16_S1x512x128_S1x512x128_0_0_0) (fun _ => rfl)) (.inl rfl)) fun _ =>
  .ret ⟨⟩

/-- The query tile as a scalar. -/
def qiW : BitVec 32 := BitVec.ofNat 32 (i 2).val

/-- The number of far tiles as a scalar. -/
def farW : BitVec 32 := Scalar.maxsi (Scalar.subi (qiW i) 1#32) 0#32

/-- Half of it rounded down, as the body computes it. -/
def halfW : BitVec 32 :=
  Scalar.addi 0#32 (Scalar.muli (Scalar.divsi (Scalar.subi (Scalar.select
    (Scalar.andi (Scalar.cmpi .ne (Scalar.subi (Scalar.extui (Scalar.cmpi .sgt (farW i) 0#32)) (Scalar.extui (Scalar.cmpi .slt (farW i) 0#32)))
      (Scalar.subi (Scalar.extui (Scalar.cmpi .sgt 2#32 0#32)) (Scalar.extui (Scalar.cmpi .slt 2#32 0#32))))
      (Scalar.cmpi .ne (Scalar.remsi (farW i) 2#32) 0#32))
    (Scalar.subi (Scalar.divsi (farW i) 2#32) 1#32) (Scalar.divsi (farW i) 2#32)) 0#32) 1#32) 1#32)

/-- The two loops. -/
def loopsK (v3 : Vec F S128x512 .bf16) (kj : Vec F S1x512x128 .bf16) :
    PG F (Σ' (v41 : BitVec 32) (v65_0 : FVec F S8x512 .f32) (v65_1 : FVec F S8x512 .f32) (v65_2 : FVec F S8x512 .f32) (v65_3 : FVec F S8x512 .f32) (v66 : BitVec 1), BitVec 32) :=
  Scf.Loop.for (k0_t1_loop i) (k0_t1_ok i) ((Gen.k0_pay1233, Gen.k0_pay1233, Gen.k0_pay1234, Gen.k0_pay1234) : St F)
    (Gen.k0_t1_body i arg3 harg3 arg4 harg4 arg5 harg5 arg6 harg6 arg7 harg7 arg8 harg8 arg9 harg9 arg10 harg10 arg11 harg11 arg12 harg12 arg13 harg13 arg14 harg14 arg15 harg15 (qiW i) (Gen.k0_pay1229 v3) (Gen.k0_pay1230 v3) (Gen.k0_pay1233 (F := F)) (Gen.k0_pay1234 (F := F)) (Gen.k0_pay1235 kj)) >>= fun st =>
  Scf.Loop.for (k0_t2_loop i) (k0_t2_ok i) st
    (Gen.k0_t2_body i arg3 harg3 arg4 harg4 arg5 harg5 arg6 harg6 arg7 harg7 arg8 harg8 arg9 harg9 arg10 harg10 arg11 harg11 arg12 harg12 arg13 harg13 arg14 harg14 arg15 harg15 (qiW i) (Gen.k0_pay1229 v3) (Gen.k0_pay1230 v3) (Gen.k0_pay1233 (F := F)) (Gen.k0_pay1234 (F := F)) (Gen.k0_pay1235 kj) (halfW i)) >>= fun st =>
  .ret ⟨farW i, st.1, st.2.1, st.2.2.1, st.2.2.2, (Scalar.cmpi .eq (qiW i) 0#32), 2#32⟩

/-- What follows them. -/
def endsK (v3 : Vec F S128x512 .bf16) (y : Σ' (v41 : BitVec 32) (v65_0 : FVec F S8x512 .f32) (v65_1 : FVec F S8x512 .f32) (v65_2 : FVec F S8x512 .f32) (v65_3 : FVec F S8x512 .f32) (v66 : BitVec 1), BitVec 32) : PG F PUnit :=
  k0_part429 i arg3 harg3 arg4 harg4 arg5 harg5 arg6 harg6 arg7 harg7 arg8 harg8 arg9 harg9 arg10 harg10 arg11 harg11 arg12 harg12 arg13 harg13 arg14 harg14 arg15 harg15 (qiW i) (Gen.k0_pay1229 v3) (Gen.k0_pay1230 v3) y.1 y.2.1 y.2.2.1 y.2.2.2.1 y.2.2.2.2.1 y.2.2.2.2.2.1 y.2.2.2.2.2.2 >>= fun r =>
  endK arg4 arg9 harg9 r

/-- Everything after the filling. -/
def coreK : PG F PUnit :=
  initK arg5 arg14 harg14 arg15 fun v3 =>
  .op (.load arg6 (Rect.unit (s := S1x4096x128) ![0, 0, 0] S1x512x128.size inb_S1x4096x128_S1x512x128_0_0_0).toLoadRect (View.loadsAt_vmem h_S1x512x128)) fun kj =>
  .op (.load arg11 (Rect.unit (s := S2x512x512) ![(0 : Fin 2).val, 0, 0] S1x512x512.size (inbS 0)).toLoadRect (View.loadsAt_vmem h_S1x512x512)) fun _ =>
  .op (.store arg11 (Rect.unit (s := S2x512x512) ![(0 : Fin 2).val, 0, 0] S1x512x512.size (inbS 0)) (scoreOf kj (Gen.k0_pay1229 v3)) Finset.univ (View.stores_vmem_bits_univ h_S1x512x512 rfl) (.inl rfl)) fun _ =>
  .op (.load arg11 (Rect.unit (s := S2x512x512) ![(1 : Fin 2).val, 0, 0] S1x512x512.size (inbS 1)).toLoadRect (View.loadsAt_vmem h_S1x512x512)) fun _ =>
  .op (.store arg11 (Rect.unit (s := S2x512x512) ![(1 : Fin 2).val, 0, 0] S1x512x512.size (inbS 1)) (scoreOf kj (Gen.k0_pay1230 v3)) Finset.univ (View.stores_vmem_bits_univ h_S1x512x512 rfl) (.inl rfl)) fun _ =>
  loopsK i arg3 harg3 arg4 harg4 arg5 harg5 arg6 harg6 arg7 harg7 arg8 harg8 arg9 harg9 arg10 harg10 arg11 harg11 arg12 harg12 arg13 harg13 arg14 harg14 arg15 harg15 v3 kj >>= fun y => endsK i arg3 harg3 arg4 harg4 arg5 harg5 arg6 harg6 arg7 harg7 arg8 harg8 arg9 harg9 arg10 harg10 arg11 harg11 arg12 harg12 arg13 harg13 arg14 harg14 arg15 harg15 v3 y

/-- The first part without the filling. -/
def headK : PG F (Σ' (arg2 : BitVec 32) (v12 : FVec F S128x512 .bf16) (v17 : FVec F S128x512 .bf16) (v26 : FVec F S8x512 .f32) (v27 : FVec F S8x512 .f32), FVec F S512x128 .bf16) :=
  initK arg5 arg14 harg14 arg15 fun v3 =>
  .op (.load arg6 (Rect.unit (s := S1x4096x128) ![0, 0, 0] S1x512x128.size inb_S1x4096x128_S1x512x128_0_0_0).toLoadRect (View.loadsAt_vmem h_S1x512x128)) fun kj =>
    .ret ⟨qiW i, Gen.k0_pay1229 v3, Gen.k0_pay1230 v3, Gen.k0_pay1233, Gen.k0_pay1234, Gen.k0_pay1235 kj⟩

set_option maxRecDepth 100000 in
theorem part427_first (h : Scalar.cmpi .ne (Scalar.extui (Scalar.cmpi .eq (BitVec.ofNat 32 (i 2).val) 0#32)) 0#32 = 1#1) :
    k0_part427 (F := F) i arg3 harg3 arg4 harg4 arg5 harg5 arg6 harg6 arg7 harg7 arg8 harg8 arg9 harg9 arg10 harg10 arg11 harg11 arg12 harg12 arg13 harg13 arg14 harg14 arg15 harg15 = fillK arg7 arg10 harg10 (headK i arg5 arg6 arg14 harg14 arg15) := by
  rw [Gen.k0_part427_eq_skeleton]
  unfold Gen.k0_part427_skel
  dsimp only
  rw [dif_pos h]
  chain_rfl

set_option maxRecDepth 100000 in
theorem part427_rest (h : ¬Scalar.cmpi .ne (Scalar.extui (Scalar.cmpi .eq (BitVec.ofNat 32 (i 2).val) 0#32)) 0#32 = 1#1) :
    k0_part427 (F := F) i arg3 harg3 arg4 harg4 arg5 harg5 arg6 harg6 arg7 harg7 arg8 harg8 arg9 harg9 arg10 harg10 arg11 harg11 arg12 harg12 arg13 harg13 arg14 harg14 arg15 harg15 = headK i arg5 arg6 arg14 harg14 arg15 := by
  rw [Gen.k0_part427_eq_skeleton]
  unfold Gen.k0_part427_skel
  dsimp only
  rw [dif_neg h]
  chain_rfl

set_option maxRecDepth 100000 in
theorem core_eq : (headK i arg5 arg6 arg14 harg14 arg15 >>= fun x => k0_part428 (F := F) i arg3 harg3 arg4 harg4 arg5 harg5 arg6 harg6 arg7 harg7 arg8 harg8 arg9 harg9 arg10 harg10 arg11 harg11 arg12 harg12 arg13 harg13 arg14 harg14 arg15 harg15 x.1 x.2.1 x.2.2.1 x.2.2.2.1 x.2.2.2.2.1 x.2.2.2.2.2 >>= fun y =>
    k0_part429 i arg3 harg3 arg4 harg4 arg5 harg5 arg6 harg6 arg7 harg7 arg8 harg8 arg9 harg9 arg10 harg10 arg11 harg11 arg12 harg12 arg13 harg13 arg14 harg14 arg15 harg15 x.1 x.2.1 x.2.2.1 y.1 y.2.1 y.2.2.1 y.2.2.2.1 y.2.2.2.2.1 y.2.2.2.2.2.1 y.2.2.2.2.2.2 >>= fun r => endK arg4 arg9 harg9 r) = coreK i arg3 harg3 arg4 harg4 arg5 harg5 arg6 harg6 arg7 harg7 arg8 harg8 arg9 harg9 arg10 harg10 arg11 harg11 arg12 harg12 arg13 harg13 arg14 harg14 arg15 harg15 := by
  rw [Gen.k0_part428_eq_skeleton]
  chain_rfl

set_option maxRecDepth 100000 in
theorem body_first (h : Scalar.cmpi .ne (Scalar.extui (Scalar.cmpi .eq (BitVec.ofNat 32 (i 2).val) 0#32)) 0#32 = 1#1) :
    cc0_diff_attention (F := F) i arg3 harg3 arg4 harg4 arg5 harg5 arg6 harg6 arg7 harg7 arg8 harg8 arg9 harg9 arg10 harg10 arg11 harg11 arg12 harg12 arg13 harg13 arg14 harg14 arg15 harg15 = fillK arg7 arg10 harg10 (coreK i arg3 harg3 arg4 harg4 arg5 harg5 arg6 harg6 arg7 harg7 arg8 harg8 arg9 harg9 arg10 harg10 arg11 harg11 arg12 harg12 arg13 harg13 arg14 harg14 arg15 harg15) := by
  rw [Gen.cc0_diff_attention_eq_skeleton]
  unfold Gen.cc0_diff_attention_skel
  rw [part427_first i arg3 harg3 arg4 harg4 arg5 harg5 arg6 harg6 arg7 harg7 arg8 harg8 arg9 harg9 arg10 harg10 arg11 harg11 arg12 harg12 arg13 harg13 arg14 harg14 arg15 harg15 h, ← core_eq]
  chain_rfl

set_option maxRecDepth 100000 in
theorem body_rest (h : ¬Scalar.cmpi .ne (Scalar.extui (Scalar.cmpi .eq (BitVec.ofNat 32 (i 2).val) 0#32)) 0#32 = 1#1) :
    cc0_diff_attention (F := F) i arg3 harg3 arg4 harg4 arg5 harg5 arg6 harg6 arg7 harg7 arg8 harg8 arg9 harg9 arg10 harg10 arg11 harg11 arg12 harg12 arg13 harg13 arg14 harg14 arg15 harg15 = coreK i arg3 harg3 arg4 harg4 arg5 harg5 arg6 harg6 arg7 harg7 arg8 harg8 arg9 harg9 arg10 harg10 arg11 harg11 arg12 harg12 arg13 harg13 arg14 harg14 arg15 harg15 := by
  rw [Gen.cc0_diff_attention_eq_skeleton]
  unfold Gen.cc0_diff_attention_skel
  rw [part427_rest i arg3 harg3 arg4 harg4 arg5 harg5 arg6 harg6 arg7 harg7 arg8 harg8 arg9 harg9 arg10 harg10 arg11 harg11 arg12 harg12 arg13 harg13 arg14 harg14 arg15 harg15 h, ← core_eq]
  chain_rfl

end

end Cert.Attn
-- ==== Proof.Point.lean ====
/- The body at a point of the grid as a whole. -/
module

public import proofs.«01_k».proof.Proof.Body
public import proofs.«01_k».proof.Proof.Parts

@[expose] public section

noncomputable section

namespace Cert.Attn

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow Idealize.ShloMosaic.ValueIdx
open Cert.KernelIdeal
open Cert.KernelIdeal.Facts₀ Cert.KernelIdeal.Facts

variable {F : FTy → Type} [FloatOps F] [Named F]

local notation "𝕄" => MT nD τ sig Unit (Elt F) ℕ (UR sig nD τ) ℕ

theorem t_bind {α β : Type} (d : Dev nD) (R : α → sProp 𝕄) (Q : β → sProp 𝕄) (p : PG F α) (k : α → PG F β) :
    W d R p ⊢ iprop((∀ a, R a -∗ W d Q (k a)) -∗ W d Q (p >>= k)) := by
  unfold W
  rw [wp_bind]
  exact wp_wand frame (wpE (defs₀ (F := F)) Variants.none (d : Thread nD τ) none) Set.univ

theorem chain_zero (K : Vec F S1x4096x128 .bf16) (X : Vec F S1x144x4096 .bf16) (B : Vec F S1x2x512x512 .f32) (q0 q1 : FVec F S128x512 .bf16) (qi : ℕ) :
    chain K X B q0 q1 qi 0 = chain0 := rfl

attribute [local irreducible] wp
attribute [local irreducible] tripK tailOdd tailEven tailFirst chain finA Sc Mid k0_part429

section body

variable (L : Vec F S4x64 .f32) (G : Vec F S128x1 .f32) (K : Vec F S1x4096x128 .bf16) (V : Vec F S128x4096 .bf16) (X : Vec F S1x144x4096 .bf16) (B : Vec F S1x2x512x512 .f32) (v3 : Vec F S128x512 .bf16)
variable (i : grid0.Coords) (arg3 : Memref sig .tc .vmem S4x64 .f32) (harg3 : arg3.IsWhole) (arg4 : Memref sig .tc .vmem S128x1 .f32) (harg4 : arg4.IsWhole) (arg5 : Memref sig .tc .vmem S128x512 .bf16) (harg5 : arg5.IsWhole) (arg6 : Memref sig .tc .vmem S1x4096x128 .bf16) (harg6 : arg6.IsWhole) (arg7 : Memref sig .tc .vmem S128x4096 .bf16) (harg7 : arg7.IsWhole) (arg8 : Memref sig .tc .vmem S1x2x512x512 .f32) (harg8 : arg8.IsWhole) (arg9 : Memref sig .tc .vmem S1x512x128 .bf16) (harg9 : arg9.IsWhole) (arg10 : Memref sig .tc .vmem S1x144x4096 .bf16) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .bf16) (harg13 : arg13.IsWhole) (arg14 : Memref sig .tc .vmem S2x512x512 .bf16) (harg14 : arg14.IsWhole) (arg15 : Memref sig .tc .vmem S2x144x512 .f32) (harg15 : arg15.IsWhole)

theorem t_loops (d : Dev nD) (kj : Vec F S1x512x128 .bf16) (st : St F) :
    Mid K X B (Gen.k0_pay1229 v3) (Gen.k0_pay1230 v3) arg6 arg8 arg10 arg11 arg12 arg13 arg14 arg15 d (i 2).val 0 (Gen.k0_pay1233, Gen.k0_pay1233, Gen.k0_pay1234, Gen.k0_pay1234)
      ⊢ W d (fun y => Mid K X B (Gen.k0_pay1229 v3) (Gen.k0_pay1230 v3) arg6 arg8 arg10 arg11 arg12 arg13 arg14 arg15 d (i 2).val (2 * (k0_t1_loop i).trips) (y.2.1, y.2.2.1, y.2.2.2.1, y.2.2.2.2.1))
          (loopsK i arg3 harg3 arg4 harg4 arg5 harg5 arg6 harg6 arg7 harg7 arg8 harg8 arg9 harg9 arg10 harg10 arg11 harg11 arg12 harg12 arg13 harg13 arg14 harg14 arg15 harg15 v3 kj) := by
  unfold loopsK
  iintro HM
  iapply (Scf.wp_for_bind frame (wpE (defs₀ (F := F)) Variants.none (d : Thread nD τ) none) Set.univ _ _ _ _ _ _
    (fun n => Mid K X B (Gen.k0_pay1229 v3) (Gen.k0_pay1230 v3) arg6 arg8 arg10 arg11 arg12 arg13 arg14 arg15 d (i 2).val (2 * n)) (fun k acc => by
      obtain ⟨m0, m1, a0, a1⟩ := acc
      have e : 2 * (k.val + 1) = 2 * k.val + 2 := by omega
      beta_reduce
      rw [t1_eq, e]
      exact t_trip K X B (Gen.k0_pay1229 v3) (Gen.k0_pay1230 v3) i arg6 arg8 arg10 arg11 arg12 arg13 harg13 arg14 harg14 arg15 d k (m0, m1, a0, a1))) $$ HM
  iintro %acc HM
  iapply (Scf.wp_for_bind frame (wpE (defs₀ (F := F)) Variants.none (d : Thread nD τ) none) Set.univ _ _ _ _ _ _
    (fun n acc => Mid K X B (Gen.k0_pay1229 v3) (Gen.k0_pay1230 v3) arg6 arg8 arg10 arg11 arg12 arg13 arg14 arg15 d (i 2).val (2 * (k0_t1_loop i).trips) acc) (fun k acc => by
      have h1 := k.isLt
      have h2 := trips2_eq i
      unfold Scf.Loop.trips at h2
      omega)) $$ HM
  iintro %acc HM
  iapply (t_ret d _ _)
  iexact HM

/-- What the end of a point writes. -/
def endV (A : Vec F S2x144x512 .f32) : Vec F S1x512x128 .bf16 :=
  Gen.k0_pay1 (Gen.k0_pay1251 L) (Gen.k0_pay1253 (window A ![(1 : Fin 2).val, 0, 0] S1x144x512.size (inbA 1)))
    (Gen.k0_pay1254 (window A ![(0 : Fin 2).val, 0, 0] S1x144x512.size (inbA 0)))
    (Gen.k0_pay1255 (window A ![(0 : Fin 2).val, 0, 0] S1x144x512.size (inbA 0))) G

theorem window_full {s : Shape} {α : Type} (x : s.Idx → α) (off : Fin s.rank → ℕ) (h0 : ∀ a, off a = 0) (inb : ∀ a, off a + s.size a ≤ s.size a) :
    window x off s.size inb = x := by
  have h : off = fun _ => 0 := funext h0
  subst h
  have := window_put_same x (fun _ => 0) s.size inb x
  rwa [put_full x _ (fun _ => rfl) x] at this

theorem t_fin (d : Dev nD) (A : Vec F S2x144x512 .f32) :
    ow d arg3 L ⊢ iprop(ow d arg4 G -∗ owx d arg9 -∗ ow d arg15 A
      -∗ W d (fun _ => iprop(ow d arg3 L ∗ ow d arg4 G ∗ ow d arg9 (endV L G A) ∗ owx d arg15)) (finK arg3 arg15 >>= fun r => endK arg4 arg9 harg9 r)) := by
  iintro H3 H4 ⟨%Y, H9⟩ H15
  iapply (ld d _ arg3 L inb_S4x64_S4x64_0_0 _ _) $$ H3
  iintro H3
  iapply (ld d _ arg15 A (inbA 0) _ _) $$ H15
  iintro H15
  iapply (ld d _ arg15 A (inbA 1) _ _) $$ H15
  iintro H15
  iapply (ld d _ arg4 G inb_S128x1_S128x1_0_0 _ _) $$ H4
  iintro H4
  iapply (ld d _ arg9 Y inb_S1x512x128_S1x512x128_0_0_0 _ _) $$ H9
  iintro H9
  iapply (sto d _ arg9 Y inb_S1x512x128_S1x512x128_0_0_0 _ _ _ _) $$ H9
  iintro H9
  iapply (t_ret d _ _)
  isplitl [H3]; · iexact H3
  isplitl [H4]; · iexact H4
  isplitl [H9]
  · rw [put_full Y _ (by intro a; match a with | 0 => rfl | 1 => rfl | 2 => rfl), window_full G _ (by intro a; match a with | 0 => rfl | 1 => rfl), window_full L _ (by intro a; match a with | 0 => rfl | 1 => rfl)]
    iexact H9
  iexists _; iexact H15

theorem t_tail (d : Dev nD) (P : sProp 𝕄) (p : PG F PUnit)
    (h : P ⊢ W d (fun _ => Fin' K X B (Gen.k0_pay1229 v3) (Gen.k0_pay1230 v3) arg6 arg8 arg10 arg11 arg12 arg13 arg14 arg15 d (i 2).val) p) :
    iprop(P ∗ ow d arg3 L ∗ ow d arg4 G ∗ owx d arg9)
      ⊢ W d (fun _ => iprop(ow d arg3 L ∗ ow d arg4 G ∗ ow d arg6 K ∗ ow d arg8 B ∗ ow d arg9 (endV L G (finA K X B (Gen.k0_pay1229 v3) (Gen.k0_pay1230 v3) (i 2).val)) ∗ ow d arg10 X
        ∗ owx d arg11 ∗ owx d arg12 ∗ owx d arg13 ∗ owx d arg14 ∗ owx d arg15)) ((p >>= fun _ => finK arg3 arg15) >>= fun r => endK arg4 arg9 harg9 r) := by
  rw [bind_assoc]
  iintro ⟨HP, H3, H4, H9⟩
  iapply (t_bind d (fun _ => Fin' K X B (Gen.k0_pay1229 v3) (Gen.k0_pay1230 v3) arg6 arg8 arg10 arg11 arg12 arg13 arg14 arg15 d (i 2).val) _ p _) $$ [HP]
  · iapply h $$ HP
  iintro %u HF
  unfold Fin'
  icases HF with ⟨H6, H8, H10, H11, H12, H13, H14, H15⟩
  iapply (wp_wand frame (wpE (defs₀ (F := F)) Variants.none (d : Thread nD τ) none) Set.univ) $$ [H3 H4 H9 H15]
  · iapply (t_fin L G arg3 arg4 arg9 harg9 arg15 d _) $$ H3 H4 H9 H15
  iintro %u ⟨H3, H4, H9, H15⟩
  isplitl [H3]; · iexact H3
  isplitl [H4]; · iexact H4
  isplitl [H6]; · iexact H6
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem t_ends (d : Dev nD) (y : Σ' (v41 : BitVec 32) (v65_0 : FVec F S8x512 .f32) (v65_1 : FVec F S8x512 .f32) (v65_2 : FVec F S8x512 .f32) (v65_3 : FVec F S8x512 .f32) (v66 : BitVec 1), BitVec 32) :
    iprop(Mid K X B (Gen.k0_pay1229 v3) (Gen.k0_pay1230 v3) arg6 arg8 arg10 arg11 arg12 arg13 arg14 arg15 d (i 2).val (2 * (k0_t1_loop i).trips) (y.2.1, y.2.2.1, y.2.2.2.1, y.2.2.2.2.1)
        ∗ ow d arg3 L ∗ ow d arg4 G ∗ owx d arg9)
      ⊢ W d (fun _ => iprop(ow d arg3 L ∗ ow d arg4 G ∗ ow d arg6 K ∗ ow d arg8 B ∗ ow d arg9 (endV L G (finA K X B (Gen.k0_pay1229 v3) (Gen.k0_pay1230 v3) (i 2).val)) ∗ ow d arg10 X
        ∗ owx d arg11 ∗ owx d arg12 ∗ owx d arg13 ∗ owx d arg14 ∗ owx d arg15)) (endsK i arg3 harg3 arg4 harg4 arg5 harg5 arg6 harg6 arg7 harg7 arg8 harg8 arg9 harg9 arg10 harg10 arg11 harg11 arg12 harg12 arg13 harg13 arg14 harg14 arg15 harg15 v3 y) := by
  obtain ⟨v41, m0, m1, a0, a1, v66, c2⟩ := y
  unfold endsK
  dsimp only
  have ht := trips_eq i
  have hi : (i 2).val < 8 := (i 2).isLt
  by_cases h2 : k0_cond2 i = 1#1
  · have h2' := (cond2_iff i).mp h2
    by_cases h3 : k0_cond3 i = 1#1
    · have h3' := (cond3_iff i h2).mp h3
      rw [part429_odd i arg3 harg3 arg4 harg4 arg5 harg5 arg6 harg6 arg7 harg7 arg8 harg8 arg9 harg9 arg10 harg10 arg11 harg11 arg12 harg12 arg13 harg13 arg14 harg14 arg15 harg15 (qiW i) (Gen.k0_pay1229 v3) (Gen.k0_pay1230 v3) v41 m0 m1 a0 a1 v66 c2 h2 h3]
      exact t_tail L G K X B v3 i arg3 arg4 arg6 arg8 arg9 harg9 arg10 arg11 arg12 arg13 arg14 arg15 d _ _ (t_tailOdd K X B (Gen.k0_pay1229 v3) (Gen.k0_pay1230 v3) i arg6 arg8 arg10 arg11 arg12 arg13 harg13 arg14 harg14 arg15 d h2 h3 (m0, m1, a0, a1) (2 * (k0_t1_loop i).trips) (by omega))
    · have h3' := mt (cond3_iff i h2).mpr h3
      rw [part429_even i arg3 harg3 arg4 harg4 arg5 harg5 arg6 harg6 arg7 harg7 arg8 harg8 arg9 harg9 arg10 harg10 arg11 harg11 arg12 harg12 arg13 harg13 arg14 harg14 arg15 harg15 (qiW i) (Gen.k0_pay1229 v3) (Gen.k0_pay1230 v3) v41 m0 m1 a0 a1 v66 c2 h2 h3]
      exact t_tail L G K X B v3 i arg3 arg4 arg6 arg8 arg9 harg9 arg10 arg11 arg12 arg13 arg14 arg15 d _ _ (t_tailEven K X B (Gen.k0_pay1229 v3) (Gen.k0_pay1230 v3) i arg6 arg8 arg10 arg11 arg12 arg13 harg13 arg14 harg14 arg15 d h2 h3 (m0, m1, a0, a1) (2 * (k0_t1_loop i).trips) (by omega))
  · have h2' := mt (cond2_iff i).mpr h2
    rw [part429_first i arg3 harg3 arg4 harg4 arg5 harg5 arg6 harg6 arg7 harg7 arg8 harg8 arg9 harg9 arg10 harg10 arg11 harg11 arg12 harg12 arg13 harg13 arg14 harg14 arg15 harg15 (qiW i) (Gen.k0_pay1229 v3) (Gen.k0_pay1230 v3) v41 m0 m1 a0 a1 v66 c2 h2]
    have h0 : 2 * (k0_t1_loop i).trips = 0 := by omega
    rw [h0]
    exact t_tail L G K X B v3 i arg3 arg4 arg6 arg8 arg9 harg9 arg10 arg11 arg12 arg13 arg14 arg15 d _ _ (t_tailFirst K X B (Gen.k0_pay1229 v3) (Gen.k0_pay1230 v3) i arg6 arg8 arg10 arg11 arg12 arg13 harg13 arg14 arg15 d h2 (m0, m1, a0, a1) (by omega))

theorem t_core (d : Dev nD) :
    iprop(ow d arg3 L ∗ ow d arg4 G ∗ ow d arg5 v3 ∗ ow d arg6 K ∗ ow d arg7 V ∗ ow d arg8 B ∗ owx d arg9 ∗ ow d arg10 (vext V)
        ∗ owx d arg11 ∗ owx d arg12 ∗ owx d arg13 ∗ owx d arg14 ∗ owx d arg15)
      ⊢ W d (fun _ => iprop(ow d arg3 L ∗ ow d arg4 G ∗ ow d arg5 v3 ∗ ow d arg6 K ∗ ow d arg7 V ∗ ow d arg8 B ∗ ow d arg9 (outV (i 2).val L G v3 K V B) ∗ ow d arg10 (vext V)
        ∗ owx d arg11 ∗ owx d arg12 ∗ owx d arg13 ∗ owx d arg14 ∗ owx d arg15)) (coreK (F := F) i arg3 harg3 arg4 harg4 arg5 harg5 arg6 harg6 arg7 harg7 arg8 harg8 arg9 harg9 arg10 harg10 arg11 harg11 arg12 harg12 arg13 harg13 arg14 harg14 arg15 harg15) := by
  iintro ⟨H3, H4, H5, H6, H7, H8, H9, H10, ⟨%S11, H11⟩, H12, H13, ⟨%P14, H14⟩, ⟨%A15, H15⟩⟩
  iapply (ld d _ arg5 v3 inb_S128x512_S128x512_0_0 _ _) $$ H5
  iintro H5
  iapply (ld d _ arg15 A15 inb_S2x144x512_S2x144x512_0_0_0 _ _) $$ H15
  iintro H15
  iapply (sto d _ arg15 A15 inb_S2x144x512_S2x144x512_0_0_0 _ _ _ _) $$ H15
  iintro H15
  iapply (ld d _ arg14 P14 inb_S2x512x512_S2x512x512_0_0_0 _ _) $$ H14
  iintro H14
  iapply (sto d _ arg14 P14 inb_S2x512x512_S2x512x512_0_0_0 _ _ _ _) $$ H14
  iintro H14
  iapply (ld d _ arg6 K inb_S1x4096x128_S1x512x128_0_0_0 _ _) $$ H6
  iintro H6
  iapply (ld d _ arg11 S11 (inbS 0) _ _) $$ H11
  iintro H11
  iapply (sto d _ arg11 S11 (inbS 0) _ _ _ _) $$ H11
  iintro H11
  iapply (ld d _ arg11 _ (inbS 1) _ _) $$ H11
  iintro H11
  iapply (sto d _ arg11 _ (inbS 1) _ _ _ _) $$ H11
  iintro H11
  rw [window_full v3 _ (by intro a; match a with | 0 => rfl | 1 => rfl),
    put_full A15 _ (by intro a; match a with | 0 => rfl | 1 => rfl | 2 => rfl), put_full P14 _ (by intro a; match a with | 0 => rfl | 1 => rfl | 2 => rfl)]
  have e11 : put (put S11 ![(0 : Fin 2).val, 0, 0] S1x512x512.size (scoreOf (window K ![0, 0, 0] S1x512x128.size inb_S1x4096x128_S1x512x128_0_0_0) (Gen.k0_pay1229 v3)))
      ![(1 : Fin 2).val, 0, 0] S1x512x512.size (scoreOf (window K ![0, 0, 0] S1x512x128.size inb_S1x4096x128_S1x512x128_0_0_0) (Gen.k0_pay1230 v3))
      = Sc K (Gen.k0_pay1229 v3) (Gen.k0_pay1230 v3) 0 := by
    unfold Sc Kt
    exact qkV_indep _ _ _ S11 _
  rw [e11, show outV (i 2).val L G v3 K V B = endV L G (finA K (vext V) B (Gen.k0_pay1229 v3) (Gen.k0_pay1230 v3) (i 2).val) from rfl]
  iapply (t_bind d _ _ _ _) $$ [H6 H8 H10 H11 H12 H13 H14 H15]
  · iapply (t_loops K (vext V) B v3 i arg3 harg3 arg4 harg4 arg5 harg5 arg6 harg6 arg7 harg7 arg8 harg8 arg9 harg9 arg10 harg10 arg11 harg11 arg12 harg12 arg13 harg13 arg14 harg14 arg15 harg15 d _ (Gen.k0_pay1233, Gen.k0_pay1233, Gen.k0_pay1234, Gen.k0_pay1234))
    unfold Mid
    rw [chain_zero]
    isplitr
    · ipureintro; rfl
    isplitl [H6]; · iexact H6
    isplitl [H8]; · iexact H8
    isplitl [H10]; · iexact H10
    isplitl [H11]; · iexact H11
    isplitl [H12]; · iexact H12
    isplitl [H13]; · iexact H13
    isplitl [H14]; · iexact H14
    iexact H15
  iintro %y HM
  iapply (wp_wand frame (wpE (defs₀ (F := F)) Variants.none (d : Thread nD τ) none) Set.univ) $$ [HM H3 H4 H9]
  · iapply (t_ends L G K (vext V) B v3 i arg3 harg3 arg4 harg4 arg5 harg5 arg6 harg6 arg7 harg7 arg8 harg8 arg9 harg9 arg10 harg10 arg11 harg11 arg12 harg12 arg13 harg13 arg14 harg14 arg15 harg15 d y)
    isplitl [HM]; · iexact HM
    isplitl [H3]; · iexact H3
    isplitl [H4]; · iexact H4
    iexact H9
  iintro %u ⟨H3, H4, H6, H8, H9, H10, H11, H12, H13, H14, H15⟩
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- A point: its output written from the buffers it reads, the values filled in. -/
theorem t_point (d : Dev nD) (hX : (i 2).val ≠ 0 → X = vext V) :
    iprop(ow d arg3 L ∗ ow d arg4 G ∗ ow d arg5 v3 ∗ ow d arg6 K ∗ ow d arg7 V ∗ ow d arg8 B ∗ owx d arg9 ∗ ow d arg10 X
        ∗ owx d arg11 ∗ owx d arg12 ∗ owx d arg13 ∗ owx d arg14 ∗ owx d arg15)
      ⊢ W d (fun _ => iprop(ow d arg3 L ∗ ow d arg4 G ∗ ow d arg5 v3 ∗ ow d arg6 K ∗ ow d arg7 V ∗ ow d arg8 B ∗ ow d arg9 (outV (i 2).val L G v3 K V B) ∗ ow d arg10 (vext V)
        ∗ owx d arg11 ∗ owx d arg12 ∗ owx d arg13 ∗ owx d arg14 ∗ owx d arg15)) (cc0_diff_attention (F := F) i arg3 harg3 arg4 harg4 arg5 harg5 arg6 harg6 arg7 harg7 arg8 harg8 arg9 harg9 arg10 harg10 arg11 harg11 arg12 harg12 arg13 harg13 arg14 harg14 arg15 harg15) := by
  by_cases h0 : (i 2).val = 0
  · rw [body_first i arg3 harg3 arg4 harg4 arg5 harg5 arg6 harg6 arg7 harg7 arg8 harg8 arg9 harg9 arg10 harg10 arg11 harg11 arg12 harg12 arg13 harg13 arg14 harg14 arg15 harg15 ((cond1_iff i).mpr h0)]
    iintro ⟨H3, H4, H5, H6, H7, H8, H9, H10, H11, H12, H13, H14, H15⟩
    iapply (ld d _ arg7 V inb_S128x4096_S128x4096_0_0 _ _) $$ H7
    iintro H7
    iapply (ld d _ arg10 X inb_S1x144x4096_S1x128x4096_0_0_0 _ _) $$ H10
    iintro H10
    iapply (sto d _ arg10 X inb_S1x144x4096_S1x128x4096_0_0_0 _ _ _ _) $$ H10
    iintro H10
    iapply (ld d _ arg10 _ inb_S1x144x4096_S1x16x4096_0_128_0 _ _) $$ H10
    iintro H10
    iapply (sto d _ arg10 _ inb_S1x144x4096_S1x16x4096_0_128_0 _ _ _ _) $$ H10
    iintro H10
    rw [window_full V _ (by intro a; match a with | 0 => rfl | 1 => rfl), vext_indep V X]
    iapply (t_core L G K V B v3 i arg3 harg3 arg4 harg4 arg5 harg5 arg6 harg6 arg7 harg7 arg8 harg8 arg9 harg9 arg10 harg10 arg11 harg11 arg12 harg12 arg13 harg13 arg14 harg14 arg15 harg15 d)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · rw [body_rest i arg3 harg3 arg4 harg4 arg5 harg5 arg6 harg6 arg7 harg7 arg8 harg8 arg9 harg9 arg10 harg10 arg11 harg11 arg12 harg12 arg13 harg13 arg14 harg14 arg15 harg15 (mt (cond1_iff i).mp h0), hX h0]
    exact t_core L G K V B v3 i arg3 harg3 arg4 harg4 arg5 harg5 arg6 harg6 arg7 harg7 arg8 harg8 arg9 harg9 arg10 harg10 arg11 harg11 arg12 harg12 arg13 harg13 arg14 harg14 arg15 harg15 d

end body

end Cert.Attn
-- ==== Proof.Run.lean ====
/- The attention call's run: the body at every point of the grid, and the program as a whole. -/
module

public import proofs.«01_k».proof.Proof.Point
public import proofs.«01_k».proof.Proof.Gen.KernelIdeal.Frame

@[expose] public section

set_option maxRecDepth 16384
set_option maxHeartbeats 1000000

noncomputable section

namespace Cert.Attn

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal
open Cert.KernelIdeal.Gen (V iblk before0_0_of before0_1_of before0_2_of before0_3_of before0_4_of before0_5_of bigSep_W0 scopedRest0_eq launch₀0 fetch0_4)

variable {F : FTy → Type} [FloatOps F] [Named F]

local notation "𝕄" => MT nD τ sig Unit (Elt F) ℕ (UR sig nD τ) ℕ

attribute [local irreducible] wp

variable (m : (ℓ : Loc nD τ sig) → Buf (Elt F) ℓ) (ρ : Dev nD → PrngReg)

/-- What the value scratch is known to hold before point `n`: the extended value block, unless the point fills it. -/
def XOk (c : Dev nD) (n : ℕ) (X : Vec F S1x144x4096 .bf16) : Prop :=
  ∀ t : Fin cfg0.N, t.val = n → (grid0.coords t 2).val ≠ 0 → X = vext (iblk m c 4 t)

/-- The invariant before point `n`. -/
def Inv (c : Dev nD) (n : ℕ) : sProp 𝕄 :=
  iprop((∃ X, ⌜XOk m c n X⌝ ∗ ow c (Memref.whole cc0_scratch0) X) ∗ owx c (Memref.whole cc0_scratch1) ∗ owx c (Memref.whole cc0_scratch2)
    ∗ owx c (Memref.whole cc0_scratch3) ∗ owx c (Memref.whole cc0_scratch4) ∗ owx c (Memref.whole cc0_scratch5) ∗ ∃ r, prngReg c r)

/-- The output block at point `t`. -/
def oblk (c : Dev nD) (t : Fin cfg0.N) : Vec F S1x512x128 .bf16 :=
  outV (grid0.coords t 2).val (iblk m c 0 t) (iblk m c 1 t) (iblk m c 2 t) (iblk m c 3 t) (iblk m c 4 t) (iblk m c 5 t)

/-- The proof data: the arrays as the region finds them, each input's block left in place, the output's block computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oblk m c t
  Φ t := Inv m c t.val
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = oblk m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- The third coordinate of a point. -/
theorem coord2 (t : Fin cfg0.N) : (grid0.coords t 2).val = t.val % 8 := by
  rw [Pipeline.Grid.coords_val (G := grid0) t 2 (S := 1) (B := 8) (by decide) (by decide), Nat.div_one]

/-- The value block stays while the third coordinate moves on. -/
theorem vblk_next (c : Dev nD) (t t' : Fin cfg0.N) (ht : t'.val = t.val + 1) (h : (grid0.coords t' 2).val ≠ 0) :
    iblk m c 4 t' = iblk m c 4 t := by
  have hf : (cfg0.win 4).fetch t' = false := by
    rw [← Bool.not_eq_true, fetch0_4, ← coord2]; exact h
  obtain ⟨_, e⟩ := (cfg0.win 4).index_eq_of_fetch rfl t' hf
  have et : (⟨t'.val - 1, Nat.lt_of_le_of_lt (Nat.sub_le _ _) t'.isLt⟩ : Fin cfg0.N) = t := Fin.ext (by simp [ht])
  rw [et] at e
  have hfe : ∀ (u : Fin cfg0.N) (d), (dats m 0 c).fetched 4 u d = iblk m c 4 u := fun u d => by
    unfold Dat.fetched Dat.blockOf iblk; rw [A_eq]; try rfl
  rw [← hfe t' (iblk m c 4 t), ← hfe t (iblk m c 4 t)]
  exact (dats m 0 c).fetched_congr 4 e rfl _

theorem xok_next (c : Dev nD) (t : Fin cfg0.N) : XOk m c (t.val + 1) (vext (iblk m c 4 t)) :=
  fun t' ht h => by rw [vblk_next m c t t' ht h]

/-- The body at point `t`. -/
theorem sound (c : Dev nD) (t : Fin cfg0.N) (O : sProp 𝕄) :
    iprop(Inv m c t.val ∗ O ∗ (∃ d, ow c (Gen.st0_0 t) ((dats m 0 c).before 0 t d)) ∗ (∃ d, ow c (Gen.st0_1 t) ((dats m 0 c).before 1 t d))
        ∗ (∃ d, ow c (Gen.st0_2 t) ((dats m 0 c).before 2 t d)) ∗ (∃ d, ow c (Gen.st0_3 t) ((dats m 0 c).before 3 t d))
        ∗ (∃ d, ow c (Gen.st0_4 t) ((dats m 0 c).before 4 t d)) ∗ (∃ d, ow c (Gen.st0_5 t) ((dats m 0 c).before 5 t d))
        ∗ (∃ d, ow c (Gen.st0_6 t) ((dats m 0 c).before 6 t d)))
      ⊢ W c (fun _ => iprop(Inv m c (t.val + 1) ∗ O ∗ ow c (Gen.st0_0 t) (iblk m c 0 t) ∗ ow c (Gen.st0_1 t) (iblk m c 1 t) ∗ ow c (Gen.st0_2 t) (iblk m c 2 t)
        ∗ ow c (Gen.st0_3 t) (iblk m c 3 t) ∗ ow c (Gen.st0_4 t) (iblk m c 4 t) ∗ ow c (Gen.st0_5 t) (iblk m c 5 t) ∗ ow c (Gen.st0_6 t) (oblk m c t))) (Gen.bodyAt0 t) := by
  simp only [before0, before1, before2, before3, before4, before5]
  unfold Inv
  iintro ⟨⟨⟨%X, %hX, S0⟩, S1, S2, S3, S4, S5, Hp⟩, HO, ⟨%d0, H0⟩, ⟨%d1, H1⟩, ⟨%d2, H2⟩, ⟨%d3, H3⟩, ⟨%d4, H4⟩, ⟨%d5, H5⟩, ⟨%d6, H6⟩⟩
  unfold W
  iapply wp_wand $$ [S0 S1 S2 S3 S4 S5 H0 H1 H2 H3 H4 H5 H6]
  · iapply (t_point (iblk m c 0 t) (iblk m c 1 t) (iblk m c 3 t) (iblk m c 4 t) X (iblk m c 5 t) (iblk m c 2 t) (grid0.coords t) _ _ _ _ _ _ _ _ _ _ _ _ _ _ _ _ _ _ _ _ _ _ _ _ _ _ c (hX t rfl))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [S0]; · iexact S0
    isplitl [S1]; · iexact S1
    isplitl [S2]; · iexact S2
    isplitl [S3]; · iexact S3
    isplitl [S4]; · iexact S4
    iexact S5
  · iintro %_ ⟨H0, H1, H2, H3, H4, H5, H6, S0, S1, S2, S3, S4, S5⟩
    isplitl [S0 S1 S2 S3 S4 S5 Hp]
    · isplitl [S0]
      · iexists _; isplitr; · ipureintro; exact xok_next m c t
        iexact S0
      isplitl [S1]; · iexact S1
      isplitl [S2]; · iexact S2
      isplitl [S3]; · iexact S3
      isplitl [S4]; · iexact S4
      isplitl [S5]; · iexact S5
      iexact Hp
    isplitl [HO]; · iexact HO
    isplitl [H0]; · iexact H0
    isplitl [H1]; · iexact H1
    isplitl [H2]; · iexact H2
    isplitl [H3]; · iexact H3
    isplitl [H4]; · iexact H4
    isplitl [H5]; · iexact H5
    iexact H6

theorem body (c : Dev nD) : BodyObligation (dats m 0 c) (defs₀ (F := F)) Variants.none () Set.univ := fun t => by
  rw [bigSep_W0, bigSep_W0]
  rw [show (dats m 0 c).owesAt () t.succ = (dats m 0 c).owesAt () t.castSucc from rfl]
  have h := sound m c t ((dats m 0 c).owesAt () t.castSucc)
  rw [← after0, ← after1, ← after2, ← after3, ← after4, ← after5, ← after6] at h
  exact h

/-- A scratch buffer at some contents, as the pipeline's rest holds it. -/
theorem owx_whole (c : Dev nD) (b : Ref sig .tc) :
    (iprop(∃ f : Buf (Elt F) ((c : Thread nD τ).loc b), ((c : Thread nD τ).loc b) ↦{fullShare} f) : sProp 𝕄) = owx c (Memref.whole b) := by
  unfold owx ow
  congr 1; funext f; exact (owns_whole (c : Thread nD τ) b fullShare f).symm

theorem xok_zero (c : Dev nD) (X) : XOk m c 0 X := fun t ht h => absurd (by rw [coord2, ht]) h

theorem hin (c : Dev nD) : Pipeline.ΦA (cfgs 0).spec c ⊢ (dats m 0 c).Φ 0 := by
  show Pipeline.ΦA spec0 c ⊢ Inv m c 0
  unfold Pipeline.ΦA Inv
  rw [scopedRest0_eq]
  simp only [owx_whole]
  iintro ⟨⟨⟨%X, S0⟩, S1, S2, S3, S4, S5⟩, Hp⟩
  isplitl [S0]
  · iexists _; isplitr; · ipureintro; exact xok_zero m c X
    iexact S0
  isplitl [S1]; · iexact S1
  isplitl [S2]; · iexact S2
  isplitl [S3]; · iexact S3
  isplitl [S4]; · iexact S4
  isplitl [S5]; · iexact S5
  iexact Hp

theorem hout (c : Dev nD) : (dats m 0 c).Φ (Fin.last (cfgs 0).N) ⊢ Pipeline.ΦA (cfgs 0).spec c := by
  show Inv m c _ ⊢ Pipeline.ΦA spec0 c
  unfold Pipeline.ΦA Inv
  rw [scopedRest0_eq]
  simp only [owx_whole]
  iintro ⟨⟨%X, %hX, S0⟩, S1, S2, S3, S4, S5, Hp⟩
  isplitr [Hp]
  · isplitl [S0]; · iexists _; iexact S0
    isplitl [S1]; · iexact S1
    isplitl [S2]; · iexact S2
    isplitl [S3]; · iexact S3
    isplitl [S4]; · iexact S4
    iexact S5
  iexact Hp

/-- The program runs: every array ends at what its blocks were left as, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track_shared cfgs (dats m) 0 launch₀0 defs₀ Variants.none m ρ main
    (fun c => (body m c).loose) (fun _ _ _ => rfl) (fun _ _ => rfl) (V m) (Gen.hmain m Variants.none) (A_eq m)
    (hin m) (hout m) _ (fun _ h => h)

end Cert.Attn

end
-- ==== Proof.Frames.lean ====
/- The frame claims of the kernel's two programs, both from the one run. -/
module

public import proofs.«01_k».proof.Defs
public import proofs.«01_k».proof.Proof.Run
public import proofs.«01_k».proof.Proof.Gen.Kernel

@[expose] public section

noncomputable section

namespace Cert.Attn

open Idealize.ShloMosaic
open Idealize.ShloMosaic.TcCoe
open Idealize.SL.Sem
open Cert.KernelIdeal

variable {F : FTy → Type} [FloatOps F] [Named F]

/-- The run, read at the arguments and the semaphores. -/
theorem run_args (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).1 4).trans (((dats m 0 c).arrAt_in 4 rfl _).trans ((A_eq m c 4).trans (Gen.V_main_arg0 m c))),
      ((h.1 c).1 3).trans (((dats m 0 c).arrAt_in 3 rfl _).trans ((A_eq m c 3).trans (Gen.V_main_arg1 m c))),
      ((h.1 c).2 main_arg2 (Pipeline.mem_restRefs_of main_arg2 (by decide) (by decide))).trans (Gen.V_main_arg2 m c),
      ((h.1 c).2 main_arg3 (Pipeline.mem_restRefs_of main_arg3 (by decide) (by decide))).trans (Gen.V_main_arg3 m c),
      ((h.1 c).2 main_arg4 (Pipeline.mem_restRefs_of main_arg4 (by decide) (by decide))).trans (Gen.V_main_arg4 m c),
      ((h.1 c).2 main_arg5 (Pipeline.mem_restRefs_of main_arg5 (by decide) (by decide))).trans (Gen.V_main_arg5 m c),
      ((h.1 c).2 main_arg6 (Pipeline.mem_restRefs_of main_arg6 (by decide) (by decide))).trans (Gen.V_main_arg6 m c),
      ((h.1 c).2 main_arg7 (Pipeline.mem_restRefs_of main_arg7 (by decide) (by decide))).trans (Gen.V_main_arg7 m c)⟩, h.2⟩) (run_main m ρ)

theorem frame_kernelideal : Cert.quiescent_KernelIdeal := fun m ρ _ => run_args (F := Ideal) m ρ

section bits

/-- At the device's words the named constant is the literal the kernel prints. -/
local instance namedBits : Named Bits where
  named _ _ bits := FloatOps.ofBits bits

theorem kernel_runs : (∀ (m : (ℓ : Loc Cert.Kernel.nD Cert.Kernel.τ Cert.Kernel.sig) → Buf (Elt Bits) ℓ) (g : Dev Cert.Kernel.nD → PrngReg),
      θ_run (Cert.Kernel.defs (F := Bits)) (onTc (τ := Cert.Kernel.τ) (Cert.Kernel.main (F := Bits))) ⟨m, fun _ => 0, g⟩ (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0) ∧ r.2.mem ((c.tc : Thread Cert.Kernel.nD Cert.Kernel.τ).loc Cert.Kernel.main_arg1) = m ((c.tc : Thread Cert.Kernel.nD Cert.Kernel.τ).loc Cert.Kernel.main_arg1) ∧ r.2.mem ((c.tc : Thread Cert.Kernel.nD Cert.Kernel.τ).loc Cert.Kernel.main_arg2) = m ((c.tc : Thread Cert.Kernel.nD Cert.Kernel.τ).loc Cert.Kernel.main_arg2) ∧ r.2.mem ((c.tc : Thread Cert.Kernel.nD Cert.Kernel.τ).loc Cert.Kernel.main_arg3) = m ((c.tc : Thread Cert.Kernel.nD Cert.Kernel.τ).loc Cert.Kernel.main_arg3) ∧ r.2.mem ((c.tc : Thread Cert.Kernel.nD Cert.Kernel.τ).loc Cert.Kernel.main_arg4) = m ((c.tc : Thread Cert.Kernel.nD Cert.Kernel.τ).loc Cert.Kernel.main_arg4) ∧ r.2.mem ((c.tc : Thread Cert.Kernel.nD Cert.Kernel.τ).loc Cert.Kernel.main_arg5) = m ((c.tc : Thread Cert.Kernel.nD Cert.Kernel.τ).loc Cert.Kernel.main_arg5) ∧ r.2.mem ((c.tc : Thread Cert.Kernel.nD Cert.Kernel.τ).loc Cert.Kernel.main_arg6) = m ((c.tc : Thread Cert.Kernel.nD Cert.Kernel.τ).loc Cert.Kernel.main_arg6) ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0))
    = (∀ (m : (ℓ : Loc nD τ sig) → Buf (Elt Bits) ℓ) (ρ : Dev nD → PrngReg),
      θ_run defs (onTc (τ := τ) (main (F := Bits))) ⟨m, fun _ => 0, ρ⟩ (fun r => (∀ c : Dev nD,
        r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0)) := by
  chain_rfl

theorem frame_kernel : Cert.quiescent_Kernel := fun m ρ _ => (kernel_runs.mpr (fun m ρ => run_args (F := Bits) m ρ)) m ρ

end bits

/-- The named constant is what the kernel's literal stands for. -/
theorem preserves : Cert.preserves_Kernel_KernelIdeal :=
  IdealRules.named_const.statement Cert.KernelIdeal.κ "scale" .f32 0x3E38AA3B#32 (((8⁻¹ * (Real.log 2)⁻¹ : ℝ)) : EReal) rfl

end Cert.Attn

end
-- ==== Proof.Elem.lean ====
/- The steps of the attention read at one element, over extended reals. -/
module

public import proofs.«01_k».proof.Proof.Model
public import Idealize.ShloMosaic.Lib.MatmulPlain
public import Idealize.ShloMosaic.Lib.KernelVsHost
public import Idealize.ShloMosaic.Lib.ValueIdx
public import Idealize.ShloMosaic.PureOps.Ideal.Laws

@[expose] public section

noncomputable section

namespace Cert.Attn

open Idealize.ShloMosaic Idealize.SL.Sem
open Idealize.ShloMosaic.VecWindow Idealize.ShloMosaic.ValueIdx
open Cert.KernelIdeal
open Cert.KernelIdeal.Facts₀ Cert.KernelIdeal.Facts

theorem win3 {α : Type} {n0 n1 n2 m0 m1 m2 : ℕ} (x : (⟨3, ![n0, n1, n2]⟩ : Shape).Idx → α) (o0 o1 o2 : ℕ)
    (inb : ∀ a, (![o0, o1, o2] : Fin 3 → ℕ) a + (⟨3, ![m0, m1, m2]⟩ : Shape).size a ≤ (⟨3, ![n0, n1, n2]⟩ : Shape).size a)
    (i : Fin m0) (j : Fin m1) (k : Fin m2) (i' : Fin n0) (j' : Fin n1) (k' : Fin n2) (hi : i'.val = o0 + i.val) (hj : j'.val = o1 + j.val)
    (hk : k'.val = o2 + k.val) :
    window x ![o0, o1, o2] (⟨3, ![m0, m1, m2]⟩ : Shape).size inb (ix3 i j k) = x (ix3 i' j' k') := by
  unfold window
  refine congrArg x (funext fun a => ?_)
  match a with
  | 0 => exact Fin.ext (by show o0 + 1 * i.val = i'.val; omega)
  | 1 => exact Fin.ext (by show o1 + 1 * j.val = j'.val; omega)
  | 2 => exact Fin.ext (by show o2 + 1 * k.val = k'.val; omega)

theorem win4 {α : Type} {n0 n1 n2 n3 m0 m1 m2 m3 : ℕ} (x : (⟨4, ![n0, n1, n2, n3]⟩ : Shape).Idx → α) (o0 o1 o2 o3 : ℕ)
    (inb : ∀ a, (![o0, o1, o2, o3] : Fin 4 → ℕ) a + (⟨4, ![m0, m1, m2, m3]⟩ : Shape).size a ≤ (⟨4, ![n0, n1, n2, n3]⟩ : Shape).size a)
    (i : Fin m0) (j : Fin m1) (k : Fin m2) (l : Fin m3) (i' : Fin n0) (j' : Fin n1) (k' : Fin n2) (l' : Fin n3)
    (hi : i'.val = o0 + i.val) (hj : j'.val = o1 + j.val) (hk : k'.val = o2 + k.val) (hl : l'.val = o3 + l.val) :
    window x ![o0, o1, o2, o3] (⟨4, ![m0, m1, m2, m3]⟩ : Shape).size inb (ix4 i j k l) = x (ix4 i' j' k' l') := by
  unfold window
  refine congrArg x (funext fun a => ?_)
  match a with
  | 0 => exact Fin.ext (by show o0 + 1 * i.val = i'.val; omega)
  | 1 => exact Fin.ext (by show o1 + 1 * j.val = j'.val; omega)
  | 2 => exact Fin.ext (by show o2 + 1 * k.val = k'.val; omega)
  | 3 => exact Fin.ext (by show o3 + 1 * l.val = l'.val; omega)

theorem cast_11ab_ab {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

section rows

variable (S : Vec Ideal S2x512x512 .f32) (B : Vec Ideal S1x2x512x512 .f32)

/-- A score with the bias a step adds. -/
def rowAt (b : Option (Fin 2)) (c : Fin 2) (k t : Fin 512) : EReal :=
  match b with
  | none => S (ix3 c k t)
  | some b => S (ix3 c k t) + B (ix4 0 b k t)

theorem row8V_apply (b : Option (Fin 2)) (c : Fin 2) (j : ℕ) (hj : j < 64) (s : Fin 8) (t : Fin 512) :
    row8V S B b c j hj (ix2 s t) = rowAt S B b c ⟨8 * j + s.val, by omega⟩ t := by
  have e : ∀ h, (shapeCast S8x512 (window S ![c.val, 8 * j, 0] S1x8x512.size (inb8 c hj) : Vec Ideal S1x8x512 .f32) h) (ix2 s t)
      = S (ix3 c ⟨8 * j + s.val, by omega⟩ t) := fun h =>
    (shapeCast_1ab_ab_apply _ h s t).trans
      (win3 S _ _ _ _ 0 s t c _ t (by simp) (by simp) (by simp))
  match b with
  | none => exact e _
  | some b =>
    refine congrArg₂ (· + ·) (e _) ((cast_11ab_ab _ _ s t).trans (win4 B _ _ _ _ _ 0 0 s t 0 b _ t (by simp) (by simp) (by simp) (by simp)))

theorem row16V_apply (b : Option (Fin 2)) (c : Fin 2) (j : ℕ) (hj : j < 32) (s : Fin 16) (t : Fin 512) :
    row16V S B b c j hj (ix2 s t) = rowAt S B b c ⟨16 * j + s.val, by omega⟩ t := by
  have e : ∀ h, (shapeCast S16x512 (window S ![c.val, 16 * j, 0] S1x16x512.size (inb16 c hj) : Vec Ideal S1x16x512 .f32) h) (ix2 s t)
      = S (ix3 c ⟨16 * j + s.val, by omega⟩ t) := fun h =>
    (shapeCast_1ab_ab_apply _ h s t).trans
      (win3 S _ _ _ _ 0 s t c _ t (by simp) (by simp) (by simp))
  match b with
  | none => exact e _
  | some b =>
    refine congrArg₂ (· + ·) (e _) ((cast_11ab_ab _ _ s t).trans (win4 B _ _ _ _ _ 0 0 s t 0 b _ t (by simp) (by simp) (by simp) (by simp)))

theorem maxV_lt (b : Option (Fin 2)) (c : Fin 2) (t : Fin 512) (h : ∀ k, rowAt S B b c k t < ⊤) (s : Fin 8) (n : ℕ) :
    ∀ (j : ℕ) (hj : j + n ≤ 64) (a : FVec Ideal S8x512 .f32), a (ix2 s t) < ⊤ → maxV S B b c n j hj a (ix2 s t) < ⊤ := by
  induction n with
  | zero => intro j hj a ha; exact ha
  | succ n ih =>
    intro j hj a ha
    refine ih (j + 1) (by omega) _ ?_
    exact max_lt ha ((row8V_apply S B b c j (by omega) s t).symm ▸ h _)

theorem maxV_le (b : Option (Fin 2)) (c : Fin 2) (t : Fin 512) (s : Fin 8) (n : ℕ) :
    ∀ (j : ℕ) (hj : j + n ≤ 64) (a : FVec Ideal S8x512 .f32), a (ix2 s t) ≤ maxV S B b c n j hj a (ix2 s t) := by
  induction n with
  | zero => intro j hj a; exact le_refl _
  | succ n ih =>
    intro j hj a
    exact le_trans (le_max_left (a (ix2 s t)) (row8V S B b c j (by omega) (ix2 s t))) (ih (j + 1) (by omega) (maximumf a (row8V S B b c j (by omega))))

end rows

/-- Eight values' maximum, the way the rolls take it. -/
def max8 (f : Fin 8 → EReal) : EReal :=
  max (max (max (f 0) (f 4)) (max (f 2) (f 6))) (max (max (f 1) (f 5)) (max (f 3) (f 7)))

theorem roll_apply (n : BitVec 32) (x : FVec Ideal S8x512 .f32) (s s' : Fin 8) (t : Fin 512) (h : s'.val = (s.val + 8 - n.toNat % 8) % 8) :
    dynamicRotate 0 n none x rotates_S8x512_d0 (ix2 s t) = x (ix2 s' t) :=
  dynamicRotate_apply 0 n x _ _ _ fun b => by
    match b with
    | 0 => exact h
    | 1 => rfl

theorem rollMax_apply (x : FVec Ideal S8x512 .f32) (s : Fin 8) (t : Fin 512) : rollMax x (ix2 s t) = max8 fun s => x (ix2 s t) := by
  let y : FVec Ideal S8x512 .f32 := maximumf x (dynamicRotate 0 4#32 none x rotates_S8x512_d0)
  let z : FVec Ideal S8x512 .f32 := maximumf y (dynamicRotate 0 2#32 none y rotates_S8x512_d0)
  have hy : ∀ s s' : Fin 8, s'.val = (s.val + 8 - 4) % 8 → y (ix2 s t) = max (x (ix2 s t)) (x (ix2 s' t)) := fun s s' h =>
    congrArg (max (x (ix2 s t))) (roll_apply 4#32 x s s' t h)
  have hz : ∀ s s' : Fin 8, s'.val = (s.val + 8 - 2) % 8 → z (ix2 s t) = max (y (ix2 s t)) (y (ix2 s' t)) := fun s s' h =>
    congrArg (max (y (ix2 s t))) (roll_apply 2#32 y s s' t h)
  have hr : ∀ s s' : Fin 8, s'.val = (s.val + 8 - 1) % 8 → rollMax x (ix2 s t) = max (z (ix2 s t)) (z (ix2 s' t)) := fun s s' h =>
    congrArg (max (z (ix2 s t))) (roll_apply 1#32 z s s' t h)
  have h0 := hy 0 4 rfl
  have h1 := hy 1 5 rfl
  have h2 := hy 2 6 rfl
  have h3 := hy 3 7 rfl
  have h4 := hy 4 0 rfl
  have h5 := hy 5 1 rfl
  have h6 := hy 6 2 rfl
  have h7 := hy 7 3 rfl
  have g0 := hz 0 6 rfl
  have g1 := hz 1 7 rfl
  have g2 := hz 2 0 rfl
  have g3 := hz 3 1 rfl
  have g4 := hz 4 2 rfl
  have g5 := hz 5 3 rfl
  have g6 := hz 6 4 rfl
  have g7 := hz 7 5 rfl
  unfold max8
  match s with
  | 0 => rw [hr 0 7 rfl, g0, g7, h0, h6, h7, h5]; ac_rfl
  | 1 => rw [hr 1 0 rfl, g1, g0, h1, h7, h0, h6]; ac_rfl
  | 2 => rw [hr 2 1 rfl, g2, g1, h2, h0, h1, h7]; ac_rfl
  | 3 => rw [hr 3 2 rfl, g3, g2, h3, h1, h2, h0]; ac_rfl
  | 4 => rw [hr 4 3 rfl, g4, g3, h4, h2, h3, h1]; ac_rfl
  | 5 => rw [hr 5 4 rfl, g5, g4, h5, h3, h4, h2]; ac_rfl
  | 6 => rw [hr 6 5 rfl, g6, g5, h6, h4, h5, h3]; ac_rfl
  | 7 => rw [hr 7 6 rfl, g7, g6, h7, h5, h6, h4]; ac_rfl

theorem max8_lt (f : Fin 8 → EReal) (h : ∀ s, f s < ⊤) : max8 f < ⊤ :=
  max_lt (max_lt (max_lt (h _) (h _)) (max_lt (h _) (h _))) (max_lt (max_lt (h _) (h _)) (max_lt (h _) (h _)))

theorem le_max8 (f : Fin 8 → EReal) : f 0 ≤ max8 f := le_max_of_le_left (le_max_of_le_left (le_max_left _ _))

theorem twice_apply (x : FVec Ideal S8x512 .f32) (s : Fin 16) (t : Fin 512) : twice x (ix2 s t) = x (ix2 ⟨s.val % 8, Nat.mod_lt _ (by decide)⟩ t) := by
  unfold twice
  by_cases h : s.val < 8
  · exact concatenate_pair_apply_left (t := S16x512) 0 x x _ (ix2 s t) rfl (ix2 ⟨s.val % 8, Nat.mod_lt _ (by decide)⟩ t) fun b => by
      match b with
      | 0 => show s.val % 8 = s.val; omega
      | 1 => rfl
  · exact concatenate_pair_apply_right (t := S16x512) 0 x x _ (ix2 s t) rfl rfl (ix2 ⟨s.val % 8, Nat.mod_lt _ (by decide)⟩ t) (fun b => by
      match b with
      | 0 => intro hb; exact absurd rfl hb
      | 1 => intro hb; rfl) (by show s.val % 8 + 8 = s.val; omega)

/-- The new maximum of a channel is the same in every sublane. -/
theorem chanM_apply (S : Vec Ideal S2x512x512 .f32) (B : Vec Ideal S1x2x512x512 .f32) (b : Option (Fin 2)) (c : Fin 2) (mo : FVec Ideal S8x512 .f32) (s : Fin 8) (t : Fin 512) :
    chanM S B b c mo (ix2 s t) = max (mo (ix2 s t)) (max8 fun s => maxV S B b c 63 1 (by decide) (row8V S B b c 0 (by decide)) (ix2 s t)) :=
  congrArg (max (mo (ix2 s t))) (rollMax_apply _ s t)

theorem stepP_at (S : Vec Ideal S2x512x512 .f32) (B : Vec Ideal S1x2x512x512 .f32) (b : Option (Fin 2)) (st : St Ideal) (P : Vec Ideal S2x512x512 .bf16)
    (c : Fin 2) (k t : Fin 512) :
    stepP S B b st P (ix3 c k t) = Ideal.exp2 (rowAt S B b c k t - chanM S B b c (if c = 0 then st.1 else st.2.1) (ix2 ⟨k.val % 8, Nat.mod_lt _ (by decide)⟩ t)) := by
  rw [stepP_apply S B b st P c (ix3 c k t) rfl]
  unfold exp16V
  refine (shapeCast_ab_1ab_apply _ _ 0 _ _).trans ?_
  refine congrArg Ideal.exp2 (congrArg₂ (· - ·) ?_ ?_)
  · refine (row16V_apply S B b c _ _ _ _).trans (congrArg (fun k => rowAt S B b c k t) (Fin.ext ?_))
    show 16 * (k.val / 16) + k.val % 16 = k.val
    omega
  · refine (twice_apply _ _ _).trans (congrArg (fun s => chanM S B b c _ (ix2 s t)) (Fin.ext ?_))
    show k.val % 16 % 8 = k.val % 8
    omega

theorem scoreOf_apply (kj : Vec Ideal S1x512x128 .bf16) (q : FVec Ideal S128x512 .bf16) (u : Fin 1) (k t : Fin 512) :
    scoreOf kj q (ix3 u k t) = ∑ d : Fin 128, kj (ix3 0 k d) * q (ix2 d t) := by
  unfold scoreOf
  refine (shapeCast_ab_1ab_apply _ _ u k t).trans ?_
  refine (Ideal.matmul_plain_apply (M := 512) (K := 128) (N := 512) none _ q _ k t).trans ?_
  refine (congrArg (· + _) Ideal.ofBits_zero_f32).trans ?_
  rw [zero_add]
  exact Finset.sum_congr rfl fun d _ => congrArg (· * q (ix2 d t)) (shapeCast_1ab_ab_apply _ _ k d)

theorem accOf_apply (a : Vec Ideal S1x144x512 .f32) (al : FVec Ideal S8x512 .f32) (v : Vec Ideal S1x144x512 .bf16) (pt : Vec Ideal S1x512x512 .bf16)
    (u : Fin 1) (r : Fin 144) (t : Fin 512) :
    accOf a al v pt (ix3 u r t) = a (ix3 0 r t) * al (ix2 ⟨r.val % 8, Nat.mod_lt _ (by decide)⟩ t) + ∑ k : Fin 512, v (ix3 0 r k) * pt (ix3 0 k t) := by
  unfold accOf
  refine (shapeCast_ab_1ab_apply _ _ u r t).trans ?_
  refine congrArg₂ (· + ·) ?_ ?_
  · refine (shapeCast_apply _ _ (ix2 r t) (ix3 (⟨r.val / 8, by omega⟩ : Fin 18) (⟨r.val % 8, Nat.mod_lt _ (by decide)⟩ : Fin 8) t) ?_).trans ?_
    · rw [Shape.rowMajor_val_three, Shape.rowMajor_val_two]
      show (r.val / 8 * 8 + r.val % 8) * 512 + t.val = r.val * 512 + t.val
      omega
    refine congrArg₂ (· * ·) ?_ ?_
    · refine (shapeCast_apply _ _ _ (ix2 r t) ?_).trans (shapeCast_1ab_ab_apply _ _ r t)
      rw [Shape.rowMajor_val_three, Shape.rowMajor_val_two]
      show r.val * 512 + t.val = (r.val / 8 * 8 + r.val % 8) * 512 + t.val
      omega
    · refine (broadcastTo_apply _ _ _ (ix3 (0 : Fin 1) (⟨r.val % 8, Nat.mod_lt _ (by decide)⟩ : Fin 8) t) ?_).trans (shapeCast_ab_1ab_apply _ _ 0 _ _)
      intro a
      match a with
      | 0 => rfl
      | 1 => rfl
      | 2 => rfl
  · refine (Ideal.matmul_plain_apply (M := 144) (K := 512) (N := 512) none _ _ _ r t).trans ?_
    refine (congrArg (· + _) Ideal.ofBits_zero_f32).trans ?_
    rw [zero_add]
    exact Finset.sum_congr rfl fun k _ => congrArg₂ (· * ·) (shapeCast_1ab_ab_apply _ _ r k) (shapeCast_1ab_ab_apply _ _ k t)

theorem pv1V_same (c : Fin 2) (v : Vec Ideal S1x144x512 .bf16) (al : FVec Ideal S8x512 .f32) (P : Vec Ideal S2x512x512 .bf16) (A : Vec Ideal S2x144x512 .f32)
    (c' : Fin 2) (hc : c' ≠ c) (r : Fin 144) (t : Fin 512) : pv1V c v al P A (ix3 c' r t) = A (ix3 c' r t) :=
  put_miss _ _ _ _ _ 0 (by
    show ¬(c.val ≤ c'.val ∧ c'.val < c.val + 1)
    have : c'.val ≠ c.val := fun h => hc (Fin.ext h)
    omega)

theorem pv1V_at (c : Fin 2) (v : Vec Ideal S1x144x512 .bf16) (al : FVec Ideal S8x512 .f32) (P : Vec Ideal S2x512x512 .bf16) (A : Vec Ideal S2x144x512 .f32)
    (r : Fin 144) (t : Fin 512) :
    pv1V c v al P A (ix3 c r t) = A (ix3 c r t) * al (ix2 ⟨r.val % 8, Nat.mod_lt _ (by decide)⟩ t) + ∑ k : Fin 512, v (ix3 0 r k) * P (ix3 c k t) := by
  unfold pv1V
  rw [put_hit _ _ _ _ _ (by
    intro a
    match a with
    | 0 => show c.val ≤ c.val ∧ c.val < c.val + 1; omega
    | 1 => show 0 ≤ r.val ∧ r.val < 0 + 144; omega
    | 2 => show 0 ≤ t.val ∧ t.val < 0 + 512; omega)]
  refine Eq.trans (congrArg (accOf _ al v _) (funext fun a => ?_)) ((accOf_apply _ al v _ 0 r t).trans ?_)
  · match a with
    | 0 => exact Fin.ext (by show c.val - c.val = 0; omega)
    | 1 => rfl
    | 2 => rfl
  · refine congrArg₂ (· + ·) (congrArg (· * _) (win3 A _ _ _ _ 0 r t c r t (by simp) (by simp) (by simp))) ?_
    exact Finset.sum_congr rfl fun k _ => congrArg (v (ix3 0 r k) * ·) (win3 P _ _ _ _ 0 k t c k t (by simp) (by simp) (by simp))

theorem pvV_at (v : Vec Ideal S1x144x512 .bf16) (al0 al1 : FVec Ideal S8x512 .f32) (P : Vec Ideal S2x512x512 .bf16) (A : Vec Ideal S2x144x512 .f32)
    (c : Fin 2) (r : Fin 144) (t : Fin 512) :
    pvV v al0 al1 P A (ix3 c r t) = A (ix3 c r t) * (if c = 0 then al0 else al1) (ix2 ⟨r.val % 8, Nat.mod_lt _ (by decide)⟩ t)
      + ∑ k : Fin 512, v (ix3 0 r k) * P (ix3 c k t) := by
  unfold pvV
  match c with
  | 0 => rw [pv1V_same 1 _ _ _ _ 0 (by decide), pv1V_at]; rfl
  | 1 => rw [pv1V_at, pv1V_same 0 _ _ _ _ 1 (by decide)]; rfl

end Cert.Attn
-- ==== Proof.Host.lean ====
/- The arrays @main prepares for the attention, from the arguments. -/
module

public import proofs.«01_k».proof.Proof.Elem
public import proofs.«01_k».proof.Proof.Gen.KernelIdeal.Frame
public import Idealize.ShloMosaic.Lib.StableHlo.RunRead
public import Idealize.ShloMosaic.Lib.StableHlo.ReadAt

@[expose] public section

noncomputable section

namespace Cert.Attn

open Idealize.ShloMosaic Idealize.ShloMosaic.TcCoe Idealize.SL.Sem Idealize.ShloMosaic.StableHlo
open Idealize.ShloMosaic.VecWindow Idealize.ShloMosaic.ValueIdx
open Cert.KernelIdeal
open Cert.KernelIdeal.Facts₀ Cert.KernelIdeal.Facts

variable (m : (ℓ : Loc nD τ sig) → Buf (Elt Ideal) ℓ) (c : Dev nD)

/-- The distance table of a tile: query less key. -/
def dD : IVec S512x512 32 :=
  subi (broadcastInDim S512x512 ![0, 1] bcast_S1x512_S512x512_0_1 (broadcastInDim S1x512 ![1] bcast_S512_S1x512_1 (iotaInDim S512 32 0)))
    (broadcastInDim S512x512 ![0, 1] bcast_S512x1_S512x512_0_1 (broadcastInDim S512x1 ![0] bcast_S512_S512x1_0 (iotaInDim S512 32 0)))

/-- A word in every place. -/
def allI (b : BitVec 32) : IVec S512x512 32 := broadcastInDim S512x512 ![] bcast_S_S512x512 (constantI S_ 32 b)
def allF (b : BitVec 32) : FVec Ideal S512x512 .f32 := broadcastInDim S512x512 ![] bcast_S_S512x512 (constant S_ .f32 b)

/-- The bucket of a distance of sixteen or more. -/
def largeA (D : IVec S512x512 32) : IVec S512x512 32 :=
  minsi (addi (allI 16#32) (fptosi 32 (mulf (Host.divf (Host.log (Host.divf (sitofp .f32 (maxsi D (allI 1#32)) : FVec Ideal S512x512 .f32) (allF 0x41800000#32)) : FVec Ideal S512x512 .f32) (allF 0x40051592#32)) (allF 0x41800000#32)))) (allI 31#32)

/-- The buckets of a table of distances. -/
def bkA (D : IVec S512x512 32) : IVec S512x512 32 := select (cmpi .slt D (allI 16#32)) D (largeA D)
/-- The four vectors of the scalar weight. -/
def lamA (a b c d : FVec Ideal S64 .f32) : FVec Ideal S4x64 .f32 :=
  concatenate S4x64 0 [⟨S1x64, broadcastInDim S1x64 ![1] bcast_S64_S1x64_1 a⟩, ⟨S1x64, broadcastInDim S1x64 ![1] bcast_S64_S1x64_1 b⟩,
    ⟨S1x64, broadcastInDim S1x64 ![1] bcast_S64_S1x64_1 c⟩, ⟨S1x64, broadcastInDim S1x64 ![1] bcast_S64_S1x64_1 d⟩] concatenates_S1x64_S1x64_S1x64_S1x64_S4x64_d0

/-- The gain as a column. -/
def gA (x : FVec Ideal S128 .f32) : FVec Ideal S128x1 .f32 := shapeCast S128x1 x shapeCasts_S128_S128x1

set_option maxHeartbeats 4000000

theorem V_g : Gen.V m c main_v87 = gA (m ((c.tc : Thread nD τ).loc main_arg6)) := by
  unfold Gen.V
  after_reads_simp
  rfl

theorem V_lam : Gen.V m c main_v86 = lamA (m ((c.tc : Thread nD τ).loc main_arg2)) (m ((c.tc : Thread nD τ).loc main_arg3)) (m ((c.tc : Thread nD τ).loc main_arg4)) (m ((c.tc : Thread nD τ).loc main_arg5)) := by
  unfold Gen.V
  after_reads_simp
  rfl

end Cert.Attn
-- ==== Proof.HostB.lean ====
/- The tiles of position bias @main prepares. -/
module

public import proofs.«01_k».proof.Proof.Host
public import proofs.«01_k».proof.Proof.Gen.KernelIdeal.Frame
public import Idealize.ShloMosaic.Lib.StableHlo.RunRead
public import Idealize.ShloMosaic.Lib.StableHlo.ReadAt

@[expose] public section

noncomputable section

namespace Cert.Attn

open Idealize.ShloMosaic Idealize.ShloMosaic.TcCoe Idealize.SL.Sem Idealize.ShloMosaic.StableHlo
open Idealize.ShloMosaic.VecWindow Idealize.ShloMosaic.ValueIdx
open Cert.KernelIdeal
open Cert.KernelIdeal.Facts₀ Cert.KernelIdeal.Facts

variable (m : (ℓ : Loc nD τ sig) → Buf (Elt Ideal) ℓ) (c : Dev nD)

set_option maxHeartbeats 400000

variable (U : Valuation τ sig (Elt Ideal))

theorem s0_v6 : after Gen.hostOps0 U (Proc.devRef .tc main_v6) = dD := by
  after_reads_simp
  rfl
theorem s0_v8 : after Gen.hostOps0 U (Proc.devRef .tc main_v8) = shapeCast S8 (extractStridedSlice S1x8 ![31, 0] (U (Proc.devRef .tc main_arg7)) slices_S32x8_S1x8_31_0) shapeCasts_S1x8_S8 := by
  after_reads_simp
  rfl
theorem s0_v9 : after Gen.hostOps0 U (Proc.devRef .tc main_v9) = (Host.log (constant S_ .f32 0x40000000#32 : FVec Ideal S_ .f32)) := by
  after_reads_simp
theorem s0_v11 : after Gen.hostOps0 U (Proc.devRef .tc main_v11) = maxsi dD (allI 0#32) := by
  after_reads_simp
  rfl

theorem s0_v26 : after Gen.hostOps0 U (Proc.devRef .tc main_v26) = largeA (maxsi dD (allI 0#32)) := by
  after_reads_simp
  rfl
theorem s0_v28 : after Gen.hostOps0 U (Proc.devRef .tc main_v28) = cmpi .slt (maxsi dD (allI 0#32)) (allI 16#32) := by
  after_reads_simp
  rfl
theorem s0_arg7 : after Gen.hostOps0 U (Proc.devRef .tc main_arg7) = U (Proc.devRef .tc main_arg7) := by
  after_reads_simp

theorem s1_v29 : after Gen.hostOps0_1 U (Proc.devRef .tc main_v29) = select (U (Proc.devRef .tc main_v28) : IVec S512x512 1) (U (Proc.devRef .tc main_v11) : IVec S512x512 32) (U (Proc.devRef .tc main_v26)) := by
  after_reads_simp
  rfl
theorem s1_v6 : after Gen.hostOps0_1 U (Proc.devRef .tc main_v6) = U (Proc.devRef .tc main_v6) := by after_reads_simp
theorem s1_v8 : after Gen.hostOps0_1 U (Proc.devRef .tc main_v8) = U (Proc.devRef .tc main_v8) := by after_reads_simp
theorem s1_v9 : after Gen.hostOps0_1 U (Proc.devRef .tc main_v9) = U (Proc.devRef .tc main_v9) := by after_reads_simp
theorem s1_arg7 : after Gen.hostOps0_1 U (Proc.devRef .tc main_arg7) = U (Proc.devRef .tc main_arg7) := by after_reads_simp

/-- The rows a table of buckets indexes. -/
def rowsA (b : IVec S512x512 32) : IVec S512x512 32 := select (cmpi .slt b (allI 0#32)) (addi b (allI 32#32)) b
/-- A tile from its rows. -/
def tileB (x : FVec Ideal S32x8 .f32) (b : IVec S512x512 32) (far : FVec Ideal S8 .f32) (ln2 : FVec Ideal S_ .f32) : FVec Ideal S512x512x8 .f32 :=
  Host.divf (subf (Host.gather gather_S32x8_S512x512x1_S512x512x8_2_0_n_n_0_2_18 x (broadcastInDim S512x512x1 ![0, 1] bcast_S512x512_S512x512x1_0_1 (rowsA b)))
      (broadcastInDim S512x512x8 ![0, 1, 2] bcast_S1x1x8_S512x512x8_0_1_2 (broadcastInDim S1x1x8 ![2] bcast_S8_S1x1x8_2 far)))
    (broadcastInDim S512x512x8 ![] bcast_S_S512x512x8 ln2)

theorem s2_v41 : after Gen.hostOps0_2 U (Proc.devRef .tc main_v41) = tileB (U (Proc.devRef .tc main_arg7)) (U (Proc.devRef .tc main_v29)) (U (Proc.devRef .tc main_v8)) (U (Proc.devRef .tc main_v9)) := by
  after_reads_simp
  rfl
theorem s2_v44 : after Gen.hostOps0_2 U (Proc.devRef .tc main_v44) = broadcastInDim S512x512x1 ![0, 1] bcast_S512x512_S512x512x1_0_1 (cmpi .sge (U (Proc.devRef .tc main_v6) : IVec S512x512 32) (allI 0#32)) := by
  after_reads_simp
  rfl
theorem s2_cst : after Gen.hostOps0_2 U (Proc.devRef .tc main_cst_10) = (constant S_ .f32 0xFF800000#32 : FVec Ideal S_ .f32) := by
  after_reads_simp
theorem s2_v6 : after Gen.hostOps0_2 U (Proc.devRef .tc main_v6) = U (Proc.devRef .tc main_v6) := by after_reads_simp
theorem s2_v8 : after Gen.hostOps0_2 U (Proc.devRef .tc main_v8) = U (Proc.devRef .tc main_v8) := by after_reads_simp
theorem s2_v9 : after Gen.hostOps0_2 U (Proc.devRef .tc main_v9) = U (Proc.devRef .tc main_v9) := by after_reads_simp
theorem s2_arg7 : after Gen.hostOps0_2 U (Proc.devRef .tc main_arg7) = U (Proc.devRef .tc main_arg7) := by after_reads_simp

theorem s3_v45 : after Gen.hostOps0_3 U (Proc.devRef .tc main_v45) = select (broadcastInDim S512x512x8 ![0, 1, 2] bcast_S512x512x1_S512x512x8_0_1_2 (U (Proc.devRef .tc main_v44) : IVec S512x512x1 1))
    (U (Proc.devRef .tc main_v41) : FVec Ideal S512x512x8 .f32) (broadcastInDim S512x512x8 ![] bcast_S_S512x512x8 (U (Proc.devRef .tc main_cst_10))) := by
  after_reads_simp
  rfl
theorem s3_v6 : after Gen.hostOps0_3 U (Proc.devRef .tc main_v6) = U (Proc.devRef .tc main_v6) := by after_reads_simp
theorem s3_v8 : after Gen.hostOps0_3 U (Proc.devRef .tc main_v8) = U (Proc.devRef .tc main_v8) := by after_reads_simp
theorem s3_v9 : after Gen.hostOps0_3 U (Proc.devRef .tc main_v9) = U (Proc.devRef .tc main_v9) := by after_reads_simp
theorem s3_arg7 : after Gen.hostOps0_3 U (Proc.devRef .tc main_arg7) = U (Proc.devRef .tc main_arg7) := by after_reads_simp

theorem s4_v47 : after Gen.hostOps0_4 U (Proc.devRef .tc main_v47) = addi (U (Proc.devRef .tc main_v6) : IVec S512x512 32) (allI 512#32) := by
  after_reads_simp
  rfl
theorem s4_v62 : after Gen.hostOps0_4 U (Proc.devRef .tc main_v62) = largeA (addi (U (Proc.devRef .tc main_v6) : IVec S512x512 32) (allI 512#32)) := by
  after_reads_simp
  rfl
theorem s4_v64 : after Gen.hostOps0_4 U (Proc.devRef .tc main_v64) = cmpi .slt (addi (U (Proc.devRef .tc main_v6) : IVec S512x512 32) (allI 512#32)) (allI 16#32) := by
  after_reads_simp
  rfl
theorem s4_v8 : after Gen.hostOps0_4 U (Proc.devRef .tc main_v8) = U (Proc.devRef .tc main_v8) := by after_reads_simp
theorem s4_v9 : after Gen.hostOps0_4 U (Proc.devRef .tc main_v9) = U (Proc.devRef .tc main_v9) := by after_reads_simp
theorem s4_v45 : after Gen.hostOps0_4 U (Proc.devRef .tc main_v45) = U (Proc.devRef .tc main_v45) := by after_reads_simp
theorem s4_arg7 : after Gen.hostOps0_4 U (Proc.devRef .tc main_arg7) = U (Proc.devRef .tc main_arg7) := by after_reads_simp

theorem s5_v65 : after Gen.hostOps0_5 U (Proc.devRef .tc main_v65) = select (U (Proc.devRef .tc main_v64) : IVec S512x512 1) (U (Proc.devRef .tc main_v47) : IVec S512x512 32) (U (Proc.devRef .tc main_v62)) := by
  after_reads_simp
  rfl
theorem s5_v8 : after Gen.hostOps0_5 U (Proc.devRef .tc main_v8) = U (Proc.devRef .tc main_v8) := by after_reads_simp
theorem s5_v9 : after Gen.hostOps0_5 U (Proc.devRef .tc main_v9) = U (Proc.devRef .tc main_v9) := by after_reads_simp
theorem s5_v45 : after Gen.hostOps0_5 U (Proc.devRef .tc main_v45) = U (Proc.devRef .tc main_v45) := by after_reads_simp
theorem s5_arg7 : after Gen.hostOps0_5 U (Proc.devRef .tc main_arg7) = U (Proc.devRef .tc main_arg7) := by after_reads_simp

/-- Both tiles, for every head. -/
def bothA (p d : FVec Ideal S512x512x8 .f32) : FVec Ideal S8x2x512x512 .f32 :=
  transpose S8x2x512x512 [3, 0, 1, 2]
    (concatenate S2x512x512x8 0 [⟨S1x512x512x8, broadcastInDim S1x512x512x8 ![1, 2, 3] bcast_S512x512x8_S1x512x512x8_1_2_3 p⟩,
      ⟨S1x512x512x8, broadcastInDim S1x512x512x8 ![1, 2, 3] bcast_S512x512x8_S1x512x512x8_1_2_3 d⟩] concatenates_S1x512x512x8_S1x512x512x8_S2x512x512x8_d0)
    transposes_S2x512x512x8_S8x2x512x512_3_0_1_2

theorem s6_v81 : after Gen.hostOps0_6 U (Proc.devRef .tc main_v81) = bothA (tileB (U (Proc.devRef .tc main_arg7)) (U (Proc.devRef .tc main_v65)) (U (Proc.devRef .tc main_v8)) (U (Proc.devRef .tc main_v9))) (U (Proc.devRef .tc main_v45)) := by
  after_reads_simp
  rfl

theorem after_app (l₁ l₂ : List (HloOp τ sig (Elt Ideal))) (V : Valuation τ sig (Elt Ideal)) : after (l₁ ++ l₂) V = after l₂ (after l₁ V) := by
  induction l₁ generalizing V with
  | nil => rfl
  | cons a l ih => exact ih _

/-- The last bucket's entries, and the logarithm of two. -/
def farA (x : FVec Ideal S32x8 .f32) : FVec Ideal S8 .f32 := shapeCast S8 (extractStridedSlice S1x8 ![31, 0] x slices_S32x8_S1x8_31_0) shapeCasts_S1x8_S8
def ln2A : FVec Ideal S_ .f32 := Host.log (constant S_ .f32 0x40000000#32 : FVec Ideal S_ .f32)
/-- The tile on the diagonal, masked. -/
def diagB (x : FVec Ideal S32x8 .f32) : FVec Ideal S512x512x8 .f32 :=
  select (broadcastInDim S512x512x8 ![0, 1, 2] bcast_S512x512x1_S512x512x8_0_1_2 (broadcastInDim S512x512x1 ![0, 1] bcast_S512x512_S512x512x1_0_1 (cmpi .sge dD (allI 0#32))))
    (tileB x (bkA (maxsi dD (allI 0#32))) (farA x) ln2A) (broadcastInDim S512x512x8 ![] bcast_S_S512x512x8 (constant S_ .f32 0xFF800000#32 : FVec Ideal S_ .f32))

theorem V_bias (m : (ℓ : Loc nD τ sig) → Buf (Elt Ideal) ℓ) (c : Dev nD) :
    Gen.V m c main_v81 = bothA (tileB (m ((c.tc : Thread nD τ).loc main_arg7)) (bkA (addi dD (allI 512#32))) (farA (m ((c.tc : Thread nD τ).loc main_arg7))) ln2A) (diagB (m ((c.tc : Thread nD τ).loc main_arg7))) := by
  show after (Gen.hostOps0 ++ (Gen.hostOps0_1 ++ (Gen.hostOps0_2 ++ (Gen.hostOps0_3 ++ (Gen.hostOps0_4 ++ (Gen.hostOps0_5 ++ (Gen.hostOps0_6 ++ []))))))) _ (Proc.devRef .tc main_v81) = _
  rw [List.append_nil]
  simp only [after_app]
  rw [s6_v81, s5_v65, s5_v8, s5_v9, s5_v45, s5_arg7, s4_v47, s4_v62, s4_v64, s4_v8, s4_v9, s4_v45, s4_arg7, s3_v45, s3_v6, s3_v8, s3_v9, s3_arg7,
    s2_v41, s2_v44, s2_cst, s2_v6, s2_v8, s2_v9, s2_arg7, s1_v29, s1_v6, s1_v8, s1_v9, s1_arg7, s0_v6, s0_v8, s0_v9, s0_v11, s0_v26, s0_v28, s0_arg7]
  rfl

end Cert.Attn
-- ==== Proof.Row.lean ====
/- The row of the bias table a distance indexes: the bucket function, word for word, and the two facts about it the
   attention rests on. The gather of the table at those rows, at an index. -/
module

public import Idealize.ShloMosaic.Lib.ValueIdx
public import Idealize.ShloMosaic.Lib.Pipeline.Value
public import Idealize.ShloMosaic.PureOps.Ideal
public import Mathlib.Analysis.SpecialFunctions.Log.Basic

@[expose] public section

noncomputable section

namespace Cert.Attn

open Idealize.ShloMosaic Idealize.ShloMosaic.ValueIdx

/-- The bucket of a distance of sixteen or more. -/
def lgS (d : BitVec 32) : BitVec 32 :=
  IntOp.minsi (IntOp.addi 16#32 (FloatOps.fptosi (F := Ideal) 32 (FloatOps.mulf (F := Ideal) (φ := .f32)
    (FloatOps.hostDivf (FloatOps.hostUnary (F := Ideal) .log (FloatOps.hostDivf (FloatOps.sitofp (F := Ideal) .f32 (IntOp.maxsi d 1#32)) (FloatOps.ofBits .f32 0x41800000#32)))
      (FloatOps.ofBits .f32 0x40051592#32)) (FloatOps.ofBits .f32 0x41800000#32)))) 31#32

/-- The bucket of a distance. -/
def bkS (d : BitVec 32) : BitVec 32 := Scalar.select (IntOp.cmpi .slt d 16#32) d (lgS d)

/-- The row word of a bucket: negative ones count from the end. -/
def rwS (b : BitVec 32) : BitVec 32 := Scalar.select (IntOp.cmpi .slt b 0#32) (IntOp.addi b 32#32) b

/-- The row read for a bucket. -/
def rowB (b : BitVec 32) : Fin 32 := ⟨min (rwS b).toInt.toNat 31, by omega⟩

theorem lit16 : Ideal.ofBits .f32 0x41800000#32 = ((16 : ℝ) : EReal) := by
  simp only [Ideal.ofBits, Ideal.ieee]
  simp
  rw [← EReal.coe_mul]
  congr 1
  norm_num

theorem litC : Ideal.ofBits .f32 0x40051592#32 = ((8721810 / 2 ^ 22 : ℝ) : EReal) := by
  simp only [Ideal.ofBits, Ideal.ieee]
  simp
  rw [← EReal.coe_mul]
  congr 1

theorem lg_far (d : BitVec 32) (h : 512 ≤ d.toInt) (h2 : d.toInt ≤ 8192) : lgS d = 31#32 := by
  have hm : (IntOp.maxsi d 1#32) = d := by
    unfold IntOp.maxsi
    rw [if_pos]
    refine decide_eq_true ?_
    rw [show (1#32 : BitVec 32).toInt = 1 from rfl]
    omega
  unfold lgS
  rw [hm]
  have h16 : (FloatOps.ofBits .f32 0x41800000#32 : Ideal .f32) = ((16 : ℝ) : EReal) := lit16
  have hc : (FloatOps.ofBits .f32 0x40051592#32 : Ideal .f32) = ((8721810 / 2 ^ 22 : ℝ) : EReal) := litC
  rw [h16, hc]
  have hr : (512 : ℝ) ≤ (d.toInt : ℝ) := by exact_mod_cast h
  have hr2 : (d.toInt : ℝ) ≤ 8192 := by exact_mod_cast h2
  have e1 : (FloatOps.hostDivf (FloatOps.sitofp (F := Ideal) .f32 d) ((16 : ℝ) : EReal) : Ideal .f32) = (((d.toInt : ℝ) * (1 / 16) : ℝ) : EReal) := by
    show Ideal.div ((d.toInt : ℝ) : EReal) ((16 : ℝ) : EReal) = _
    rw [Ideal.div_coe (by norm_num), EReal.coe_mul]
  rw [e1]
  have e2 : (FloatOps.hostUnary (F := Ideal) (φ := .f32) .log ((((d.toInt : ℝ) * (1 / 16) : ℝ)) : EReal)) = ((Real.log ((d.toInt : ℝ) * (1 / 16)) : ℝ) : EReal) := by
    show (if (d.toInt : ℝ) * (1 / 16) ≤ 0 then (⊥ : EReal) else _) = _
    rw [if_neg (by linarith)]
  rw [e2]
  set L := Real.log ((d.toInt : ℝ) * (1 / 16)) with hL
  have e3 : (FloatOps.hostDivf (F := Ideal) (φ := .f32) ((L : ℝ) : EReal) ((8721810 / 2 ^ 22 : ℝ) : EReal)) = ((L * (1 / (8721810 / 2 ^ 22)) : ℝ) : EReal) := by
    show Ideal.div _ _ = _
    rw [Ideal.div_coe (by norm_num), EReal.coe_mul]
  rw [e3]
  have e4 : (FloatOps.mulf (F := Ideal) (φ := .f32) ((L * (1 / (8721810 / 2 ^ 22)) : ℝ) : EReal) ((16 : ℝ) : EReal)) = ((L * (1 / (8721810 / 2 ^ 22)) * 16 : ℝ) : EReal) := by
    show _ * _ = _
    rw [← EReal.coe_mul]
  rw [e4]
  have hlo : 2.5 ≤ L := by
    have h1 : Real.log 32 ≤ L := Real.log_le_log (by norm_num) (by linarith)
    have h3 : Real.log 32 = 5 * Real.log 2 := by
      rw [show (32 : ℝ) = 2 ^ 5 by norm_num, Real.log_pow]
      norm_num
    have := Real.one_sub_inv_le_log_of_pos (show (0 : ℝ) < 2 by norm_num)
    norm_num at this ⊢
    linarith
  have hhi : L ≤ 512 := by
    have := Real.log_le_sub_one_of_pos (show (0 : ℝ) < (d.toInt : ℝ) * (1 / 16) by linarith)
    linarith
  set w := L * (1 / (8721810 / 2 ^ 22)) * 16 with hw
  have w1 : (15 : ℝ) ≤ w := by
    rw [hw]; norm_num; linarith
  have w2 : w ≤ 8192 := by
    rw [hw]; norm_num; linarith
  have f1 : (15 : ℤ) ≤ ⌊w⌋ := Int.le_floor.2 (by exact_mod_cast w1)
  have f2 : ⌊w⌋ ≤ 8192 := by
    have := Int.floor_le_floor w2
    simpa using this
  have e5 : (FloatOps.fptosi (F := Ideal) (φ := .f32) 32 ((w : ℝ) : EReal)) = BitVec.ofInt 32 ⌊w⌋ := by
    show BitVec.ofInt 32 (Ideal.toIntClamped _ _ _) = _
    rw [Ideal.toIntClamped_coe, if_pos (by linarith)]
    congr 1
    norm_num
    omega
  rw [e5]
  generalize ⌊w⌋ = z at f1 f2
  unfold IntOp.minsi IntOp.addi
  have hz : (16#32 + BitVec.ofInt 32 z).toInt = 16 + z := by
    rw [BitVec.toInt_add, BitVec.toInt_ofInt]
    simp [Int.bmod]
    omega
  by_cases hh : (16#32 + BitVec.ofInt 32 z).slt 31#32
  · exfalso
    simp only [BitVec.slt, hz] at hh
    simp at hh
    omega
  · rw [if_neg hh]

theorem row_far (d : BitVec 32) (h : 512 ≤ d.toInt) (h2 : d.toInt ≤ 8192) : rowB (bkS d) = 31 := by
  have : bkS d = 31#32 := by
    unfold bkS
    rw [lg_far d h h2]
    have : IntOp.cmpi .slt d 16#32 = 0#1 := by
      show BitVec.ofBool (decide (d.toInt < (16#32 : BitVec 32).toInt)) = 0#1
      rw [decide_eq_false (by rw [show (16#32 : BitVec 32).toInt = 16 from rfl]; omega)]
      rfl
    rw [this]
    rfl
  rw [this]
  rfl

section Gather
variable {α : Type}

/-- The dimension numbers of whole rows of a table, at a rectangle of row numbers. -/
abbrev rowDims (N C A B : Nat) (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

theorem gatherRow_apply {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (h : Fin C) :
    Host.gather (rowDims N C A B wf) x idx (ix3 a b h)
      = x (ix2 ⟨min (idx (ix3 a b 0)).toInt.toNat (N - 1), by omega⟩ h) := by
  unfold Host.gather
  congr 1
  funext k
  refine Fin.ext ?_
  show (rowDims N C A B wf).start (ix3 a b h) idx k + (rowDims N C A B wf).batchCoord (ix3 a b h) k
      + (rowDims N C A B wf).offCoord (ix3 a b h) k = _
  rw [GatherDims.batchCoord_eq_zero _ _ _ (fun h => by simp at h)]
  have h01 : k = 0 ∨ k = 1 := by
    match k with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C A B wf).startIndexMap from List.mem_singleton.mpr rfl)]
    have hsi : (rowDims N C A B wf).siIdx (ix3 a b h) ⟨List.idxOf (0 : Fin 2) (rowDims N C A B wf).startIndexMap,
        List.idxOf_lt_length_iff.2 (List.mem_singleton.mpr rfl)⟩ = ix3 a b 0 := by
      funext j; refine Fin.ext ?_
      match j with
      | ⟨0, _⟩ => rfl
      | ⟨1, _⟩ => rfl
      | ⟨2, _⟩ => rfl
    rw [hsi]
    rfl
  · have hs : (rowDims N C A B wf).start (ix3 a b h) idx (1 : Fin 2) = 0 := by
      unfold GatherDims.start
      rw [dif_neg (by simp)]
    rw [hs]
    simp only [Nat.zero_add, Nat.add_zero]
    unfold GatherDims.offCoord
    rw [dif_pos ((GatherDims.mem_sKept _ _).mpr ⟨by simp, by simp⟩)]
    rfl

end Gather

end Cert.Attn
-- ==== Proof.Chain.lean ====
/- The sums a query tile ends with: every key's value times a power of two of its score less the column's maximum. -/
module

public import proofs.«01_k».proof.Proof.Elem

@[expose] public section

noncomputable section

namespace Cert.Attn

open Idealize.ShloMosaic Idealize.SL.Sem
open Idealize.ShloMosaic.VecWindow Idealize.ShloMosaic.ValueIdx
open Cert.KernelIdeal
open Cert.KernelIdeal.Facts₀ Cert.KernelIdeal.Facts

theorem coe_sum {ι : Type} (s : Finset ι) (f : ι → ℝ) : (((∑ i ∈ s, f i : ℝ)) : EReal) = ∑ i ∈ s, (f i : EReal) := by
  classical
  induction s using Finset.induction_on with
  | empty => simp
  | insert a s ha ih => rw [Finset.sum_insert ha, Finset.sum_insert ha, EReal.coe_add, ih]

/-- A score of a masked key is `⊥`. -/
def masked (p : Prop) [Decidable p] (a : ℝ) : EReal := if p then (a : EReal) else ⊥

theorem masked_lt (p : Prop) [Decidable p] (a : ℝ) : masked p a < ⊤ := by
  unfold masked
  split
  · exact EReal.coe_lt_top a
  · exact bot_lt_top

theorem exp2_coe (a : ℝ) : Ideal.exp2 (a : EReal) = ((2 : ℝ) ^ a : ℝ) := rfl
theorem exp2_bot : Ideal.exp2 ⊥ = 0 := rfl

theorem exp2_masked (p : Prop) [Decidable p] (a m : ℝ) : Ideal.exp2 (masked p a - (m : EReal)) = ((if p then (2 : ℝ) ^ (a - m) else 0 : ℝ) : EReal) := by
  unfold masked
  split
  · rw [← EReal.coe_sub, exp2_coe]
  · rw [EReal.bot_sub, exp2_bot, EReal.coe_zero]

/-- A new maximum is a real number when the first key of the tile is not masked. -/
theorem chanM_real (S : Vec Ideal S2x512x512 .f32) (B : Vec Ideal S1x2x512x512 .f32) (b : Option (Fin 2)) (c : Fin 2) (mo : FVec Ideal S8x512 .f32) (t : Fin 512)
    (μ : EReal) (hμ : μ < ⊤) (hm : ∀ s, mo (ix2 s t) = μ) (h : ∀ k, rowAt S B b c k t < ⊤) (a : ℝ) (h0 : rowAt S B b c 0 t = a) :
    ∃ m : ℝ, ∀ s, chanM S B b c mo (ix2 s t) = (m : EReal) := by
  have hr : ∀ s, row8V S B b c 0 (by decide) (ix2 s t) < ⊤ := fun s => (row8V_apply S B b c 0 (by decide) s t).symm ▸ h _
  have h1 : max μ (max8 fun s => maxV S B b c 63 1 (by decide) (row8V S B b c 0 (by decide)) (ix2 s t)) < ⊤ :=
    max_lt hμ (max8_lt _ fun s => maxV_lt S B b c t h s 63 1 (by decide) _ (hr s))
  have h2 : ⊥ < max μ (max8 fun s => maxV S B b c 63 1 (by decide) (row8V S B b c 0 (by decide)) (ix2 s t)) := by
    refine lt_of_lt_of_le (EReal.bot_lt_coe a) ?_
    rw [← h0]
    refine le_trans ?_ (le_max_of_le_right (le_max8 _))
    refine le_trans (le_of_eq ?_) (maxV_le S B b c t 0 63 1 (by decide) _)
    exact (row8V_apply S B b c 0 (by decide) 0 t).symm
  refine ⟨(max μ (max8 fun s => maxV S B b c 63 1 (by decide) (row8V S B b c 0 (by decide)) (ix2 s t))).toReal, fun s => ?_⟩
  rw [chanM_apply, hm s, EReal.coe_toReal h1.ne h2.ne']

/-- One channel's maxima and scalings. -/
def maxOf (σ : Ch Ideal) (c : Fin 2) : FVec Ideal S8x512 .f32 := if c = 0 then σ.st.1 else σ.st.2.1
def alOf (σ : Ch Ideal) (c : Fin 2) : FVec Ideal S8x512 .f32 := if c = 0 then σ.st.2.2.1 else σ.st.2.2.2

section chain

variable (K : Vec Ideal S1x4096x128 .bf16) (X : Vec Ideal S1x144x4096 .bf16) (B : Vec Ideal S1x2x512x512 .f32) (q0 q1 : FVec Ideal S128x512 .bf16)
variable (qi : ℕ) (x : Fin 2 → ℕ → Fin 512 → ℝ) (Xr : Fin 144 → ℕ → ℝ)

/-- A key's weight before division. -/
def wt (c : Fin 2) (k : ℕ) (t : Fin 512) (m : ℝ) : ℝ := if k ≤ 512 * qi + t.val then (2 : ℝ) ^ (x c k t - m) else 0

theorem wt_shift (c : Fin 2) (k : ℕ) (t : Fin 512) (m m' : ℝ) : wt qi x c k t m * (2 : ℝ) ^ (m - m') = wt qi x c k t m' := by
  unfold wt
  split
  · rw [← Real.rpow_add (by norm_num)]; congr 1; ring
  · exact zero_mul _

/-- What a step leaves, in terms of real maxima. -/
structure Good (n : ℕ) (σ : Ch Ideal) (m : Fin 2 → Fin 512 → ℝ) : Prop where
  hm : ∀ c s t, maxOf σ c (ix2 s t) = (m c t : EReal)
  hP : ∀ c k t, σ.P (ix3 c k t) = (wt qi x c (512 * n + k.val) t (m c t) : EReal)
  hA : ∀ c r (s : Fin 8) t, σ.A (ix3 c r t) * alOf σ c (ix2 s t) = ((∑ k ∈ Finset.range (512 * n), Xr r k * wt qi x c k t (m c t) : ℝ) : EReal)

variable (hX : ∀ n, n ≤ qi → ∀ r (k : Fin 512), Vt X n (ix3 0 r k) = (Xr r (512 * n + k.val) : EReal))
include hX

theorem acc_step (n : ℕ) (hn : n ≤ qi) (σ : Ch Ideal) (m : Fin 2 → Fin 512 → ℝ) (g : Good qi x Xr n σ m) (c : Fin 2) (r : Fin 144) (t : Fin 512) :
    pvV (Vt X n) σ.st.2.2.1 σ.st.2.2.2 σ.P σ.A (ix3 c r t) = ((∑ k ∈ Finset.range (512 * (n + 1)), Xr r k * wt qi x c k t (m c t) : ℝ) : EReal) := by
  rw [pvV_at]
  refine (congrArg (· + _) (g.hA c r _ t)).trans ?_
  rw [show 512 * (n + 1) = 512 * n + 512 from by ring, Finset.sum_range_add, EReal.coe_add]
  refine congrArg (_ + ·) ?_
  rw [← Fin.sum_univ_eq_sum_range (fun k => Xr r (512 * n + k) * wt qi x c (512 * n + k) t (m c t)) 512, coe_sum]
  exact Finset.sum_congr rfl fun k _ => by rw [hX n hn, g.hP, ← EReal.coe_mul]

variable (hx : ∀ n, n ≤ qi → ∀ c (k t : Fin 512), rowAt (Sc K q0 q1 n) B (biasAt qi n) c k t = masked (512 * n + k.val ≤ 512 * qi + t.val) (x c (512 * n + k.val) t))
include hx

theorem newMax (n : ℕ) (hn : n ≤ qi) (σ : Ch Ideal) (μ : Fin 2 → Fin 512 → EReal) (hμ : ∀ c t, μ c t < ⊤) (hm : ∀ c s t, maxOf σ c (ix2 s t) = μ c t) :
    ∃ m : Fin 2 → Fin 512 → ℝ, ∀ c s t, chanM (Sc K q0 q1 n) B (biasAt qi n) c (maxOf σ c) (ix2 s t) = (m c t : EReal) := by
  have h : ∀ c t, ∃ m : ℝ, ∀ s, chanM (Sc K q0 q1 n) B (biasAt qi n) c (maxOf σ c) (ix2 s t) = (m : EReal) := fun c t =>
    chanM_real _ B _ c _ t (μ c t) (hμ c t) (fun s => hm c s t) (fun k => by rw [hx n hn]; exact masked_lt _ _) (x c (512 * n) t) (by
      rw [hx n hn]
      exact if_pos (by show 512 * n + 0 ≤ _; omega))
  choose m hm using h
  exact ⟨m, fun c s t => hm c t s⟩

theorem step_good (n : ℕ) (hn : n ≤ qi) (σ : Ch Ideal) (μ : Fin 2 → Fin 512 → EReal) (hμ : ∀ c t, μ c t < ⊤) (hm : ∀ c s t, maxOf σ c (ix2 s t) = μ c t)
    (hA : ∀ (m : Fin 2 → Fin 512 → ℝ) c r t, pvV (Vt X (n - 1)) σ.st.2.2.1 σ.st.2.2.2 σ.P σ.A (ix3 c r t) * Ideal.exp2 (μ c t - (m c t : EReal))
      = ((∑ k ∈ Finset.range (512 * n), Xr r k * wt qi x c k t (m c t) : ℝ) : EReal)) :
    ∃ m, Good qi x Xr n (stepC K X B q0 q1 (biasAt qi n) n σ) m := by
  obtain ⟨m, h⟩ := newMax K X B q0 q1 qi x Xr hX hx n hn σ μ hμ hm
  refine ⟨m, ⟨fun c s t => ?_, fun c k t => ?_, fun c r s t => ?_⟩⟩
  · match c with
    | 0 => exact h 0 s t
    | 1 => exact h 1 s t
  · refine (stepP_at _ _ _ _ _ c k t).trans ?_
    rw [hx n hn, show chanM (Sc K q0 q1 n) B (biasAt qi n) c (if c = 0 then σ.st.1 else σ.st.2.1) _ = (m c t : EReal) from h c _ t]
    exact exp2_masked _ _ _
  · have e : alOf (stepC K X B q0 q1 (biasAt qi n) n σ) c (ix2 s t) = Ideal.exp2 (μ c t - (m c t : EReal)) := by
      rw [← hm c s t, ← h c s t]
      match c with
      | 0 => rfl
      | 1 => rfl
    rw [e]
    exact hA m c r t

theorem chain_good (n : ℕ) (hn : n ≤ qi) : ∃ m, Good qi x Xr n (chain K X B q0 q1 qi (n + 1)) m := by
  induction n with
  | zero =>
    refine step_good K X B q0 q1 qi x Xr hX hx 0 hn _ (fun _ _ => ⊥) (fun _ _ => bot_lt_top) (fun c s t => ?_) (fun m c r t => ?_)
    · have e : Ideal.ofBits .f32 0xFF800000#32 = ⊥ := by simp [Ideal.ofBits, Ideal.ieee]
      match c with
      | 0 => exact e
      | 1 => exact e
    · rw [EReal.bot_sub, exp2_bot, mul_zero, Nat.mul_zero, Finset.sum_range_zero, EReal.coe_zero]
  | succ n ih =>
    obtain ⟨m, g⟩ := ih (by omega)
    refine step_good K X B q0 q1 qi x Xr hX hx (n + 1) hn _ (fun c t => (m c t : EReal)) (fun c t => EReal.coe_lt_top _) g.hm (fun m' c r t => ?_)
    rw [Nat.add_sub_cancel, acc_step X qi x Xr hX n (by omega) _ m g, ← EReal.coe_sub, exp2_coe, ← EReal.coe_mul, Finset.sum_mul]
    exact congrArg _ (Finset.sum_congr rfl fun k _ => by rw [mul_assoc, wt_shift])

/-- The sums at the end. -/
theorem finA_eq : ∃ m : Fin 2 → Fin 512 → ℝ, ∀ c r t,
    finA K X B q0 q1 qi (ix3 c r t) = ((∑ k ∈ Finset.range (512 * (qi + 1)), Xr r k * wt qi x c k t (m c t) : ℝ) : EReal) := by
  obtain ⟨m, g⟩ := chain_good K X B q0 q1 qi x Xr hX hx qi (le_refl _)
  exact ⟨m, fun c r t => acc_step X qi x Xr hX qi (le_refl _) _ m g c r t⟩

end chain

end Cert.Attn
-- ==== Proof.Bias.lean ====
/- The bias tiles at an index. -/
module

public import proofs.«01_k».proof.Proof.HostB
public import proofs.«01_k».proof.Proof.Row
public import proofs.«01_k».proof.Proof.Chain

@[expose] public section

noncomputable section

namespace Cert.Attn

open Idealize.ShloMosaic hiding ix0 ix1 ix2 ix3 ix4
open Idealize.ShloMosaic.VecWindow Idealize.ShloMosaic.ValueIdx
open Cert.KernelIdeal
open Cert.KernelIdeal.Facts₀ Cert.KernelIdeal.Facts

/-- The distance of two positions as a word. -/
def dw (q k : ℕ) : BitVec 32 := IntOp.subi (BitVec.ofNat 32 q) (BitVec.ofNat 32 k)

/-- The row of the table a query and a key read. -/
def rowQ (q k : ℕ) : Fin 32 := rowB (bkS (IntOp.maxsi (dw q k) 0#32))

theorem dw_toInt (q k : ℕ) (hq : q < 4096) (hk : k < 4096) : (dw q k).toInt = (q : ℤ) - k := by
  unfold dw IntOp.subi
  rw [BitVec.toInt_sub]
  simp only [BitVec.toInt_ofNat', BitVec.toInt_ofNat, Int.bmod]
  omega

theorem maxsi_pos (d : BitVec 32) (h : 0 ≤ d.toInt) : IntOp.maxsi d 0#32 = d := by
  unfold IntOp.maxsi
  split
  · rfl
  · rename_i hh
    have h0 : (0#32 : BitVec 32).toInt = 0 := rfl
    have : ¬ (0#32 : BitVec 32).toInt < d.toInt := fun h' => hh (decide_eq_true h')
    exact BitVec.eq_of_toInt_eq (by omega)

theorem rowQ_far (q k : ℕ) (hq : q < 4096) (h : k + 512 ≤ q) : rowQ q k = 31 := by
  have e := dw_toInt q k hq (by omega)
  unfold rowQ
  rw [maxsi_pos _ (by omega)]
  exact row_far _ (by omega) (by omega)

theorem dw_shift (a q k : ℕ) : dw (a + q) (a + k) = dw q k := by
  unfold dw IntOp.subi
  rw [BitVec.ofNat_add, BitVec.ofNat_add]
  bv_omega

theorem rowQ_shift (a q k : ℕ) : rowQ (a + q) (a + k) = rowQ q k := by unfold rowQ; rw [dw_shift]

theorem dD_at (k t : Fin 512) : dD (ix2 k t) = dw t.val k.val := rfl

theorem bkA_at (D : IVec S512x512 32) (i : S512x512.Idx) : bkA D i = bkS (D i) := rfl

theorem ln2_at : ln2A ix0 = ((Real.log 2 : ℝ) : EReal) := by
  have h2 : (constant S_ .f32 0x40000000#32 : FVec Ideal S_ .f32) ix0 = ((2 : ℝ) : EReal) := by
    show Ideal.ofBits .f32 0x40000000#32 = _
    simp only [Ideal.ofBits, Ideal.ieee]
    simp
    rw [← EReal.coe_mul]
    congr 1
    norm_num
  show Ideal.log ((constant S_ .f32 0x40000000#32 : FVec Ideal S_ .f32) ix0) = _
  rw [h2]
  show (if (2 : ℝ) ≤ 0 then (⊥ : EReal) else _) = _
  rw [if_neg (by norm_num)]

theorem tileB_at (x : FVec Ideal S32x8 .f32) (b : IVec S512x512 32) (far : FVec Ideal S8 .f32) (ln2 : FVec Ideal S_ .f32) (k t : Fin 512) (h : Fin 8) :
    tileB x b far ln2 (ix3 k t h) = Ideal.div (x (ix2 (rowB (b (ix2 k t))) h) - far (ix1 h)) (ln2 ix0) := by
  have e := gatherRow_apply (by decide) gather_S32x8_S512x512x1_S512x512x8_2_0_n_n_0_2_18_wf x
    (broadcastInDim S512x512x1 ![0, 1] bcast_S512x512_S512x512x1_0_1 (rowsA b)) k t h
  have e' : Host.gather gather_S32x8_S512x512x1_S512x512x8_2_0_n_n_0_2_18 x (broadcastInDim S512x512x1 ![0, 1] bcast_S512x512_S512x512x1_0_1 (rowsA b)) (ix3 k t h)
      = x (ix2 (rowB (b (ix2 k t))) h) := by
    refine Eq.trans e ?_
    have er : (broadcastInDim S512x512x1 ![0, 1] bcast_S512x512_S512x512x1_0_1 (rowsA b)) (ix3 k t 0) = rwS (b (ix2 k t)) := by
      rw [broadcastInDim_apply _ _ _ _ (ix2 k t) (fun a => by match a with | 0 => rfl | 1 => rfl)]
      rfl
    refine congrArg x (funext fun a => ?_)
    match a with
    | 0 => refine Fin.ext ?_
           show min _ _ = min _ _
           rw [er]
    | 1 => rfl
  have ef : (broadcastInDim S512x512x8 ![0, 1, 2] bcast_S1x1x8_S512x512x8_0_1_2 (broadcastInDim S1x1x8 ![2] bcast_S8_S1x1x8_2 far)) (ix3 k t h) = far (ix1 h) := by
    rw [broadcastInDim_apply _ _ _ _ (ix3 0 0 h) (fun a => by match a with | 0 => rfl | 1 => rfl | 2 => rfl)]
    rw [broadcastInDim_apply _ _ _ _ (ix1 h) (fun a => by match a with | 0 => rfl)]
  have el : (broadcastInDim S512x512x8 ![] bcast_S_S512x512x8 ln2) (ix3 k t h) = ln2 ix0 := by
    rw [broadcastInDim_apply _ _ _ _ ix0 (fun a => a.elim0)]
  show Ideal.div (_ - _) _ = _
  rw [e', ef, el]

theorem farA_at (x : FVec Ideal S32x8 .f32) (h : Fin 8) : farA x (ix1 h) = x (ix2 31 h) := by
  unfold farA
  rw [shapeCast_1a_a_apply, extractStridedSlice_apply _ _ _ _ (ix2 31 h) (fun a => by match a with | 0 => rfl | 1 => exact (Nat.zero_add _).symm)]

variable (x : FVec Ideal S32x8 .f32) (R : Fin 32 → Fin 8 → ℝ) (hR : ∀ r h, x (ix2 r h) = ((R r h : ℝ) : EReal))
include hR

theorem tile_real (b : IVec S512x512 32) (k t : Fin 512) (h : Fin 8) :
    tileB x b (farA x) ln2A (ix3 k t h) = (((R (rowB (b (ix2 k t))) h - R 31 h) * (1 / Real.log 2) : ℝ) : EReal) := by
  rw [tileB_at, farA_at, ln2_at, hR, hR, Ideal.div_coe (Real.log_pos (by norm_num)).ne', ← EReal.coe_sub, ← EReal.coe_mul]

omit hR in
theorem bothA_at (p d : FVec Ideal S512x512x8 .f32) (h : Fin 8) (k t : Fin 512) :
    bothA p d (ix4 h 0 k t) = p (ix3 k t h) ∧ bothA p d (ix4 h 1 k t) = d (ix3 k t h) := by
  unfold bothA
  constructor
  · rw [transpose_apply _ _ _ _ (ix4 0 k t h) (fun b => by match b with | 0 => rfl | 1 => rfl | 2 => rfl | 3 => rfl)]
    rw [concatenate_pair_apply_left 0 _ _ _ (ix4 0 k t h) (by rfl) (ix4 0 k t h) (fun b => by match b with | 0 => rfl | 1 => rfl | 2 => rfl | 3 => rfl)]
    rw [broadcastInDim_apply _ _ _ _ (ix3 k t h) (fun a => by match a with | 0 => rfl | 1 => rfl | 2 => rfl)]
  · rw [transpose_apply _ _ _ _ (ix4 1 k t h) (fun b => by match b with | 0 => rfl | 1 => rfl | 2 => rfl | 3 => rfl)]
    rw [concatenate_pair_apply_right 0 _ _ _ (ix4 1 k t h) (by rfl) (by rfl) (ix4 0 k t h) (fun b => by match b with | 0 => exact fun hh => absurd rfl hh | 1 => exact fun _ => rfl | 2 => exact fun _ => rfl | 3 => exact fun _ => rfl) rfl]
    rw [broadcastInDim_apply _ _ _ _ (ix3 k t h) (fun a => by match a with | 0 => rfl | 1 => rfl | 2 => rfl)]

/-- The masked tile. -/
theorem diag_at (k t : Fin 512) (h : Fin 8) :
    diagB x (ix3 k t h) = masked (k.val ≤ t.val) ((R (rowQ t.val k.val) h - R 31 h) * (1 / Real.log 2)) := by
  have e1 : (broadcastInDim S512x512x8 ![0, 1, 2] bcast_S512x512x1_S512x512x8_0_1_2 (broadcastInDim S512x512x1 ![0, 1] bcast_S512x512_S512x512x1_0_1 (cmpi .sge dD (allI 0#32)))) (ix3 k t h)
      = IntOp.cmpi .sge (dw t.val k.val) 0#32 := by
    rw [broadcastInDim_apply _ _ _ _ (ix3 k t 0) (fun a => by match a with | 0 => rfl | 1 => rfl | 2 => rfl)]
    rw [broadcastInDim_apply _ _ _ _ (ix2 k t) (fun a => by match a with | 0 => rfl | 1 => rfl)]
    rfl
  have e2 := tile_real x R hR (bkA (maxsi dD (allI 0#32))) k t h
  have e3 : (broadcastInDim S512x512x8 ![] bcast_S_S512x512x8 (constant S_ .f32 0xFF800000#32 : FVec Ideal S_ .f32)) (ix3 k t h) = ⊥ := by
    rw [broadcastInDim_apply _ _ _ _ ix0 (fun a => a.elim0)]
    show Ideal.ofBits .f32 0xFF800000#32 = ⊥
    simp [Ideal.ofBits, Ideal.ieee]
  have hd := dw_toInt t.val k.val (by omega) (by omega)
  show Scalar.select ((broadcastInDim S512x512x8 ![0, 1, 2] bcast_S512x512x1_S512x512x8_0_1_2 (broadcastInDim S512x512x1 ![0, 1] bcast_S512x512_S512x512x1_0_1 (cmpi .sge dD (allI 0#32)))) (ix3 k t h)) (tileB x (bkA (maxsi dD (allI 0#32))) (farA x) ln2A (ix3 k t h)) ((broadcastInDim S512x512x8 ![] bcast_S_S512x512x8 (constant S_ .f32 0xFF800000#32 : FVec Ideal S_ .f32)) (ix3 k t h)) = _
  rw [e1, e2, e3]
  unfold masked
  have ec : IntOp.cmpi .sge (dw t.val k.val) 0#32 = BitVec.ofBool (decide ((0#32 : BitVec 32).toInt ≤ (dw t.val k.val).toInt)) := rfl
  have h0 : (0#32 : BitVec 32).toInt = 0 := rfl
  by_cases hk : k.val ≤ t.val
  · rw [if_pos hk, ec, decide_eq_true (by omega)]
    rfl
  · rw [if_neg hk, ec, decide_eq_false (by omega)]
    rfl

/-- The tile before the diagonal. -/
theorem prev_at (k t : Fin 512) (h : Fin 8) :
    tileB x (bkA (addi dD (allI 512#32))) (farA x) ln2A (ix3 k t h) = (((R (rowQ (512 + t.val) k.val) h - R 31 h) * (1 / Real.log 2) : ℝ) : EReal) := by
  rw [tile_real x R hR]
  have : bkA (addi dD (allI 512#32)) (ix2 k t) = bkS (IntOp.maxsi (dw (512 + t.val) k.val) 0#32) := by
    rw [bkA_at]
    congr 1
    rw [maxsi_pos _ (by rw [dw_toInt _ _ (by omega) (by omega)]; omega)]
    show IntOp.addi (dw t.val k.val) 512#32 = _
    unfold dw IntOp.addi IntOp.subi
    rw [BitVec.ofNat_add]
    bv_omega
  rw [this]
  rfl

end Cert.Attn
-- ==== Proof.Out.lean ====
/- The end of a query tile at an index: the two quotients, their weighted difference, and its normalisation. -/
module

public import proofs.«01_k».proof.Proof.Host
public import Idealize.ShloMosaic.Lib.ValueLayoutCasts

@[expose] public section

noncomputable section

namespace Cert.Attn

open Idealize.ShloMosaic hiding ix0 ix1 ix2 ix3 ix4
open Idealize.ShloMosaic.VecWindow Idealize.ShloMosaic.ValueIdx
open Cert.KernelIdeal
open Cert.KernelIdeal.Facts₀ Cert.KernelIdeal.Facts

/-- A head's output, normalised by its root mean square, scaled by the gain. -/
def rmsOut (o : Fin 128 → EReal) (g : EReal) (r : Fin 128) : EReal :=
  o r * Ideal.rsqrt (Ideal.div (∑ k : Fin 128, o k * o k) (Ideal.ofBits .f32 0x43000000#32) + Ideal.ofBits .f32 0x3727C5AC#32)
    * (g * Ideal.ofBits .f32 0x3F4CCCCD#32)

/-- The scalar weight of the second attention. -/
def lamE (a b c d : Fin 64 → EReal) : EReal :=
  Ideal.exp (∑ i : Fin 64, a i * b i) - Ideal.exp (∑ i : Fin 64, c i * d i) + Ideal.ofBits .f32 0x3E4CCCCD#32

theorem sum0_at (v : FVec Ideal S128x512 .f32) (t : Fin 512) :
    multiReduction .add [0] S512 v 0x00000000#32 reduces_S128x512_S512 (.inl rfl) rfl (ix1 t) = ∑ k : Fin 128, v (ix2 k t) := by
  refine Eq.trans (Ideal.multiReduction_add_single _ _ _ _ _ _) ?_
  refine Finset.sum_congr rfl fun k _ => congrArg v (funext fun a => ?_)
  match a with
  | 0 => rfl
  | 1 => rfl

theorem sum1_at (v : FVec Ideal S1x64 .f32) :
    multiReduction .add [1] S1 v 0x00000000#32 reduces_S1x64_S1 (.inl rfl) rfl (ix1 0) = ∑ k : Fin 64, v (ix2 0 k) := by
  refine Eq.trans (Ideal.multiReduction_add_single _ _ _ _ _ _) ?_
  refine Finset.sum_congr rfl fun k _ => congrArg v (funext fun a => ?_)
  match a with
  | 0 => rfl
  | 1 => rfl

theorem bc11_at (v : FVec Ideal S1x1 .f32) (r : Fin 128) (t : Fin 512) : broadcastTo S128x512 v broadcasts_S1x1_S128x512 (ix2 r t) = v (ix2 0 0) :=
  broadcastTo_apply v _ _ _ fun a => by match a with | 0 => rfl | 1 => rfl

theorem bcRow_at (v : FVec Ideal S1x512 .f32) (r : Fin 128) (t : Fin 512) : broadcastTo S128x512 v broadcasts_S1x512_S128x512 (ix2 r t) = v (ix2 0 t) :=
  broadcastTo_apply v _ _ _ fun a => by match a with | 0 => rfl | 1 => rfl

theorem bcCol_at (v : FVec Ideal S128x1 .f32) (r : Fin 128) (t : Fin 512) : broadcastTo S128x512 v broadcasts_S128x1_S128x512 (ix2 r t) = v (ix2 r 0) :=
  broadcastTo_apply v _ _ _ fun a => by match a with | 0 => rfl | 1 => rfl

/-- The weighted difference. -/
def diffV (l : FVec Ideal S1x1 .f32) (A1 : FVec Ideal S144x512 .f32) (A0 : FVec Ideal S128x512 .f32) (D0 : FVec Ideal S1x512 .f32) : FVec Ideal S128x512 .f32 :=
  subf (divf A0 (broadcastTo S128x512 D0 broadcasts_S1x512_S128x512))
    (mulf (broadcastTo S128x512 l broadcasts_S1x1_S128x512)
      (divf (extractStridedSlice S128x512 ![0, 0] A1 slices_S144x512_o0_0_S128x512)
        (broadcastTo S128x512 (extractStridedSlice S1x512 ![128, 0] A1 slices_S144x512_o128_0_S1x512) broadcasts_S1x512_S128x512)))

theorem diffV_at (l : FVec Ideal S1x1 .f32) (A1 : FVec Ideal S144x512 .f32) (A0 : FVec Ideal S128x512 .f32) (D0 : FVec Ideal S1x512 .f32) (r : Fin 128) (t : Fin 512) :
    diffV l A1 A0 D0 (ix2 r t) = Ideal.div (A0 (ix2 r t)) (D0 (ix2 0 t)) - l (ix2 0 0) * Ideal.div (A1 (ix2 ⟨r.val, by omega⟩ t)) (A1 (ix2 128 t)) := by
  have e1 := bcRow_at D0 r t
  have e2 := bc11_at l r t
  have e3 : extractStridedSlice S128x512 ![0, 0] A1 slices_S144x512_o0_0_S128x512 (ix2 r t) = A1 (ix2 ⟨r.val, by omega⟩ t) :=
    extractStridedSlice_apply _ _ _ _ _ (fun a => by match a with | 0 => exact (Nat.zero_add _).symm | 1 => exact (Nat.zero_add _).symm)
  have e4 : broadcastTo S128x512 (extractStridedSlice S1x512 ![128, 0] A1 slices_S144x512_o128_0_S1x512) broadcasts_S1x512_S128x512 (ix2 r t) = A1 (ix2 128 t) := by
    rw [bcRow_at]
    exact extractStridedSlice_apply _ _ _ _ _ (fun a => by match a with | 0 => rfl | 1 => exact (Nat.zero_add _).symm)
  show Ideal.div _ _ - _ * Ideal.div _ _ = _
  rw [e1, e2, e3, e4]

/-- The mean square's reciprocal root, one per query. -/
def rsV (o : FVec Ideal S128x512 .f32) : FVec Ideal S1x512 .f32 :=
  rsqrt (addf (divf (shapeCast S1x512 (multiReduction .add [0] S512 (mulf o o) 0x00000000#32 reduces_S128x512_S512 (.inl rfl) rfl) shapeCasts_S512_S1x512)
    (broadcast S1x512 (Scalar.ofBits .f32 0x43000000#32 : Ideal .f32))) (broadcast S1x512 (Scalar.ofBits .f32 0x3727C5AC#32 : Ideal .f32)))

theorem rsV_at (o : FVec Ideal S128x512 .f32) (t : Fin 512) :
    rsV o (ix2 0 t) = Ideal.rsqrt (Ideal.div (∑ k : Fin 128, o (ix2 k t) * o (ix2 k t)) (Ideal.ofBits .f32 0x43000000#32) + Ideal.ofBits .f32 0x3727C5AC#32) := by
  have e : shapeCast S1x512 (multiReduction .add [0] S512 (mulf o o) 0x00000000#32 reduces_S128x512_S512 (.inl rfl) rfl) shapeCasts_S512_S1x512 (ix2 0 t)
      = ∑ k : Fin 128, o (ix2 k t) * o (ix2 k t) := by
    rw [shapeCast_a_1a_apply, sum0_at]
    rfl
  show Ideal.rsqrt (Ideal.div _ _ + _) = _
  rw [e]
  rfl

theorem pay1_eq (l : FVec Ideal S1x1 .f32) (A1 : FVec Ideal S144x512 .f32) (A0 : FVec Ideal S128x512 .f32) (D0 : FVec Ideal S1x512 .f32) (G : Vec Ideal S128x1 .f32) :
    Gen.k0_pay1 l A1 A0 D0 G = shapeCast S1x512x128 (transpose S512x128 [1, 0]
      (mulf (mulf (diffV l A1 A0 D0) (broadcastTo S128x512 (rsV (diffV l A1 A0 D0)) broadcasts_S1x512_S128x512))
        (broadcastTo S128x512 (mulf (shapeCast S128x1 G shapeCasts_S128x1_S128x1) (broadcast S128x1 (Scalar.ofBits .f32 0x3F4CCCCD#32 : Ideal .f32))) broadcasts_S128x1_S128x512))
      transposes_S128x512_p1_0_S512x128 : FVec Ideal S512x128 .f32) shapeCasts_S512x128_S1x512x128 := rfl

theorem pay1_at (l : FVec Ideal S1x1 .f32) (A1 : FVec Ideal S144x512 .f32) (A0 : FVec Ideal S128x512 .f32) (D0 : FVec Ideal S1x512 .f32) (G : Vec Ideal S128x1 .f32)
    (u : Fin 1) (t : Fin 512) (r : Fin 128) :
    Gen.k0_pay1 l A1 A0 D0 G (ix3 u t r)
      = rmsOut (fun r => Ideal.div (A0 (ix2 r t)) (D0 (ix2 0 t)) - l (ix2 0 0) * Ideal.div (A1 (ix2 ⟨r.val, by omega⟩ t)) (A1 (ix2 128 t))) (G (ix2 r 0)) r := by
  rw [pay1_eq, shapeCast_ab_1ab_apply, transpose_ix2_apply]
  have e1 := bcRow_at (rsV (diffV l A1 A0 D0)) r t
  have e2 := bcCol_at (mulf (shapeCast S128x1 G shapeCasts_S128x1_S128x1) (broadcast S128x1 (Scalar.ofBits .f32 0x3F4CCCCD#32 : Ideal .f32))) r t
  show _ * _ * _ = _
  rw [e1, e2, rsV_at]
  unfold rmsOut
  have e3 : shapeCast S128x1 G shapeCasts_S128x1_S128x1 (ix2 r 0) = G (ix2 r 0) := by
    rw [shapeCast_self]
  have e4 : (mulf (shapeCast S128x1 G shapeCasts_S128x1_S128x1) (broadcast S128x1 (Scalar.ofBits .f32 0x3F4CCCCD#32 : Ideal .f32))) (ix2 r 0) = G (ix2 r 0) * Ideal.ofBits .f32 0x3F4CCCCD#32 := by
    show _ * _ = _
    rw [e3]
    rfl
  rw [e4]
  simp only [diffV_at]

/-- A row of the four vectors. -/
theorem lamRow (L : Vec Ideal S4x64 .f32) (n : ℕ) (hn : n < 4) (h : S4x64.Slices ![n, 0] S1x64) (k : Fin 64) :
    extractStridedSlice S1x64 ![n, 0] (shapeCast S4x64 L shapeCasts_S4x64_S4x64) h (ix2 0 k) = L (ix2 ⟨n, hn⟩ k) := by
  rw [shapeCast_self]
  exact extractStridedSlice_apply _ _ _ _ _ (fun a => by match a with | 0 => rfl | 1 => exact (Nat.zero_add _).symm)

theorem dot64_at (x y : FVec Ideal S1x64 .f32) :
    exp (shapeCast S1x1 (multiReduction .add [1] S1 (mulf x y) 0x00000000#32 reduces_S1x64_S1 (.inl rfl) rfl) shapeCasts_S1_S1x1 : FVec Ideal S1x1 .f32) (ix2 0 0)
      = Ideal.exp (∑ k : Fin 64, x (ix2 0 k) * y (ix2 0 k)) := by
  have e : (shapeCast S1x1 (multiReduction .add [1] S1 (mulf x y) 0x00000000#32 reduces_S1x64_S1 (.inl rfl) rfl) shapeCasts_S1_S1x1 : FVec Ideal S1x1 .f32) (ix2 0 0)
      = ∑ k : Fin 64, x (ix2 0 k) * y (ix2 0 k) := by
    rw [shapeCast_a_1a_apply, sum1_at]
    rfl
  show Ideal.exp _ = _
  rw [e]

theorem lam_at (L : Vec Ideal S4x64 .f32) :
    Gen.k0_pay1251 L (ix2 0 0) = lamE (fun k => L (ix2 0 k)) (fun k => L (ix2 1 k)) (fun k => L (ix2 2 k)) (fun k => L (ix2 3 k)) := by
  have e1 := dot64_at (extractStridedSlice S1x64 ![0, 0] (shapeCast S4x64 L shapeCasts_S4x64_S4x64) slices_S4x64_o0_0_S1x64)
    (extractStridedSlice S1x64 ![1, 0] (shapeCast S4x64 L shapeCasts_S4x64_S4x64) slices_S4x64_o1_0_S1x64)
  have e2 := dot64_at (extractStridedSlice S1x64 ![2, 0] (shapeCast S4x64 L shapeCasts_S4x64_S4x64) slices_S4x64_o2_0_S1x64)
    (extractStridedSlice S1x64 ![3, 0] (shapeCast S4x64 L shapeCasts_S4x64_S4x64) slices_S4x64_o3_0_S1x64)
  simp only [lamRow L 0 (by decide), lamRow L 1 (by decide), lamRow L 2 (by decide), lamRow L 3 (by decide)] at e1 e2
  refine Eq.trans ?_ (congrArg₂ (fun x y => x - y + Ideal.ofBits .f32 0x3E4CCCCD#32) e1 e2)
  rfl

theorem lamPiece (a b c d : FVec Ideal S64 .f32) (k : Fin 64) (n : ℕ) (hn : n < 4) (i : S4x64.Idx) (y : FVec Ideal S64 .f32)
    (hy : ([⟨S1x64, broadcastInDim S1x64 ![1] bcast_S64_S1x64_1 a⟩, ⟨S1x64, broadcastInDim S1x64 ![1] bcast_S64_S1x64_1 b⟩,
      ⟨S1x64, broadcastInDim S1x64 ![1] bcast_S64_S1x64_1 c⟩, ⟨S1x64, broadcastInDim S1x64 ![1] bcast_S64_S1x64_1 d⟩] : List ((s : Shape) × (s.Idx → Ideal .f32)))[n]
      = ⟨S1x64, broadcastInDim S1x64 ![1] bcast_S64_S1x64_1 y⟩) (hi : i = ix2 ⟨n, hn⟩ k) : lamA a b c d i = y (ix1 k) := by
  subst hi
  unfold lamA
  refine Eq.trans (concatenate_apply_piece (t := S4x64) 0 [⟨S1x64, broadcastInDim S1x64 ![1] bcast_S64_S1x64_1 a⟩, ⟨S1x64, broadcastInDim S1x64 ![1] bcast_S64_S1x64_1 b⟩,
      ⟨S1x64, broadcastInDim S1x64 ![1] bcast_S64_S1x64_1 c⟩, ⟨S1x64, broadcastInDim S1x64 ![1] bcast_S64_S1x64_1 d⟩] concatenates_S1x64_S1x64_S1x64_S1x64_S4x64_d0
    (ix2 ⟨n, hn⟩ k) n hn S1x64 (broadcastInDim S1x64 ![1] bcast_S64_S1x64_1 y) hy rfl n ?_ (ix2 0 k) ?_ ?_) ?_
  · match n, hn with
    | 0, _ => rfl
    | 1, _ => rfl
    | 2, _ => rfl
    | 3, _ => rfl
  · intro q hq
    match q with
    | 0 => exact absurd rfl hq
    | 1 => rfl
  · rfl
  · exact broadcastInDim_apply _ _ _ _ (ix1 k) (fun a => by match a with | 0 => rfl)

theorem lamA_at (a b c d : FVec Ideal S64 .f32) (k : Fin 64) :
    lamA a b c d (ix2 0 k) = a (ix1 k) ∧ lamA a b c d (ix2 1 k) = b (ix1 k) ∧ lamA a b c d (ix2 2 k) = c (ix1 k) ∧ lamA a b c d (ix2 3 k) = d (ix1 k) :=
  ⟨lamPiece a b c d k 0 (by decide) _ a rfl rfl, lamPiece a b c d k 1 (by decide) _ b rfl rfl, lamPiece a b c d k 2 (by decide) _ c rfl rfl,
    lamPiece a b c d k 3 (by decide) _ d rfl rfl⟩

theorem gA_at (x : FVec Ideal S128 .f32) (r : Fin 128) : gA x (ix2 r 0) = x (ix1 r) := by
  unfold gA
  rw [shapeCast_a_a1_apply]

theorem outV_at (qi : ℕ) (L : Vec Ideal S4x64 .f32) (G : Vec Ideal S128x1 .f32) (Q : Vec Ideal S128x512 .bf16) (K : Vec Ideal S1x4096x128 .bf16) (V : Vec Ideal S128x4096 .bf16)
    (B : Vec Ideal S1x2x512x512 .f32) (u : Fin 1) (t : Fin 512) (r : Fin 128) :
    outV qi L G Q K V B (ix3 u t r)
      = rmsOut (fun r => Ideal.div (finA K (vext V) B (Gen.k0_pay1229 Q) (Gen.k0_pay1230 Q) qi (ix3 0 ⟨r.val, by omega⟩ t)) (finA K (vext V) B (Gen.k0_pay1229 Q) (Gen.k0_pay1230 Q) qi (ix3 0 128 t))
          - Gen.k0_pay1251 L (ix2 0 0) * Ideal.div (finA K (vext V) B (Gen.k0_pay1229 Q) (Gen.k0_pay1230 Q) qi (ix3 1 ⟨r.val, by omega⟩ t)) (finA K (vext V) B (Gen.k0_pay1229 Q) (Gen.k0_pay1230 Q) qi (ix3 1 128 t)))
        (G (ix2 r 0)) r := by
  unfold outV
  generalize finA K (vext V) B (Gen.k0_pay1229 Q) (Gen.k0_pay1230 Q) qi = A
  rw [pay1_at]
  have w : ∀ (c : Fin 2) (r : Fin 144) (h), window A ![c.val, 0, 0] S1x144x512.size h (ix3 0 r t) = A (ix3 c r t) := fun c r h =>
    win3 A c.val 0 0 h 0 r t c r t rfl (Nat.zero_add _).symm (Nat.zero_add _).symm
  have e53 : ∀ (X : Vec Ideal S1x144x512 .f32) (r : Fin 144), Gen.k0_pay1253 X (ix2 r t) = X (ix3 0 r t) := fun X r => by
    unfold Gen.k0_pay1253
    exact shapeCast_1ab_ab_apply _ _ _ _
  have e54 : ∀ (X : Vec Ideal S1x144x512 .f32) (r : Fin 128), Gen.k0_pay1254 X (ix2 r t) = X (ix3 0 ⟨r.val, by omega⟩ t) := fun X r => by
    unfold Gen.k0_pay1254
    refine Eq.trans (extractStridedSlice_apply _ _ _ _ (ix2 ⟨r.val, by omega⟩ t) (fun a => by match a with | 0 => exact (Nat.zero_add _).symm | 1 => exact (Nat.zero_add _).symm)) ?_
    exact shapeCast_1ab_ab_apply _ _ _ _
  have e55 : ∀ (X : Vec Ideal S1x144x512 .f32), Gen.k0_pay1255 X (ix2 0 t) = X (ix3 0 128 t) := fun X => by
    unfold Gen.k0_pay1255
    refine Eq.trans (extractStridedSlice_apply _ _ _ _ (ix2 128 t) (fun a => by match a with | 0 => rfl | 1 => exact (Nat.zero_add _).symm)) ?_
    exact shapeCast_1ab_ab_apply _ _ _ _
  simp only [e53, e54, e55, w]

end Cert.Attn
-- ==== Proof.Kern.lean ====
/- A query tile in terms of the real numbers its blocks hold: each channel's quotient is a softmax average over the keys
   up to the query. -/
module

public import proofs.«01_k».proof.Proof.Bias
public import proofs.«01_k».proof.Proof.Out
public import Idealize.ShloMosaic.Lib.IdealHost

@[expose] public section

noncomputable section

namespace Cert.Attn

open Idealize.ShloMosaic hiding ix0 ix1 ix2 ix3 ix4
open Idealize.ShloMosaic.VecWindow Idealize.ShloMosaic.ValueIdx
open Cert.KernelIdeal
open Cert.KernelIdeal.Facts₀ Cert.KernelIdeal.Facts

/-- A softmax average over the keys up to `q`. -/
def att (q : ℕ) (ell v : ℕ → ℝ) : ℝ :=
  (∑ k ∈ Finset.range (q + 1), v k * Real.exp (ell k)) / ∑ k ∈ Finset.range (q + 1), Real.exp (ell k)

theorem den_pos (q : ℕ) (ell : ℕ → ℝ) : 0 < ∑ k ∈ Finset.range (q + 1), Real.exp (ell k) :=
  Finset.sum_pos (fun k _ => Real.exp_pos _) ⟨0, Finset.mem_range.2 (Nat.succ_pos _)⟩

/-- A score: the product of a query and a key over one channel, scaled, and the bias. -/
def ellOf (qd kd : Fin 64 → ℝ) (b : ℝ) : ℝ := (∑ d : Fin 64, qd d * kd d) * (1 / 8) + b

/-- The index of a channel's coordinate. -/
def chn (c : Fin 2) (d : Fin 64) : Fin 128 := ⟨64 * c.val + d.val, by omega⟩

theorem ltQ (d : Fin 128) : IntOp.cmpi .slt (BitVec.ofNat 32 d.val) 64#32 = if d.val < 64 then 1#1 else 0#1 := by
  revert d; decide
theorem geQ (d : Fin 128) : IntOp.cmpi .sge (BitVec.ofNat 32 d.val) 64#32 = if d.val < 64 then 0#1 else 1#1 := by
  revert d; decide

theorem scaleQ : (Named.named (F := Ideal) κ "scale" (φ := .f32) 0x3E38AA3B#32) = ((8⁻¹ * (Real.log 2)⁻¹ : ℝ) : EReal) := rfl

section tile

variable (Q : Vec Ideal S128x512 .bf16) (Qr : Fin 128 → Fin 512 → ℝ) (hQ : ∀ d t, Q (ix2 d t) = ((Qr d t : ℝ) : EReal))
include hQ

theorem q0_at (d : Fin 128) (t : Fin 512) : Gen.k0_pay1229 Q (ix2 d t) = ((if d.val < 64 then Qr d t * (8⁻¹ * (Real.log 2)⁻¹) else 0 : ℝ) : EReal) := by
  show Scalar.select (IntOp.cmpi .slt (BitVec.ofNat 32 (0 * 128 + d.val)) 64#32) (Q (ix2 d t) * Named.named (F := Ideal) κ "scale" (φ := .f32) 0x3E38AA3B#32) (Ideal.ofBits .f32 0x00000000#32) = _
  rw [Nat.zero_mul, Nat.zero_add, ltQ, hQ, scaleQ, Ideal.ofBits_zero_f32]
  split
  · rw [EReal.coe_mul]; rfl
  · rfl

theorem q1_at (d : Fin 128) (t : Fin 512) : Gen.k0_pay1230 Q (ix2 d t) = ((if d.val < 64 then 0 else Qr d t * (8⁻¹ * (Real.log 2)⁻¹) : ℝ) : EReal) := by
  show Scalar.select (IntOp.cmpi .sge (BitVec.ofNat 32 (0 * 128 + d.val)) 64#32) (Q (ix2 d t) * Named.named (F := Ideal) κ "scale" (φ := .f32) 0x3E38AA3B#32) (Ideal.ofBits .f32 0x00000000#32) = _
  rw [Nat.zero_mul, Nat.zero_add, geQ, hQ, scaleQ, Ideal.ofBits_zero_f32]
  split
  · rfl
  · rw [EReal.coe_mul]; rfl

variable (K : Vec Ideal S1x4096x128 .bf16) (Kr : ℕ → Fin 128 → ℝ) (hK : ∀ (k : Fin 4096) d, K (ix3 0 k d) = ((Kr k.val d : ℝ) : EReal))
include hK

omit hQ in
theorem Kt_at (n : ℕ) (hn : n ≤ 7) (k : Fin 512) (d : Fin 128) : Kt K n (ix3 0 k d) = ((Kr (512 * n + k.val) d : ℝ) : EReal) := by
  unfold Kt
  rw [← hK ⟨512 * n + k.val, by omega⟩ d]
  exact win3 K 0 (512 * min n 7) 0 _ 0 k d 0 ⟨512 * n + k.val, by omega⟩ d rfl (by show 512 * n + k.val = _; rw [Nat.min_eq_left hn]) (Nat.zero_add _).symm

/-- A score before the bias. -/
theorem Sc_at (n : ℕ) (hn : n ≤ 7) (c : Fin 2) (k t : Fin 512) :
    Sc K (Gen.k0_pay1229 Q) (Gen.k0_pay1230 Q) n (ix3 c k t)
      = (((∑ d : Fin 64, Qr (chn c d) t * Kr (512 * n + k.val) (chn c d)) * (1 / 8) * (1 / Real.log 2) : ℝ) : EReal) := by
  unfold Sc
  match c with
  | ⟨0, _⟩ =>
    refine (qkV_zero _ _ _ _ _ rfl).trans ((scoreOf_apply _ _ _ _ _).trans ?_)
    simp only [Kt_at K Kr hK n hn, q0_at Q Qr hQ, ← EReal.coe_mul]
    rw [← coe_sum]
    congr 1
    rw [Fin.sum_univ_add (a := 64) (b := 64)]
    simp only [Fin.val_castAdd, Fin.val_natAdd, Fin.is_lt, if_true]
    rw [Finset.sum_congr rfl (g := fun _ => (0 : ℝ)) (fun d _ => by rw [if_neg (by omega), mul_zero]) (s₁ := (Finset.univ : Finset (Fin 64))) (f := fun d => Kr (512 * n + k.val) (Fin.natAdd 64 d) * if 64 + d.val < 64 then Qr (Fin.natAdd 64 d) t * (8⁻¹ * (Real.log 2)⁻¹) else 0)]
    rw [Finset.sum_const_zero, add_zero, Finset.sum_mul, Finset.sum_mul]
    refine Finset.sum_congr rfl fun d _ => ?_
    have : chn 0 d = Fin.castAdd 64 d := Fin.ext (by show 64 * 0 + d.val = d.val; omega)
    show _ = Qr (chn 0 d) t * Kr _ (chn 0 d) * _ * _
    rw [this, one_div, one_div]
    ring
  | ⟨1, _⟩ =>
    refine (qkV_one _ _ _ _ _ rfl).trans ((scoreOf_apply _ _ _ _ _).trans ?_)
    simp only [Kt_at K Kr hK n hn, q1_at Q Qr hQ, ← EReal.coe_mul]
    rw [← coe_sum]
    congr 1
    rw [Fin.sum_univ_add (a := 64) (b := 64)]
    simp only [Fin.val_castAdd, Fin.val_natAdd, Fin.is_lt, if_true, mul_zero]
    rw [Finset.sum_const_zero, zero_add, Finset.sum_mul, Finset.sum_mul]
    refine Finset.sum_congr rfl fun d _ => ?_
    have : chn 1 d = Fin.natAdd 64 d := Fin.ext (by show 64 * 1 + d.val = 64 + d.val; omega)
    show _ = Qr (chn 1 d) t * Kr _ (chn 1 d) * _ * _
    rw [this, one_div, one_div, if_neg (by omega)]
    ring

variable (V : Vec Ideal S128x4096 .bf16) (Vr : Fin 128 → ℕ → ℝ) (hV : ∀ r (k : Fin 4096), V (ix2 r k) = ((Vr r k.val : ℝ) : EReal))
include hV

/-- The extended values: the values, then ones. -/
def Xof (r : Fin 144) (k : ℕ) : ℝ := if h : r.val < 128 then Vr ⟨r.val, h⟩ k else 1

omit hQ hK in
theorem Vt_at (n : ℕ) (hn : n ≤ 7) (r : Fin 144) (k : Fin 512) : Vt (vext V) n (ix3 0 r k) = ((Xof Vr r (512 * n + k.val) : ℝ) : EReal) := by
  have e : Vt (vext V) n (ix3 0 r k) = vext V (ix3 0 r ⟨512 * n + k.val, by omega⟩) :=
    win3 (vext V) 0 0 (512 * min n 7) _ 0 r k 0 r ⟨512 * n + k.val, by omega⟩ rfl (Nat.zero_add _).symm (by show 512 * n + k.val = _; rw [Nat.min_eq_left hn])
  rw [e]
  unfold vext Xof
  by_cases h : r.val < 128
  · rw [dif_pos h, put_miss _ _ _ _ _ 1 (by show ¬(128 ≤ r.val ∧ _); omega)]
    have hh : ∀ a, (![0, 0, 0] : Fin 3 → ℕ) a ≤ ((ix3 0 r ⟨512 * n + k.val, by omega⟩ : S1x144x4096.Idx) a).val ∧ ((ix3 0 r ⟨512 * n + k.val, by omega⟩ : S1x144x4096.Idx) a).val < (![0, 0, 0] : Fin 3 → ℕ) a + S1x128x4096.size a := by
      intro a; match a with
      | 0 => exact ⟨Nat.zero_le _, by show 0 < 0 + 1; omega⟩
      | 1 => exact ⟨Nat.zero_le _, by show r.val < 0 + 128; omega⟩
      | 2 => exact ⟨Nat.zero_le _, by show 512 * n + k.val < 0 + 4096; omega⟩
    rw [put_hit _ _ _ _ _ hh, ← hV ⟨r.val, h⟩ ⟨512 * n + k.val, by omega⟩]
    refine Eq.trans (congrArg (Gen.k0_pay1226 V) (?_ : _ = (ix3 0 ⟨r.val, h⟩ ⟨512 * n + k.val, by omega⟩ : S1x128x4096.Idx))) ?_
    · funext a
      match a with
      | 0 => rfl
      | 1 => rfl
      | 2 => rfl
    · exact shapeCast_ab_1ab_apply _ _ _ _ _
  · rw [dif_neg h]
    have hh : ∀ a, (![0, 128, 0] : Fin 3 → ℕ) a ≤ ((ix3 0 r ⟨512 * n + k.val, by omega⟩ : S1x144x4096.Idx) a).val ∧ ((ix3 0 r ⟨512 * n + k.val, by omega⟩ : S1x144x4096.Idx) a).val < (![0, 128, 0] : Fin 3 → ℕ) a + S1x16x4096.size a := by
      intro a; match a with
      | 0 => exact ⟨Nat.zero_le _, by show 0 < 0 + 1; omega⟩
      | 1 => exact ⟨by show 128 ≤ r.val; omega, by show r.val < 128 + 16; omega⟩
      | 2 => exact ⟨Nat.zero_le _, by show 512 * n + k.val < 0 + 4096; omega⟩
    rw [put_hit _ _ _ _ _ hh]
    exact Ideal.ofBits_one_bf16

variable (B : Vec Ideal S1x2x512x512 .f32) (rb : ℕ → ℕ → ℝ) (b31 : ℝ) (hrb : ∀ q k, q < 4096 → k + 512 ≤ q → rb q k = b31)
variable (hB0 : ∀ (n : ℕ) (k t : Fin 512), n + 1 ≤ 7 → B (ix4 0 0 k t) = (((rb (512 * (n + 1) + t.val) (512 * n + k.val) - b31) * (1 / Real.log 2) : ℝ) : EReal))
variable (hB1 : ∀ (n : ℕ) (k t : Fin 512), n ≤ 7 → B (ix4 0 1 k t) = masked (k.val ≤ t.val) ((rb (512 * n + t.val) (512 * n + k.val) - b31) * (1 / Real.log 2)))
include hB0 hB1 hrb

/-- The score of a key for a query of tile `qi`. -/
def ellT (Qr : Fin 128 → Fin 512 → ℝ) (Kr : ℕ → Fin 128 → ℝ) (rb : ℕ → ℕ → ℝ) (qi : ℕ) (c : Fin 2) (t : Fin 512) (k : ℕ) : ℝ := ellOf (fun d => Qr (chn c d) t) (fun d => Kr k (chn c d)) (rb (512 * qi + t.val) k)

omit hV in
theorem row_at (qi : ℕ) (hqi : qi ≤ 7) (n : ℕ) (hn : n ≤ qi) (c : Fin 2) (k t : Fin 512) :
    rowAt (Sc K (Gen.k0_pay1229 Q) (Gen.k0_pay1230 Q) n) B (biasAt qi n) c k t
      = masked (512 * n + k.val ≤ 512 * qi + t.val) ((ellT Qr Kr rb qi c t (512 * n + k.val) - b31) * (1 / Real.log 2)) := by
  have hs := Sc_at Q Qr hQ K Kr hK n (by omega) c k t
  unfold biasAt
  by_cases h1 : n = qi
  · rw [if_pos h1]
    subst h1
    show _ + _ = _
    rw [hs, hB1 n k t (by omega)]
    unfold masked
    by_cases hk : k.val ≤ t.val
    · rw [if_pos hk, if_pos (by omega), ← EReal.coe_add]
      congr 1
      unfold ellT ellOf
      ring
    · rw [if_neg hk, if_neg (by omega), EReal.add_bot]
  · rw [if_neg h1]
    by_cases h2 : n + 1 = qi
    · rw [if_pos h2]
      subst h2
      unfold masked
      rw [if_pos (by omega)]
      show _ + _ = _
      rw [hs, hB0 n k t (by omega), ← EReal.coe_add]
      congr 1
      unfold ellT ellOf
      ring
    · rw [if_neg h2]
      unfold masked
      rw [if_pos (by omega)]
      show Sc _ _ _ _ _ = _
      rw [hs]
      congr 1
      unfold ellT ellOf
      rw [hrb (512 * qi + t.val) (512 * n + k.val) (by omega) (by omega)]
      ring

omit hQ hK hV hB0 hB1 hrb in
/-- The weights sum to the exponentials, up to one factor. -/
theorem sum_wt (qi : ℕ) (e : Fin 2 → Fin 512 → ℕ → ℝ) (b31 : ℝ) (c : Fin 2) (t : Fin 512) (m : ℝ) (v : ℕ → ℝ) :
    ∑ k ∈ Finset.range (512 * (qi + 1)), v k * wt qi (fun c k t => (e c t k - b31) * (1 / Real.log 2)) c k t m
      = (∑ k ∈ Finset.range (512 * qi + t.val + 1), v k * Real.exp (e c t k)) * Real.exp (-b31 - Real.log 2 * m) := by
  have hsub : Finset.range (512 * qi + t.val + 1) ⊆ Finset.range (512 * (qi + 1)) := Finset.range_subset_range.2 (by omega)
  rw [← Finset.sum_subset hsub, Finset.sum_mul]
  · refine Finset.sum_congr rfl fun k hk => ?_
    have hk' := Finset.mem_range.1 hk
    unfold wt
    rw [if_pos (by omega), Real.rpow_def_of_pos (by norm_num), mul_assoc, ← Real.exp_add]
    congr 2
    have := (Real.log_pos (show (1 : ℝ) < 2 by norm_num)).ne'
    field_simp
    ring
  · intro k _ hk
    unfold wt
    rw [if_neg (fun h => hk (Finset.mem_range.2 (by omega))), mul_zero]

/-- A channel's quotient. -/
theorem quot_at (qi : ℕ) (hqi : qi ≤ 7) (c : Fin 2) (r : Fin 128) (t : Fin 512) :
    Ideal.div (finA K (vext V) B (Gen.k0_pay1229 Q) (Gen.k0_pay1230 Q) qi (ix3 c ⟨r.val, by omega⟩ t)) (finA K (vext V) B (Gen.k0_pay1229 Q) (Gen.k0_pay1230 Q) qi (ix3 c 128 t))
      = ((att (512 * qi + t.val) (ellT Qr Kr rb qi c t) (Vr r) : ℝ) : EReal) := by
  obtain ⟨m, hm⟩ := finA_eq K (vext V) B (Gen.k0_pay1229 Q) (Gen.k0_pay1230 Q) qi (fun c k t => (ellT Qr Kr rb qi c t k - b31) * (1 / Real.log 2)) (Xof Vr)
    (fun n hn r k => Vt_at V Vr hV n (by omega) r k)
    (fun n hn c k t => row_at Q Qr hQ K Kr hK B rb b31 hrb hB0 hB1 qi hqi n hn c k t)
  rw [hm, hm]
  have e1 : ∀ k, Xof Vr ⟨r.val, by omega⟩ k = Vr r k := fun k => by unfold Xof; rw [dif_pos r.isLt]
  have e2 : ∀ k, Xof Vr (128 : Fin 144) k = 1 := fun k => by unfold Xof; rw [dif_neg (by decide)]
  simp only [e1, e2]
  rw [sum_wt, sum_wt qi _ b31 c t (m c t) (fun _ => 1)]
  simp only [one_mul]
  have hd := den_pos (512 * qi + t.val) (ellT Qr Kr rb qi c t)
  have hx := Real.exp_pos (-b31 - Real.log 2 * m c t)
  rw [Ideal.div_coe (mul_pos hd hx).ne', ← EReal.coe_mul]
  congr 1
  unfold att
  field_simp

end tile

end Cert.Attn
-- ==== Proof.Spec.lean ====
/- The attention as a function of the arguments: what both programs compute. -/
module

public import proofs.«01_k».proof.Proof.Kern

@[expose] public section

noncomputable section

namespace Cert.Attn

open Idealize.ShloMosaic hiding ix0 ix1 ix2 ix3 ix4
open Idealize.ShloMosaic.ValueIdx

variable (x0 : (⟨2, ![2048, 32768]⟩ : Shape).Idx → EReal) (x1 : (⟨3, ![8, 4096, 3072]⟩ : Shape).Idx → EReal)
  (x2 x3 x4 x5 : (⟨1, ![64]⟩ : Shape).Idx → EReal) (x6 : (⟨1, ![128]⟩ : Shape).Idx → EReal) (x7 : (⟨2, ![32, 8]⟩ : Shape).Idx → EReal)

/-- A query's coordinate. -/
def qG (b h : Fin 8) (d : Fin 128) (s : Fin 4096) : ℝ := (x0 (ix2 ⟨128 * h.val + d.val, by omega⟩ ⟨4096 * b.val + s.val, by omega⟩)).toReal
/-- A key's coordinate. -/
def kG (b h : Fin 8) (k : ℕ) (d : Fin 128) : ℝ := (x1 (ix3 b ⟨k % 4096, by omega⟩ ⟨128 * h.val + d.val, by omega⟩)).toReal
/-- A value's coordinate. -/
def vG (b h : Fin 8) (r : Fin 128) (k : ℕ) : ℝ := (x0 (ix2 ⟨1024 + 128 * h.val + r.val, by omega⟩ ⟨4096 * b.val + k % 4096, by omega⟩)).toReal
/-- The bias of a key for a query. -/
def bG (h : Fin 8) (s k : ℕ) : ℝ := (x7 (ix2 (rowQ s k) h)).toReal
/-- The score. -/
def ellG (b h : Fin 8) (c : Fin 2) (s : Fin 4096) (k : ℕ) : ℝ :=
  ellOf (fun d => qG x0 b h (chn c d) s) (fun d => kG x1 b h k (chn c d)) (bG x7 h s.val k)
/-- A channel's average. -/
def attG (b h : Fin 8) (c : Fin 2) (s : Fin 4096) (r : Fin 128) : ℝ := att s.val (ellG x0 x1 x7 b h c s) (vG x0 b h r)
/-- The weight of the second channel. -/
def lamG : EReal := lamE (fun i => x2 (ix1 i)) (fun i => x3 (ix1 i)) (fun i => x4 (ix1 i)) (fun i => x5 (ix1 i))
/-- The result. -/
def outG (b : Fin 8) (s : Fin 4096) (h : Fin 8) (r : Fin 128) : EReal :=
  rmsOut (fun r => (attG x0 x1 x7 b h 0 s r : EReal) - lamG x2 x3 x4 x5 * (attG x0 x1 x7 b h 1 s r : EReal)) (x6 (ix1 r)) r
/-- The result array. -/
def arrG : (⟨3, ![8, 4096, 1024]⟩ : Shape).Idx → EReal := fun i =>
  outG x0 x1 x2 x3 x4 x5 x6 x7 (i 0) (i 1) ⟨(i 2).val / 128, by have : (i 2).val < 1024 := (i 2).isLt; show _ < 8; omega⟩ ⟨(i 2).val % 128, by show _ < 128; omega⟩

end Cert.Attn
-- ==== Proof.Blocks.lean ====
/- The blocks of a grid point, read off the arguments, and the array the blocks written make. -/
module

public import proofs.«01_k».proof.Proof.Spec
public import proofs.«01_k».proof.Proof.Run
public import Idealize.ShloMosaic.Lib.Pipeline.ValueKit.Geometry

@[expose] public section

noncomputable section

namespace Cert.Attn

open Idealize.ShloMosaic hiding ix0 ix1 ix2 ix3 ix4
open Idealize.ShloMosaic.TcCoe
open Idealize.SL.Sem
open Idealize.ShloMosaic.VecWindow Idealize.ShloMosaic.ValueIdx
open Idealize.ShloMosaic.Pipeline
open Cert.KernelIdeal
open Cert.KernelIdeal.Gen (V iblk)

variable (m : (ℓ : Loc nD τ sig) → Buf (Elt Ideal) ℓ) (c : Dev nD)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![(grid0.coords t 0).val, (grid0.coords t 1).val * 8 + (grid0.coords t 2).val] := (by decide +kernel : ∀ t : Fin grid0.N, _)
theorem index3 : ∀ t : Fin cfg0.N, win0_3.index t = ![(grid0.coords t 1).val, 0, (grid0.coords t 0).val] := (by decide +kernel : ∀ t : Fin grid0.N, _)
theorem index4 : ∀ t : Fin cfg0.N, win0_4.index t = ![8 + (grid0.coords t 0).val, (grid0.coords t 1).val] := (by decide +kernel : ∀ t : Fin grid0.N, _)
theorem index5 : ∀ t : Fin cfg0.N, win0_5.index t = ![(grid0.coords t 0).val, 0, 0, 0] := (by decide +kernel : ∀ t : Fin grid0.N, _)
theorem index6 : ∀ t : Fin cfg0.N, win0_6.index t = ![(grid0.coords t 1).val, (grid0.coords t 2).val, (grid0.coords t 0).val] := (by decide +kernel : ∀ t : Fin grid0.N, _)

/-- The head, the batch row and the query tile of a point. -/
def hd (t : Fin cfg0.N) : Fin 8 := grid0.coords t 0
def bt (t : Fin cfg0.N) : Fin 8 := grid0.coords t 1
def qt (t : Fin cfg0.N) : Fin 8 := grid0.coords t 2

theorem blk2_at (t : Fin cfg0.N) (d : Fin 128) (u : Fin 512) :
    iblk m c 2 t (ix2 d u) = m ((c.tc : Thread nD τ).loc main_arg0) (ix2 ⟨128 * (hd t).val + d.val, by omega⟩ ⟨4096 * (bt t).val + (512 * (qt t).val + u.val), by omega⟩) := by
  have e := index2 t
  blk_simp [iblk]
  rw [show V m c (Pipeline.arrRef spec0 2) = V m c main_arg0 from rfl, Gen.V_main_arg0]
  refine congrArg _ (funext fun a => Fin.ext ?_)
  match a with
  | 0 => blk_simp [e]; show (hd t).val * 128 + d.val = 128 * (hd t).val + d.val; omega
  | 1 => blk_simp [e]; show ((bt t).val * 8 + (qt t).val) * 512 + u.val = 4096 * (bt t).val + (512 * (qt t).val + u.val); omega

theorem blk4_at (t : Fin cfg0.N) (r : Fin 128) (k : Fin 4096) :
    iblk m c 4 t (ix2 r k) = m ((c.tc : Thread nD τ).loc main_arg0) (ix2 ⟨1024 + 128 * (hd t).val + r.val, by omega⟩ ⟨4096 * (bt t).val + k.val, by omega⟩) := by
  have e := index4 t
  blk_simp [iblk]
  rw [show V m c (Pipeline.arrRef spec0 4) = V m c main_arg0 from rfl, Gen.V_main_arg0]
  refine congrArg _ (funext fun a => Fin.ext ?_)
  match a with
  | 0 => blk_simp [e]; show (8 + (hd t).val) * 128 + r.val = 1024 + 128 * (hd t).val + r.val; omega
  | 1 => blk_simp [e]; show (bt t).val * 4096 + k.val = 4096 * (bt t).val + k.val; omega

theorem blk3_at (t : Fin cfg0.N) (k : Fin 4096) (d : Fin 128) :
    iblk m c 3 t (ix3 0 k d) = m ((c.tc : Thread nD τ).loc main_arg1) (ix3 (bt t) k ⟨128 * (hd t).val + d.val, by omega⟩) := by
  have e := index3 t
  blk_simp [iblk]
  rw [show V m c (Pipeline.arrRef spec0 3) = V m c main_arg1 from rfl, Gen.V_main_arg1]
  refine congrArg _ (funext fun a => Fin.ext ?_)
  match a with
  | 0 => blk_simp [e]; rfl
  | 1 => blk_simp [e]; rfl
  | 2 => blk_simp [e]; show (hd t).val * 128 + d.val = 128 * (hd t).val + d.val; omega

theorem blk5_at (t : Fin cfg0.N) (u : Fin 2) (k q : Fin 512) :
    iblk m c 5 t (ix4 0 u k q) = V m c main_v81 (ix4 (hd t) u k q) := by
  have e := index5 t
  blk_simp [iblk]
  show V m c main_v81 _ = _
  refine congrArg _ (funext fun a => Fin.ext ?_)
  match a with
  | 0 => blk_simp [e]; rfl
  | 1 => blk_simp [e]; rfl
  | 2 => blk_simp [e]; rfl
  | 3 => blk_simp [e]; rfl

theorem blk0_at (t : Fin cfg0.N) (u : Fin 4) (k : Fin 64) : iblk m c 0 t (ix2 u k) = V m c main_v86 (ix2 u k) := by
  have e := index0 t
  blk_simp [iblk]
  show V m c main_v86 _ = _
  refine congrArg _ (funext fun a => Fin.ext ?_)
  match a with
  | 0 => blk_simp [e]
  | 1 => blk_simp [e]

theorem blk1_at (t : Fin cfg0.N) (r : Fin 128) : iblk m c 1 t (ix2 r 0) = V m c main_v87 (ix2 r 0) := by
  have e := index1 t
  blk_simp [iblk]
  show V m c main_v87 _ = _
  refine congrArg _ (funext fun a => Fin.ext ?_)
  match a with
  | 0 => blk_simp [e]
  | 1 => blk_simp [e]

theorem lamE_congr {a b c d a' b' c' d' : Fin 64 → EReal} (ha : ∀ k, a k = a' k) (hb : ∀ k, b k = b' k) (hc : ∀ k, c k = c' k) (hd : ∀ k, d k = d' k) :
    lamE a b c d = lamE a' b' c' d' := by
  rw [funext ha, funext hb, funext hc, funext hd]

section final

variable (h0 : ∀ i, m ((c.tc : Thread nD τ).loc main_arg0) i = (((m ((c.tc : Thread nD τ).loc main_arg0) i : EReal).toReal : ℝ) : EReal))
variable (h1 : ∀ (b : Fin 8) (k : Fin 4096) (e : Fin 3072), e.val < 1024 →
  m ((c.tc : Thread nD τ).loc main_arg1) (ix3 b k e) = (((m ((c.tc : Thread nD τ).loc main_arg1) (ix3 b k e) : EReal).toReal : ℝ) : EReal))
variable (h7 : ∀ i, m ((c.tc : Thread nD τ).loc main_arg7) i = (((m ((c.tc : Thread nD τ).loc main_arg7) i : EReal).toReal : ℝ) : EReal))
include h0 h1 h7

/-- A channel's quotient at a point is the average over the keys up to the query. -/
theorem quotBlk (t : Fin cfg0.N) (ch : Fin 2) (r : Fin 128) (u : Fin 512) :
    Ideal.div (finA (iblk m c 3 t) (vext (iblk m c 4 t)) (iblk m c 5 t) (Gen.k0_pay1229 (iblk m c 2 t)) (Gen.k0_pay1230 (iblk m c 2 t)) (grid0.coords t 2).val (ix3 ch ⟨r.val, by omega⟩ u))
        (finA (iblk m c 3 t) (vext (iblk m c 4 t)) (iblk m c 5 t) (Gen.k0_pay1229 (iblk m c 2 t)) (Gen.k0_pay1230 (iblk m c 2 t)) (grid0.coords t 2).val (ix3 ch 128 u))
      = ((attG (m ((c.tc : Thread nD τ).loc main_arg0)) (m ((c.tc : Thread nD τ).loc main_arg1)) (m ((c.tc : Thread nD τ).loc main_arg7)) (bt t) (hd t) ch
          ⟨512 * (qt t).val + u.val, by omega⟩ r : ℝ) : EReal) := by
  have hq := (qt t).isLt
  refine (quot_at (iblk m c 2 t) (fun d u => qG (m ((c.tc : Thread nD τ).loc main_arg0)) (bt t) (hd t) d ⟨512 * (qt t).val + u.val, by omega⟩) (fun d u => ?_)
    (iblk m c 3 t) (kG (m ((c.tc : Thread nD τ).loc main_arg1)) (bt t) (hd t)) (fun k d => ?_)
    (iblk m c 4 t) (vG (m ((c.tc : Thread nD τ).loc main_arg0)) (bt t) (hd t)) (fun r k => ?_)
    (iblk m c 5 t) (bG (m ((c.tc : Thread nD τ).loc main_arg7)) (hd t)) ((m ((c.tc : Thread nD τ).loc main_arg7) (ix2 31 (hd t)) : EReal).toReal) (fun q k hq hk => ?_)
    (fun n k q hn => ?_) (fun n k q hn => ?_) (qt t).val (by omega) ch r u).trans rfl
  · rw [blk2_at, h0]; rfl
  · rw [blk3_at, h1 _ _ _ (by have := (hd t).isLt; show 128 * (hd t).val + d.val < 1024; omega)]
    unfold kG
    congr 4
    exact Fin.ext (Nat.mod_eq_of_lt k.isLt).symm
  · rw [blk4_at, h0]
    unfold vG
    congr 4
    exact Fin.ext (by show 4096 * (bt t).val + k.val = 4096 * (bt t).val + k.val % 4096; rw [Nat.mod_eq_of_lt k.isLt])
  · unfold bG
    rw [rowQ_far q k hq hk]
  · rw [blk5_at, V_bias, (bothA_at _ _ (hd t) k q).1, prev_at (m ((c.tc : Thread nD τ).loc main_arg7)) (fun r h => (m ((c.tc : Thread nD τ).loc main_arg7) (ix2 r h) : EReal).toReal) (fun r h => h7 _)]
    unfold bG
    rw [show 512 * (n + 1) + q.val = 512 * n + (512 + q.val) by omega, rowQ_shift]
  · rw [blk5_at, V_bias, (bothA_at _ _ (hd t) k q).2, diag_at (m ((c.tc : Thread nD τ).loc main_arg7)) (fun r h => (m ((c.tc : Thread nD τ).loc main_arg7) (ix2 r h) : EReal).toReal) (fun r h => h7 _)]
    unfold bG
    rw [rowQ_shift]

/-- The result array after the run. -/
theorem final_o : (dats m 0 c).arrAt 6 cfg0.N
    = arrG (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 6 _ (by decide +kernel) fun t hf y => ?_
  have e := index6 t
  blk_simp
  have hy : ∃ (u : Fin 1) (q : Fin 512) (r : Fin 128), y = (ix3 u q r : S1x512x128.Idx) := ⟨y 0, y 1, y 2, ValueIdx.eq_ix3 (n0 := 1) (n1 := 512) (n2 := 128) y⟩
  obtain ⟨u, q, r, rfl⟩ := hy
  have hh := (hd t).isLt
  have hq := (qt t).isLt
  have he : (win0_6.blk t).view.emb (ix3 u q r : S1x512x128.Idx) = (ix3 (bt t) ⟨512 * (qt t).val + q.val, by omega⟩ ⟨128 * (hd t).val + r.val, by omega⟩ : S8x4096x1024.Idx) := by
    funext a
    refine Fin.ext ?_
    match a with
    | 0 => blk_simp [e]; rfl
    | 1 => blk_simp [e]; show (qt t).val * 512 + q.val = 512 * (qt t).val + q.val; omega
    | 2 => blk_simp [e]; show (hd t).val * 128 + r.val = 128 * (hd t).val + r.val; omega
  rw [he]
  refine (congrFun (after6 m c t) _).trans ?_
  unfold oblk
  rw [outV_at]
  have ea : arrG (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (ix3 (bt t) ⟨512 * (qt t).val + q.val, by omega⟩ ⟨128 * (hd t).val + r.val, by omega⟩)
      = outG (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (bt t) ⟨512 * (qt t).val + q.val, by omega⟩ (hd t) r := by
    unfold arrG
    congr 1
    · exact Fin.ext (by show (128 * (hd t).val + r.val) / 128 = (hd t).val; omega)
    · exact Fin.ext (by show (128 * (hd t).val + r.val) % 128 = r.val; omega)
  rw [ea]
  unfold outG
  have eg : iblk m c 1 t (ix2 r 0) = m ((c.tc : Thread nD τ).loc main_arg6) (ix1 r) := by rw [blk1_at, V_g, gA_at]
  have el : Gen.k0_pay1251 (iblk m c 0 t) (ix2 0 0) = lamG (m ((c.tc : Thread nD τ).loc main_arg2)) (m ((c.tc : Thread nD τ).loc main_arg3)) (m ((c.tc : Thread nD τ).loc main_arg4)) (m ((c.tc : Thread nD τ).loc main_arg5)) := by
    unfold lamG
    refine (lam_at _).trans (lamE_congr (fun k => ?_) (fun k => ?_) (fun k => ?_) (fun k => ?_))
    · rw [blk0_at, V_lam]; exact (lamA_at _ _ _ _ k).1
    · rw [blk0_at, V_lam]; exact (lamA_at _ _ _ _ k).2.1
    · rw [blk0_at, V_lam]; exact (lamA_at _ _ _ _ k).2.2.1
    · rw [blk0_at, V_lam]; exact (lamA_at _ _ _ _ k).2.2.2
  refine Eq.trans ?_ (congrArg (fun g => rmsOut _ g r) eg)
  refine congrArg (fun o => rmsOut o _ r) (funext fun r => ?_)
  exact congrArg₂ (fun a b => a - b) (quotBlk m c h0 h1 h7 t 0 r q) (congrArg₂ (fun a b => a * b) el (quotBlk m c h0 h1 h7 t 1 r q))

end final

end Cert.Attn
-- ==== Proof.Soft.lean ====
/- A softmax over masked scores, in the extended reals, is the real one; and what a weighted sum of values comes to. -/
module

public import proofs.«01_k».proof.Proof.Spec

@[expose] public section

noncomputable section

namespace Cert.Attn

open Idealize.ShloMosaic

theorem masked_true (p : Prop) [Decidable p] (a : ℝ) (h : p) : masked p a = (a : EReal) := by unfold masked; rw [if_pos h]

/-- The largest of the masked scores is a real number. -/
theorem fold_real (n q : ℕ) (hq : q < n) (e : ℕ → ℝ) :
    ∃ M : ℝ, (Finset.univ : Finset (Fin n)).fold max (⊥ : EReal) (fun k => masked (k.val ≤ q) (e k.val)) = (M : EReal) := by
  set f : Fin n → EReal := fun k => masked (k.val ≤ q) (e k.val) with hf
  have h1 : (Finset.univ : Finset (Fin n)).fold max (⊥ : EReal) f < ⊤ :=
    (Finset.fold_max_lt _).2 ⟨bot_lt_top, fun k _ => masked_lt _ _⟩
  have h2 : ⊥ < (Finset.univ : Finset (Fin n)).fold max (⊥ : EReal) f :=
    (Finset.lt_fold_max _).2 (Or.inr ⟨⟨q, hq⟩, Finset.mem_univ _, by
      show ⊥ < masked (q ≤ q) (e q)
      rw [masked_true _ _ (le_refl q)]
      exact EReal.bot_lt_coe _⟩)
  exact ⟨_, (EReal.coe_toReal h1.ne h2.ne').symm⟩

/-- A key's share. -/
def sm (q : ℕ) (e : ℕ → ℝ) (k : ℕ) : ℝ := if k ≤ q then Real.exp (e k) / ∑ k ∈ Finset.range (q + 1), Real.exp (e k) else 0

theorem exp_masked (p : Prop) [Decidable p] (a m : ℝ) : Ideal.exp (masked p a - (m : EReal)) = ((if p then Real.exp (a - m) else 0 : ℝ) : EReal) := by
  unfold masked
  split
  · rw [← EReal.coe_sub]; rfl
  · rw [EReal.bot_sub]; exact EReal.coe_zero.symm

theorem sum_upto (n q : ℕ) (hq : q < n) (f : ℕ → ℝ) : ∑ k : Fin n, (if k.val ≤ q then f k.val else 0) = ∑ k ∈ Finset.range (q + 1), f k := by
  rw [Fin.sum_univ_eq_sum_range (fun k => if k ≤ q then f k else 0) n]
  have hsub : Finset.range (q + 1) ⊆ Finset.range n := Finset.range_subset_range.2 (by omega)
  rw [← Finset.sum_subset hsub]
  · exact Finset.sum_congr rfl fun k hk => if_pos (by have := Finset.mem_range.1 hk; omega)
  · intro k _ hk
    exact if_neg fun h => hk (Finset.mem_range.2 (by omega))

theorem share_at (n q : ℕ) (hq : q < n) (e : ℕ → ℝ) (M : ℝ) (k : Fin n) :
    Ideal.div (Ideal.exp (masked (k.val ≤ q) (e k.val) - (M : EReal))) (∑ j : Fin n, Ideal.exp (masked (j.val ≤ q) (e j.val) - (M : EReal)))
      = (sm q e k.val : EReal) := by
  simp only [exp_masked]
  rw [← coe_sum, sum_upto n q hq (fun k => Real.exp (e k - M))]
  have hs : ∑ k ∈ Finset.range (q + 1), Real.exp (e k - M) = (∑ k ∈ Finset.range (q + 1), Real.exp (e k)) * Real.exp (-M) := by
    rw [Finset.sum_mul]
    exact Finset.sum_congr rfl fun k _ => by rw [← Real.exp_add]; rfl
  have hd := den_pos q e
  have hx := Real.exp_pos (-M)
  rw [hs, Ideal.div_coe (mul_pos hd hx).ne', ← EReal.coe_mul]
  congr 1
  unfold sm
  split
  · rw [show e k.val - M = e k.val + -M from rfl, Real.exp_add]
    field_simp
  · exact zero_mul _

theorem sum_share (n q : ℕ) (hq : q < n) (e v : ℕ → ℝ) : ∑ k : Fin n, v k.val * sm q e k.val = att q e v := by
  unfold att
  rw [← sum_upto n q hq (fun k => v k * Real.exp (e k)), Finset.sum_div]
  refine Finset.sum_congr rfl fun k _ => ?_
  unfold sm
  split
  · rw [mul_div_assoc]
  · rw [mul_zero, zero_div]

/-- The values weighted by a difference of shares. -/
theorem diff_share (n q : ℕ) (hq : q < n) (e0 e1 v : ℕ → ℝ) (l : ℝ) :
    ∑ k : Fin n, (v k.val : EReal) * ((sm q e0 k.val : EReal) - (l : EReal) * (sm q e1 k.val : EReal))
      = (att q e0 v : EReal) - (l : EReal) * (att q e1 v : EReal) := by
  have h : ∀ k : Fin n, (v k.val : EReal) * ((sm q e0 k.val : EReal) - (l : EReal) * (sm q e1 k.val : EReal))
      = ((v k.val * (sm q e0 k.val - l * sm q e1 k.val) : ℝ) : EReal) := fun k => by
    rw [EReal.coe_mul, EReal.coe_sub, EReal.coe_mul]
  simp only [h]
  rw [← coe_sum, ← EReal.coe_mul, ← EReal.coe_sub, ← sum_share n q hq e0 v, ← sum_share n q hq e1 v]
  congr 1
  rw [Finset.mul_sum, ← Finset.sum_sub_distrib]
  exact Finset.sum_congr rfl fun k _ => by ring

/-- The scalar weight is a real number when its vectors are. -/
theorem lamE_real (a b c d : Fin 64 → ℝ) :
    ∃ l : ℝ, lamE (fun i => (a i : EReal)) (fun i => (b i : EReal)) (fun i => (c i : EReal)) (fun i => (d i : EReal)) = (l : EReal) := by
  have h2 : ∃ r : ℝ, Ideal.ofBits .f32 0x3E4CCCCD#32 = (r : EReal) := by
    simp only [Ideal.ofBits, Ideal.ieee]
    simp
    exact ⟨_, (EReal.coe_mul _ _).symm⟩
  obtain ⟨r, hr⟩ := h2
  have hs : ∀ a b : Fin 64 → ℝ, Ideal.exp (∑ i : Fin 64, (a i : EReal) * (b i : EReal)) = ((Real.exp (∑ i : Fin 64, a i * b i) : ℝ) : EReal) := fun a b => by
    simp only [← EReal.coe_mul]
    rw [← coe_sum]
    rfl
  unfold lamE
  rw [hs, hs, hr, ← EReal.coe_sub, ← EReal.coe_add]
  exact ⟨_, rfl⟩

theorem lit8 : Ideal.ofBits .f32 0x3E000000#32 = ((1 / 8 : ℝ) : EReal) := by
  simp only [Ideal.ofBits, Ideal.ieee]
  simp
  rw [← EReal.coe_mul]
  congr 1
  norm_num

theorem litBot : Ideal.ofBits .f32 0xFF800000#32 = ⊥ := by simp [Ideal.ofBits, Ideal.ieee]

/-- A row masked by the sign of a distance. -/
theorem select_masked (s k : ℕ) (hs : s < 4096) (hk : k < 4096) (a : ℝ) :
    Scalar.select (IntOp.cmpi .sge (dw s k) 0#32) (a : EReal) ⊥ = masked (k ≤ s) a := by
  have hd := dw_toInt s k hs hk
  have ec : IntOp.cmpi .sge (dw s k) 0#32 = BitVec.ofBool (decide ((0#32 : BitVec 32).toInt ≤ (dw s k).toInt)) := rfl
  have h0 : (0#32 : BitVec 32).toInt = 0 := rfl
  unfold masked
  by_cases h : k ≤ s
  · rw [if_pos h, ec, decide_eq_true (by omega)]
    rfl
  · rw [if_neg h, ec, decide_eq_false (by omega)]
    rfl

end Cert.Attn
-- ==== Proof.RefLay.lean ====
/- The reference's values at an index: the layouts of the queries, keys, values and of the table, and the ends. -/
module

public import proofs.«01_k».proof.Proof.Spec
public import proofs.«01_k».proof.Proof.Gen.ReferenceIdeal.Read
public import Idealize.ShloMosaic.Lib.ValueIdxRank1

@[expose] public section

noncomputable section

namespace Cert.Attn

open Idealize.ShloMosaic hiding ix0 ix1 ix2 ix3 ix4 ix5
open Idealize.ShloMosaic.ValueIdx
open Cert.ReferenceIdeal Cert.ReferenceIdeal.Gen Cert.ReferenceIdeal.Read

variable (x0 : (⟨S2048x32768, .bf16⟩ : BufTy).Contents (Elt Ideal)) (x1 : (⟨S8x4096x3072, .bf16⟩ : BufTy).Contents (Elt Ideal))
  (x2 x3 x4 x5 : (⟨S64, .f32⟩ : BufTy).Contents (Elt Ideal)) (x6 : (⟨S128, .f32⟩ : BufTy).Contents (Elt Ideal)) (x7 : (⟨S32x8, .f32⟩ : BufTy).Contents (Elt Ideal))

theorem r2_at (b : Fin 8) (s : Fin 4096) (e : Fin 2048) : val_main_v2 (F := Ideal) x0 (ix3 b s e) = x0 (ix2 e ⟨4096 * b.val + s.val, by omega⟩) := by
  rw [val_main_v2_apply, val_main_v1_apply]
  refine congrArg x0 (funext fun a => Fin.ext ?_)
  match a with
  | 0 => show ((b.val * 4096 + s.val) * 2048 + e.val) % 2048 = e.val; omega
  | 1 => show ((b.val * 4096 + s.val) * 2048 + e.val) / 2048 = 4096 * b.val + s.val; omega

theorem r18_at (b h : Fin 8) (c : Fin 2) (s : Fin 4096) (d : Fin 64) :
    val_main_v18 (F := Ideal) x0 (ix5 b h c s d) = x0 (ix2 ⟨128 * h.val + (chn c d).val, by have := (chn c d).isLt; omega⟩ ⟨4096 * b.val + s.val, by omega⟩) := by
  have hl := (chn c d).isLt
  rw [val_main_v18_apply, val_main_v4_apply, val_main_v3_apply]
  refine Eq.trans (congrArg (val_main_v2 (F := Ideal) x0) (?_ : _ = (ix3 b s ⟨128 * h.val + (chn c d).val, by omega⟩ : S8x4096x2048.Idx))) (r2_at x0 _ _ _)
  refine funext fun a => Fin.ext ?_
  match a with
  | 0 => show ((((b.val * 4096 + s.val) * 8 + h.val) * 2 + c.val) * 64 + d.val) / 4194304 = b.val; omega
  | 1 => show ((((b.val * 4096 + s.val) * 8 + h.val) * 2 + c.val) * 64 + d.val) / 1024 % 4096 = s.val; omega
  | 2 => show ((((b.val * 4096 + s.val) * 8 + h.val) * 2 + c.val) * 64 + d.val) % 1024 = 128 * h.val + (64 * c.val + d.val); omega

theorem r19_at (b h : Fin 8) (c : Fin 2) (s : Fin 4096) (d : Fin 64) :
    val_main_v19 (F := Ideal) x1 (ix5 b h c s d) = x1 (ix3 b s ⟨128 * h.val + (chn c d).val, by have := (chn c d).isLt; omega⟩) := by
  have hl := (chn c d).isLt
  rw [val_main_v19_apply, val_main_v7_apply, val_main_v6_apply]
  refine congrArg x1 (funext fun a => Fin.ext ?_)
  match a with
  | 0 => show ((((b.val * 4096 + s.val) * 8 + h.val) * 2 + c.val) * 64 + d.val) / 4194304 = b.val; omega
  | 1 => show ((((b.val * 4096 + s.val) * 8 + h.val) * 2 + c.val) * 64 + d.val) / 1024 % 4096 = s.val; omega
  | 2 => show ((((b.val * 4096 + s.val) * 8 + h.val) * 2 + c.val) * 64 + d.val) % 1024 = 128 * h.val + (64 * c.val + d.val); omega

theorem r20_at (b h : Fin 8) (s : Fin 4096) (r : Fin 128) :
    val_main_v20 (F := Ideal) x0 (ix4 b h s r) = x0 (ix2 ⟨1024 + 128 * h.val + r.val, by omega⟩ ⟨4096 * b.val + s.val, by omega⟩) := by
  rw [val_main_v20_apply, val_main_v9_apply, val_main_v8_apply]
  refine Eq.trans (congrArg (val_main_v2 (F := Ideal) x0) (?_ : _ = (ix3 b s ⟨1024 + 128 * h.val + r.val, by omega⟩ : S8x4096x2048.Idx))) (r2_at x0 _ _ _)
  refine funext fun a => Fin.ext ?_
  match a with
  | 0 => show (((b.val * 4096 + s.val) * 8 + h.val) * 128 + r.val) / 4194304 = b.val; omega
  | 1 => show (((b.val * 4096 + s.val) * 8 + h.val) * 128 + r.val) / 1024 % 4096 = s.val; omega
  | 2 => show 1024 + (((b.val * 4096 + s.val) * 8 + h.val) * 128 + r.val) % 1024 = 1024 + 128 * h.val + r.val; omega

theorem r26_at (s k : Fin 4096) : val_main_v26 (F := Ideal) (ix2 s k) = dw s.val k.val := by
  rw [val_main_v26_apply, val_main_v24_apply, val_main_v25_apply, val_main_v22_apply, val_main_v23_apply]
  rfl

theorem r28_at (s k : Fin 4096) : val_main_v28 (F := Ideal) (ix2 s k) = IntOp.maxsi (dw s.val k.val) 0#32 := by
  rw [val_main_v28_apply, r26_at, val_main_v27_apply]
  rfl

theorem r46_at (s k : Fin 4096) : val_main_v46 (F := Ideal) (ix2 s k) = bkS (IntOp.maxsi (dw s.val k.val) 0#32) := by
  rw [val_main_v46_apply, val_main_v45_apply, val_main_v43_apply, val_main_v41_apply, val_main_v39_apply, val_main_v38_apply, val_main_v36_apply, val_main_v34_apply,
    val_main_v33_apply, val_main_v31_apply, val_main_v30_apply, r28_at, val_main_v44_apply, val_main_v42_apply, val_main_v40_apply, val_main_v37_apply, val_main_v35_apply,
    val_main_v32_apply, val_main_v29_apply]
  rfl

theorem r52_at (s k : Fin 4096) : val_main_v52 (F := Ideal) (ix3 s k 0) = rwS (bkS (IntOp.maxsi (dw s.val k.val) 0#32)) := by
  rw [val_main_v52_apply]
  refine Eq.trans (congrArg (val_main_v51 (F := Ideal)) (?_ : _ = (ix2 s k : S4096x4096.Idx))) ?_
  · refine funext fun a => ?_
    match a with
    | 0 => rfl
    | 1 => rfl
  · rw [val_main_v51_apply, val_main_v48_apply, val_main_v50_apply, r46_at, val_main_v47_apply, val_main_v49_apply]
    rfl

theorem r53_at (s k : Fin 4096) (h : Fin 8) : val_main_v53 (F := Ideal) x7 (ix3 s k h) = x7 (ix2 (rowQ s.val k.val) h) := by
  have e5 := r52_at s k
  unfold val_main_v53
  generalize val_main_v52 (F := Ideal) = y at e5
  have e := gatherRow_apply (by decide) Facts₀.gather_S32x8_S4096x4096x1_S4096x4096x8_2_0_n_n_0_2_18_wf x7 y s k h
  refine Eq.trans e (congrArg x7 (funext fun a => ?_))
  match a with
  | 0 => refine Fin.ext ?_
         show min _ _ = min _ _
         rw [e5]
  | 1 => rfl

theorem r59_at (b h : Fin 8) (c : Fin 2) (s k : Fin 4096) : val_main_v59 (F := Ideal) x7 (ix5 b h c s k) = x7 (ix2 (rowQ s.val k.val) h) := by
  rw [val_main_v59_apply, val_main_v58_apply, val_main_v54_apply]
  refine Eq.trans (congrArg (val_main_v53 (F := Ideal) x7) (?_ : _ = (ix3 s k h : S4096x4096x8.Idx))) (r53_at x7 s k h)
  refine funext fun a => ?_
  match a with
  | 0 => rfl
  | 1 => rfl
  | 2 => rfl

theorem r17_at : val_main_v17 (F := Ideal) x2 x3 x4 x5 ix0 = lamG x2 x3 x4 x5 := by
  have hs : ∀ f : S64.Idx → EReal, ∑ j : S64.Idx, f j = ∑ i : Fin 64, f (ix1 i) := fun f => by
    rw [← Equiv.sum_comp (idxEquiv1 (n := 64)).symm]
    rfl
  rw [val_main_v17_apply, val_main_v16_apply, val_main_v12_apply, val_main_v15_apply, val_main_v11_apply, val_main_v14_apply, hs, hs]
  show Ideal.exp (Ideal.ofBits .f32 0x00000000#32 + _) - Ideal.exp (Ideal.ofBits .f32 0x00000000#32 + _) + _ = _
  rw [Ideal.ofBits_zero_f32, zero_add, zero_add]
  rfl

theorem r84_at (b : Fin 8) (s : Fin 4096) (h : Fin 8) (r : Fin 128) :
    val_main_v84 (F := Ideal) x0 x1 x2 x3 x4 x5 x7 (ix4 b s h r)
      = ∑ k : Fin 4096, val_main_v20 (F := Ideal) x0 (ix4 b h k r) * val_main_v82 (F := Ideal) x0 x1 x2 x3 x4 x5 x7 (ix4 b h s k) := by
  rw [val_main_v84_apply, val_main_v83_apply]
  refine Finset.sum_congr rfl fun k _ => congrArg₂ (fun u w => val_main_v20 (F := Ideal) x0 u * val_main_v82 (F := Ideal) x0 x1 x2 x3 x4 x5 x7 w) (funext fun a => ?_) (funext fun a => ?_)
  · match a with
    | 0 => rfl
    | 1 => rfl
    | 2 => rfl
    | 3 => rfl
  · match a with
    | 0 => rfl
    | 1 => rfl
    | 2 => rfl
    | 3 => rfl

theorem r77_at (b h : Fin 8) (s k : Fin 4096) :
    val_main_v77 (F := Ideal) x0 x1 x7 (ix4 b h s k) = val_main_v75 (F := Ideal) x0 x1 x7 (ix5 b h 0 s k) := by
  rw [val_main_v77_apply, val_main_v76_apply]
  refine congrArg (val_main_v75 (F := Ideal) x0 x1 x7) (funext fun a => Fin.ext ?_)
  match a with
  | 0 => show (((b.val * 8 + h.val) * 4096 + s.val) * 4096 + k.val) / 134217728 = b.val; omega
  | 1 => show (((b.val * 8 + h.val) * 4096 + s.val) * 4096 + k.val) / 16777216 % 8 = h.val; omega
  | 2 => rfl
  | 3 => show (((b.val * 8 + h.val) * 4096 + s.val) * 4096 + k.val) / 4096 % 4096 = s.val; omega
  | 4 => show (((b.val * 8 + h.val) * 4096 + s.val) * 4096 + k.val) % 4096 = k.val; omega

theorem r79_at (b h : Fin 8) (s k : Fin 4096) :
    val_main_v79 (F := Ideal) x0 x1 x7 (ix4 b h s k) = val_main_v75 (F := Ideal) x0 x1 x7 (ix5 b h 1 s k) := by
  rw [val_main_v79_apply, val_main_v78_apply]
  refine congrArg (val_main_v75 (F := Ideal) x0 x1 x7) (funext fun a => Fin.ext ?_)
  match a with
  | 0 => show (((b.val * 8 + h.val) * 4096 + s.val) * 4096 + k.val) / 134217728 = b.val; omega
  | 1 => show (((b.val * 8 + h.val) * 4096 + s.val) * 4096 + k.val) / 16777216 % 8 = h.val; omega
  | 2 => rfl
  | 3 => show (((b.val * 8 + h.val) * 4096 + s.val) * 4096 + k.val) / 4096 % 4096 = s.val; omega
  | 4 => show (((b.val * 8 + h.val) * 4096 + s.val) * 4096 + k.val) % 4096 = k.val; omega

theorem r82_at (b h : Fin 8) (s k : Fin 4096) :
    val_main_v82 (F := Ideal) x0 x1 x2 x3 x4 x5 x7 (ix4 b h s k)
      = val_main_v75 (F := Ideal) x0 x1 x7 (ix5 b h 0 s k) - lamG x2 x3 x4 x5 * val_main_v75 (F := Ideal) x0 x1 x7 (ix5 b h 1 s k) := by
  have e0 : idx_main_v80 (ix4 b h s k) = ix0 := funext fun a => a.elim0
  rw [val_main_v82_apply, val_main_v81_apply, r77_at, r79_at, val_main_v80_apply, e0, r17_at]
  rfl

theorem r99_at (b : Fin 8) (s : Fin 4096) (h : Fin 8) (r : Fin 128) :
    val_main_v99 (F := Ideal) x0 x1 x2 x3 x4 x5 x6 x7 (ix4 b s h r)
      = rmsOut (fun r => val_main_v84 (F := Ideal) x0 x1 x2 x3 x4 x5 x7 (ix4 b s h r)) (x6 (ix1 r)) r := by
  have e6 : val_main_v96 (F := Ideal) x6 (ix4 b s h r) = x6 (ix1 r) := by
    rw [val_main_v96_apply, val_main_v95_apply]
    refine congrArg x6 (funext fun a => ?_)
    match a with
    | 0 => rfl
  have e86 : val_main_v86 (F := Ideal) x0 x1 x2 x3 x4 x5 x7 (ix3 b s h)
      = ∑ k : Fin 128, val_main_v84 (F := Ideal) x0 x1 x2 x3 x4 x5 x7 (ix4 b s h k) * val_main_v84 (F := Ideal) x0 x1 x2 x3 x4 x5 x7 (ix4 b s h k) := by
    rw [val_main_v86_apply, val_main_cst_17_apply]
    refine Eq.trans (congrArg (· + _) Ideal.ofBits_zero_f32) ((zero_add _).trans (Finset.sum_congr rfl fun k _ => ?_))
    rw [val_main_v85_apply]
    refine congrArg (fun u => val_main_v84 (F := Ideal) x0 x1 x2 x3 x4 x5 x7 u * val_main_v84 (F := Ideal) x0 x1 x2 x3 x4 x5 x7 u) (funext fun a => ?_)
    match a with
    | 0 => rfl
    | 1 => rfl
    | 2 => rfl
    | 3 => rfl
  have e92 : val_main_v93 (F := Ideal) x0 x1 x2 x3 x4 x5 x7 (ix4 b s h r)
      = Ideal.rsqrt (Ideal.div (val_main_v86 (F := Ideal) x0 x1 x2 x3 x4 x5 x7 (ix3 b s h)) (Ideal.ofBits .f32 0x43000000#32) + Ideal.ofBits .f32 0x3727C5AC#32) := by
    rw [val_main_v93_apply, val_main_v92_apply, val_main_v91_apply, val_main_v89_apply, val_main_v88_apply, val_main_v90_apply, val_main_v87_apply]
    refine congrArg (fun u => Ideal.rsqrt (Ideal.div (val_main_v86 (F := Ideal) x0 x1 x2 x3 x4 x5 x7 u) (Ideal.ofBits .f32 0x43000000#32) + Ideal.ofBits .f32 0x3727C5AC#32)) (funext fun a => ?_)
    match a with
    | 0 => rfl
    | 1 => rfl
    | 2 => rfl
  rw [val_main_v99_apply, val_main_v97_apply, val_main_v94_apply, e6, e92, e86, val_main_v98_apply]
  unfold rmsOut
  exact mul_assoc (G := EReal) _ _ _

theorem r101_at (b : Fin 8) (s : Fin 4096) (e : Fin 1024) :
    val_main_v101 (F := Ideal) x0 x1 x2 x3 x4 x5 x6 x7 (ix3 b s e)
      = val_main_v99 (F := Ideal) x0 x1 x2 x3 x4 x5 x6 x7 (ix4 b s ⟨e.val / 128, by omega⟩ ⟨e.val % 128, by omega⟩) := by
  rw [val_main_v101_apply]
  refine (val_main_v100_apply (F := Ideal) x0 x1 x2 x3 x4 x5 x6 x7 (ix3 b s e)).trans (congrArg (val_main_v99 (F := Ideal) x0 x1 x2 x3 x4 x5 x6 x7) (funext fun a => Fin.ext ?_))
  match a with
  | 0 => show ((b.val * 4096 + s.val) * 1024 + e.val) / 4194304 = b.val; omega
  | 1 => show ((b.val * 4096 + s.val) * 1024 + e.val) / 1024 % 4096 = s.val; omega
  | 2 => show ((b.val * 4096 + s.val) * 1024 + e.val) / 128 % 8 = e.val / 128; omega
  | 3 => show ((b.val * 4096 + s.val) * 1024 + e.val) % 128 = e.val % 128; omega

end Cert.Attn
-- ==== Proof.Ref.lean ====
/- The reference's result array, on finite arguments. -/
module

public import proofs.«01_k».proof.Proof.Soft
public import proofs.«01_k».proof.Proof.RefLay

@[expose] public section

noncomputable section

namespace Cert.Attn

open Idealize.ShloMosaic hiding ix0 ix1 ix2 ix3 ix4 ix5
open Idealize.ShloMosaic.ValueIdx
open Cert.ReferenceIdeal Cert.ReferenceIdeal.Gen Cert.ReferenceIdeal.Read

variable (x0 : (⟨S2048x32768, .bf16⟩ : BufTy).Contents (Elt Ideal)) (x1 : (⟨S8x4096x3072, .bf16⟩ : BufTy).Contents (Elt Ideal))
  (x2 x3 x4 x5 : (⟨S64, .f32⟩ : BufTy).Contents (Elt Ideal)) (x6 : (⟨S128, .f32⟩ : BufTy).Contents (Elt Ideal)) (x7 : (⟨S32x8, .f32⟩ : BufTy).Contents (Elt Ideal))

/-- The products of a query's and a key's coordinates. -/
theorem r55_at (b h : Fin 8) (c : Fin 2) (s k : Fin 4096) :
    val_main_v55 (F := Ideal) x0 x1 (ix5 b h c s k) = ∑ d : Fin 64, val_main_v18 (F := Ideal) x0 (ix5 b h c s d) * val_main_v19 (F := Ideal) x1 (ix5 b h c k d) := by
  rw [val_main_v55_apply]
  refine Finset.sum_congr rfl fun d _ => congrArg₂ (fun u w => val_main_v18 (F := Ideal) x0 u * val_main_v19 (F := Ideal) x1 w) (funext fun a => ?_) (funext fun a => ?_)
  · match a with
    | 0 => rfl
    | 1 => rfl
    | 2 => rfl
    | 3 => rfl
    | 4 => rfl
  · match a with
    | 0 => rfl
    | 1 => rfl
    | 2 => rfl
    | 3 => rfl
    | 4 => rfl

/-- The mask. -/
theorem rmask_at (b h : Fin 8) (c : Fin 2) (s k : Fin 4096) :
    val_main_call1_v1 (F := Ideal) (ix5 b h c s k) = IntOp.cmpi .sge (dw s.val k.val) 0#32 := by
  rw [val_main_call1_v1_apply, val_main_v63_apply, val_main_v62_apply, val_main_v61_apply]
  refine congrArg₂ (fun u w => IntOp.cmpi .sge u w) (Eq.trans (congrArg (val_main_v26 (F := Ideal)) (?_ : _ = (ix2 s k : S4096x4096.Idx))) (r26_at s k)) rfl
  refine funext fun a => ?_
  match a with
  | 0 => rfl
  | 1 => rfl

section real

variable (h0 : ∀ i, x0 i = (((x0 i : EReal).toReal : ℝ) : EReal))
variable (h1 : ∀ (b : Fin 8) (k : Fin 4096) (e : Fin 3072), e.val < 1024 → x1 (ix3 b k e) = (((x1 (ix3 b k e) : EReal).toReal : ℝ) : EReal))
variable (h2 : ∀ i, x2 i = (((x2 i : EReal).toReal : ℝ) : EReal))
variable (h3 : ∀ i, x3 i = (((x3 i : EReal).toReal : ℝ) : EReal))
variable (h4 : ∀ i, x4 i = (((x4 i : EReal).toReal : ℝ) : EReal))
variable (h5 : ∀ i, x5 i = (((x5 i : EReal).toReal : ℝ) : EReal))
variable (h7 : ∀ i, x7 i = (((x7 i : EReal).toReal : ℝ) : EReal))
include h0 h1 h7

/-- A score, masked. -/
theorem r64_at (b h : Fin 8) (c : Fin 2) (s k : Fin 4096) :
    val_main_v64 (F := Ideal) x0 x1 x7 (ix5 b h c s k) = masked (k.val ≤ s.val) (ellG x0 x1 x7 b h c s k.val) := by
  have e60 : val_main_v60 (F := Ideal) x0 x1 x7 (ix5 b h c s k) = ((ellG x0 x1 x7 b h c s k.val : ℝ) : EReal) := by
    rw [val_main_v60_apply, val_main_v57_apply, r55_at, r59_at, h7]
    have hs : (∑ d : Fin 64, val_main_v18 (F := Ideal) x0 (ix5 b h c s d) * val_main_v19 (F := Ideal) x1 (ix5 b h c k d) : EReal)
        = ((∑ d : Fin 64, qG x0 b h (chn c d) s * kG x1 b h k.val (chn c d) : ℝ) : EReal) := by
      rw [coe_sum]
      refine Finset.sum_congr rfl fun d _ => ?_
      have hl := (chn c d).isLt
      rw [r18_at, r19_at, h0, h1 _ _ _ (by show 128 * h.val + (chn c d).val < 1024; omega), EReal.coe_mul]
      refine congrArg₂ (fun u w : EReal => u * w) rfl ?_
      unfold kG
      congr 4
      exact Fin.ext (Nat.mod_eq_of_lt k.isLt).symm
    have h8 : (val_main_v56 (F := Ideal) (ix5 b h c s k) : EReal) = ((1 / 8 : ℝ) : EReal) := by
      rw [val_main_v56_apply]
      exact lit8
    show (∑ d : Fin 64, val_main_v18 (F := Ideal) x0 (ix5 b h c s d) * val_main_v19 (F := Ideal) x1 (ix5 b h c k d) : EReal) * (val_main_v56 (F := Ideal) (ix5 b h c s k) : EReal) + _ = _
    rw [hs, h8, ← EReal.coe_mul, ← EReal.coe_add]
    rfl
  have e2 : (val_main_call1_v2 (F := Ideal) (ix5 b h c s k) : EReal) = ⊥ := by
    rw [val_main_call1_v2_apply]
    exact litBot
  rw [val_main_v64_apply, rmask_at, e60, e2]
  exact select_masked s.val k.val s.isLt k.isLt _

/-- A row's largest masked score is a real number. -/
theorem r67_at (b h : Fin 8) (c : Fin 2) (s : Fin 4096) :
    ∃ M : ℝ, val_main_v67 (F := Ideal) x0 x1 x7 (ix4 b h c s) = (M : EReal) := by
  obtain ⟨M, hM⟩ := fold_real 4096 s.val s.isLt (ellG x0 x1 x7 b h c s)
  refine ⟨M, ?_⟩
  have hr : S8x8x2x4096x4096.Reduces [4] S8x8x2x4096 := by decide
  have e65 : val_main_v65 (F := Ideal) x0 x1 x7 (ix4 b h c s) = (M : EReal) := by
    have e64 := r64_at x0 x1 x7 h0 h1 h7 b h c s
    unfold val_main_v65
    generalize val_main_v64 (F := Ideal) x0 x1 x7 = y at e64
    refine (Host.reduce_eq_fold_single (FloatOps.maximumf (F := Ideal) (φ := .f32)) (y : S8x8x2x4096x4096.Idx → Ideal .f32) (val_main_cst_14 (F := Ideal)) _ hr _ _).trans ?_
    have hf : (y ∘ hr.lift (ix4 b h c s)) = fun k : Fin 4096 => masked (k.val ≤ s.val) (ellG x0 x1 x7 b h c s k.val) := funext fun k => by
      refine Eq.trans (congrArg y (?_ : _ = (ix5 b h c s k : S8x8x2x4096x4096.Idx))) (e64 k)
      refine funext fun a => Fin.ext ?_
      match a with
      | 0 => rfl
      | 1 => rfl
      | 2 => rfl
      | 3 => rfl
      | 4 => rfl
    refine Eq.trans (congrArg (fun f => Finset.fold max (Ideal.ofBits .f32 0xFF800000#32) f (Finset.univ : Finset (Fin 4096))) hf) ?_
    rw [litBot]
    exact hM
  have e66 : (val_main_v66 (F := Ideal) (ix4 b h c s) : EReal) = ⊥ := by
    rw [val_main_v66_apply]
    exact litBot
  rw [val_main_v67_apply, e65, e66]
  exact max_eq_right bot_le

/-- A key's share of a query's softmax. -/
theorem r75_at (b h : Fin 8) (c : Fin 2) (s k : Fin 4096) :
    val_main_v75 (F := Ideal) x0 x1 x7 (ix5 b h c s k) = ((sm s.val (ellG x0 x1 x7 b h c s) k.val : ℝ) : EReal) := by
  obtain ⟨M, hM⟩ := r67_at x0 x1 x7 h0 h1 h7 b h c s
  have e71 : ∀ k : Fin 4096, val_main_v71 (F := Ideal) x0 x1 x7 (ix5 b h c s k)
      = Ideal.exp (masked (k.val ≤ s.val) (ellG x0 x1 x7 b h c s k.val) - (M : EReal)) := fun k => by
    have e69 : val_main_v69 (F := Ideal) x0 x1 x7 (ix5 b h c s k) = (M : EReal) := by
      rw [val_main_v69_apply, val_main_v68_apply]
      refine Eq.trans (congrArg (val_main_v67 (F := Ideal) x0 x1 x7) (?_ : _ = (ix4 b h c s : S8x8x2x4096.Idx))) hM
      refine funext fun a => ?_
      match a with
      | 0 => rfl
      | 1 => rfl
      | 2 => rfl
      | 3 => rfl
    rw [val_main_v71_apply, val_main_v70_apply, e69, r64_at x0 x1 x7 h0 h1 h7]
    rfl
  have e74 : val_main_v74 (F := Ideal) x0 x1 x7 (ix5 b h c s k)
      = ∑ j : Fin 4096, Ideal.exp (masked (j.val ≤ s.val) (ellG x0 x1 x7 b h c s j.val) - (M : EReal)) := by
    rw [val_main_v74_apply, val_main_v73_apply, val_main_v72_apply]
    show (Ideal.ofBits .f32 0x00000000#32 : EReal) + _ = _
    rw [Ideal.ofBits_zero_f32, zero_add]
    refine Finset.sum_congr rfl fun j _ => ?_
    refine Eq.trans (congrArg (val_main_v71 (F := Ideal) x0 x1 x7) (?_ : _ = (ix5 b h c s j : S8x8x2x4096x4096.Idx))) (e71 j)
    refine funext fun a => ?_
    match a with
    | 0 => rfl
    | 1 => rfl
    | 2 => rfl
    | 3 => rfl
    | 4 => rfl
  rw [val_main_v75_apply, e71, e74]
  exact share_at 4096 s.val s.isLt (ellG x0 x1 x7 b h c s) M k

include h2 h3 h4 h5

/-- The difference of the two channels' averages. -/
theorem r84_real (b : Fin 8) (s : Fin 4096) (h : Fin 8) (r : Fin 128) :
    val_main_v84 (F := Ideal) x0 x1 x2 x3 x4 x5 x7 (ix4 b s h r)
      = (attG x0 x1 x7 b h 0 s r : EReal) - lamG x2 x3 x4 x5 * (attG x0 x1 x7 b h 1 s r : EReal) := by
  have hl : ∃ l : ℝ, lamG x2 x3 x4 x5 = (l : EReal) := by
    obtain ⟨l, hl⟩ := lamE_real (fun i => (x2 (ix1 i) : EReal).toReal) (fun i => (x3 (ix1 i) : EReal).toReal) (fun i => (x4 (ix1 i) : EReal).toReal) (fun i => (x5 (ix1 i) : EReal).toReal)
    refine ⟨l, Eq.trans ?_ hl⟩
    unfold lamG
    rw [funext fun i : Fin 64 => h2 (ix1 i), funext fun i : Fin 64 => h3 (ix1 i), funext fun i : Fin 64 => h4 (ix1 i), funext fun i : Fin 64 => h5 (ix1 i)]
  obtain ⟨l, hl⟩ := hl
  rw [r84_at, hl]
  unfold attG
  rw [← diff_share 4096 s.val s.isLt]
  refine Finset.sum_congr rfl fun k _ => ?_
  rw [r20_at, h0, r82_at, hl, r75_at x0 x1 x7 h0 h1 h7, r75_at x0 x1 x7 h0 h1 h7]
  refine congrArg₂ (fun u w : EReal => u * w) ?_ rfl
  unfold vG
  congr 4
  exact Fin.ext (by show 4096 * b.val + k.val = 4096 * b.val + k.val % 4096; rw [Nat.mod_eq_of_lt k.isLt])

/-- The reference's result. -/
theorem ref_o : val_main_v101 (F := Ideal) x0 x1 x2 x3 x4 x5 x6 x7 = arrG x0 x1 x2 x3 x4 x5 x6 x7 := by
  funext i
  have hi : ∃ (b : Fin 8) (s : Fin 4096) (e : Fin 1024), i = (ix3 b s e : S8x4096x1024.Idx) := ⟨i 0, i 1, i 2, ValueIdx.eq_ix3 (n0 := 8) (n1 := 4096) (n2 := 1024) i⟩
  obtain ⟨b, s, e, rfl⟩ := hi
  rw [r101_at, r99_at]
  have hr : (fun r => val_main_v84 (F := Ideal) x0 x1 x2 x3 x4 x5 x7 (ix4 b s ⟨e.val / 128, by omega⟩ r))
      = fun r => (attG x0 x1 x7 b ⟨e.val / 128, by omega⟩ 0 s r : EReal) - lamG x2 x3 x4 x5 * (attG x0 x1 x7 b ⟨e.val / 128, by omega⟩ 1 s r : EReal) :=
    funext fun r => r84_real x0 x1 x2 x3 x4 x5 x7 h0 h1 h2 h3 h4 h5 h7 b s _ r
  rw [hr]
  rfl

end real

end Cert.Attn
-- ==== Proof.Pre.lean ====
/- What the precondition says: each element it covers is a real number. -/
module

public import proofs.«01_k».proof.Pre_finite
public import Idealize.ShloMosaic.Lib.ReduceAll
public import Idealize.ShloMosaic.Lib.Pipeline.Value
public import Idealize.ShloMosaic.Lib.ValueIdx

@[expose] public section

noncomputable section

namespace Cert.Attn

open Idealize.ShloMosaic
open Idealize.ShloMosaic.ValueIdx
open Cert.Pre_finite

theorem real_of_lt (x : EReal) (h : max x (-x) < ⊤) : x = ((x.toReal : ℝ) : EReal) := by
  have h1 : x < ⊤ := lt_of_le_of_lt (le_max_left _ _) h
  have h2 : -x < ⊤ := lt_of_le_of_lt (le_max_right _ _) h
  refine (EReal.coe_toReal h1.ne fun hb => ?_).symm
  rw [hb, EReal.neg_bot] at h2
  exact lt_irrefl _ h2

theorem litTop : Ideal.ofBits .f32 0x7F800000#32 = ⊤ := by simp [Ideal.ofBits, Ideal.ieee]

/-- An array whose elements' absolute values are all below infinity holds real numbers. -/
theorem all_real {s : Shape} {axes : List (Fin s.rank)} (x : FVec Ideal s .f32) (hb : S_.BroadcastsInDim s (![] : Fin 0 → Fin s.rank)) (h : s.ReducesTo axes S_) (hu : 0 < S_.numel) (j : S_.Idx)
    (e : Host.reduce IntOp.andi (cmpf .olt (Host.absf x) (broadcastInDim s ![] hb (constant S_ .f32 0x7F800000#32))) (constantI S_ 1 1#1) h hu j = 1#1) (i : s.Idx) :
    x i = (((x i : EReal).toReal : ℝ) : EReal) := by
  have h1 := Host.reduce_andi_all _ _ _ _ j e i
  have h2 : BitVec.ofBool (decide (max (x i : EReal) (-(x i : EReal)) < Ideal.ofBits .f32 0x7F800000#32)) = 1#1 := h1
  rw [litTop] at h2
  refine real_of_lt _ ?_
  by_contra hc
  rw [decide_eq_false hc] at h2
  exact absurd h2 (by decide)

theorem and_one (a b : IVec S_ 1) (j : S_.Idx) (h : andi a b j = 1#1) : a j = 1#1 ∧ b j = 1#1 := IntOp.andi_eq_one.1 h

variable [Facts]

theorem pre_real (x0 : FVec Ideal S2048x32768 .bf16) (x1 : FVec Ideal S8x4096x3072 .bf16) (x2 x3 x4 x5 : FVec Ideal S64 .f32) (x6 : FVec Ideal S128 .f32) (x7 : FVec Ideal S32x8 .f32)
    (h : fn (F := Ideal) x0 x1 x2 x3 x4 x5 x6 x7 = fun _ => 1#1) :
    (∀ i, x0 i = (((x0 i : EReal).toReal : ℝ) : EReal))
    ∧ (∀ (b : Fin 8) (k : Fin 4096) (e : Fin 3072), e.val < 1024 → x1 (ix3 b k e) = (((x1 (ix3 b k e) : EReal).toReal : ℝ) : EReal))
    ∧ (∀ i, x2 i = (((x2 i : EReal).toReal : ℝ) : EReal)) ∧ (∀ i, x3 i = (((x3 i : EReal).toReal : ℝ) : EReal))
    ∧ (∀ i, x4 i = (((x4 i : EReal).toReal : ℝ) : EReal)) ∧ (∀ i, x5 i = (((x5 i : EReal).toReal : ℝ) : EReal))
    ∧ (∀ i, x7 i = (((x7 i : EReal).toReal : ℝ) : EReal)) := by
  have j : S_.Idx := fun a => a.elim0
  have hj := congrFun h j
  unfold fn fn_part1 fn_part2 at hj
  obtain ⟨hj, e7⟩ := and_one _ _ _ hj
  obtain ⟨hj, e5⟩ := and_one _ _ _ hj
  obtain ⟨hj, e4⟩ := and_one _ _ _ hj
  obtain ⟨hj, e3⟩ := and_one _ _ _ hj
  obtain ⟨hj, e2⟩ := and_one _ _ _ hj
  obtain ⟨e0, e1⟩ := and_one _ _ _ hj
  refine ⟨fun i => all_real _ _ _ _ j e0 i, fun b k e he => ?_, all_real _ _ _ _ j e2, all_real _ _ _ _ j e3, all_real _ _ _ _ j e4, all_real _ _ _ _ j e5, all_real _ _ _ _ j e7⟩
  have h1 := all_real _ _ _ _ j e1 (ix3 b k ⟨e.val, he⟩ : S8x4096x1024.Idx)
  have hs : extractStridedSlice S8x4096x1024 ![0, 0, 0] x1 Facts.slices_S8x4096x3072_S8x4096x1024_0_0_0 (ix3 b k ⟨e.val, he⟩ : S8x4096x1024.Idx) = x1 (ix3 b k e) := by
    refine extractStridedSlice_apply ![0, 0, 0] x1 _ _ _ (fun a => ?_)
    match a with
    | 0 => show b.val = 0 + b.val; omega
    | 1 => show k.val = 0 + k.val; omega
    | 2 => show e.val = 0 + e.val; omega
  rw [← hs]
  exact h1

end Cert.Attn
-- ==== Proof.Value.lean ====
/- The value claim: on finite arguments both programs end with the one array. -/
module

public import proofs.«01_k».proof.Defs
public import proofs.«01_k».proof.Proof.Blocks
public import proofs.«01_k».proof.Proof.Frames
public import proofs.«01_k».proof.Proof.Ref
public import proofs.«01_k».proof.Proof.Pre
public import proofs.«01_k».proof.Proof.Gen.ReferenceIdeal.Run
public import proofs.«01_k».proof.Proof.Gen.Pre_finite

@[expose] public section

noncomputable section

namespace Cert.Attn

open Idealize.ShloMosaic
open Idealize.ShloMosaic.TcCoe
open Idealize.SL.Sem

section kernel

open Cert.KernelIdeal

/-- The kernel's run, read at its result. -/
theorem run_value (m : (ℓ : Loc nD τ sig) → Buf (Elt Ideal) ℓ) (ρ : Dev nD → PrngReg) (hp : Cert.Pre_KernelIdeal_finite m) :
    θ_run defs (onTc (τ := τ) (main (F := Ideal))) ⟨m, fun _ => 0, ρ⟩ (fun r => ∀ c : Dev nD, (r.2.mem ((c.tc : Thread nD τ).loc main_v88) : S8x4096x1024.Idx → EReal)
      = arrG (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => by
    obtain ⟨h0, h1, _, _, _, _, h7⟩ := pre_real _ _ _ _ _ _ _ _ (hp c)
    exact ⟨((h.1 c).1 6).trans (final_o m c h0 h1 h7), ((h.1 c).1 4).trans (((dats m 0 c).arrAt_in 4 rfl _).trans ((A_eq m c 4).trans (Gen.V_main_arg0 m c))),
      ((h.1 c).1 3).trans (((dats m 0 c).arrAt_in 3 rfl _).trans ((A_eq m c 3).trans (Gen.V_main_arg1 m c))),
      ((h.1 c).2 main_arg2 (Pipeline.mem_restRefs_of main_arg2 (by decide) (by decide))).trans (Gen.V_main_arg2 m c),
      ((h.1 c).2 main_arg3 (Pipeline.mem_restRefs_of main_arg3 (by decide) (by decide))).trans (Gen.V_main_arg3 m c),
      ((h.1 c).2 main_arg4 (Pipeline.mem_restRefs_of main_arg4 (by decide) (by decide))).trans (Gen.V_main_arg4 m c),
      ((h.1 c).2 main_arg5 (Pipeline.mem_restRefs_of main_arg5 (by decide) (by decide))).trans (Gen.V_main_arg5 m c),
      ((h.1 c).2 main_arg6 (Pipeline.mem_restRefs_of main_arg6 (by decide) (by decide))).trans (Gen.V_main_arg6 m c),
      ((h.1 c).2 main_arg7 (Pipeline.mem_restRefs_of main_arg7 (by decide) (by decide))).trans (Gen.V_main_arg7 m c)⟩) (run_main m ρ)

end kernel

section reference

open Cert.ReferenceIdeal

theorem ref_congr {x0 y0 : (⟨S2048x32768, .bf16⟩ : BufTy).Contents (Elt Ideal)} {x1 y1 : (⟨S8x4096x3072, .bf16⟩ : BufTy).Contents (Elt Ideal)}
    {x2 x3 x4 x5 y2 y3 y4 y5 : (⟨S64, .f32⟩ : BufTy).Contents (Elt Ideal)} {x6 y6 : (⟨S128, .f32⟩ : BufTy).Contents (Elt Ideal)} {x7 y7 : (⟨S32x8, .f32⟩ : BufTy).Contents (Elt Ideal)}
    (e0 : x0 = y0) (e1 : x1 = y1) (e2 : x2 = y2) (e3 : x3 = y3) (e4 : x4 = y4) (e5 : x5 = y5) (e6 : x6 = y6) (e7 : x7 = y7) :
    Read.val_main_v101 (F := Ideal) x0 x1 x2 x3 x4 x5 x6 x7 = Read.val_main_v101 (F := Ideal) y0 y1 y2 y3 y4 y5 y6 y7 := by
  rw [e0, e1, e2, e3, e4, e5, e6, e7]

end reference

/-- From memories that agree on the arguments, finite ones, kernel and reference end with equal results. -/
theorem value : Cert.algebraic_KernelIdeal_ReferenceIdeal_pre_finite := fun m g m' g' hp hm => by
  refine ⟨fun c => arrG (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact run_value m g hp
  · refine (θ_run Cert.ReferenceIdeal.defs _ _).mono (fun r h c => ⟨?_, (h c).2⟩) (Cert.ReferenceIdeal.Value.run (F := Ideal) m' g')
    obtain ⟨e0, e1, e2, e3, e4, e5, e6, e7⟩ := hm c
    obtain ⟨h0, h1, h2, h3, h4, h5, h7⟩ := pre_real _ _ _ _ _ _ _ _ (hp c)
    refine ((h c).1.trans (Cert.ReferenceIdeal.Read.val_main_v101_eq (F := Ideal) (StableHlo.launchContents m' c))).trans ?_
    exact (ref_congr e0 e1 e2 e3 e4 e5 e6 e7).trans (ref_o _ _ _ _ _ _ _ _ h0 h1 h2 h3 h4 h5 h7)

end Cert.Attn

end
-- ==== Proof.ProjSpec.lean ====
/- The input projections, as functions of the layer's input and its weights. -/
module

public import Idealize.ShloMosaic.Lib.Pipeline.Value
public import Idealize.ShloMosaic.Lib.ValueIdx
public import Idealize.ShloMosaic.PureOps.Ideal.Laws

@[expose] public section

noncomputable section

namespace Cert.Proj

open Idealize.ShloMosaic
open Idealize.ShloMosaic.ValueIdx

abbrev Sx : Shape := ⟨3, ![8, 4096, 2048]⟩
abbrev Sw : Shape := ⟨3, ![1, 2048, 5120]⟩
abbrev Skg : Shape := ⟨2, ![32768, 3072]⟩
abbrev Sqv : Shape := ⟨2, ![2048, 32768]⟩

/-- Token `r`'s projection on column `j` of the weights. -/
def dotG (x : Sx.Idx → EReal) (w : Sw.Idx → EReal) (r : Fin 32768) (j : Fin 5120) : EReal :=
  ∑ k : Fin 2048, x (ix3 ⟨r.val / 4096, by omega⟩ ⟨r.val % 4096, by omega⟩ k) * w (ix3 0 k j)

/-- The column of the weights behind column `j` of the keys and gates. -/
def kgCol (j : Fin 3072) : Fin 5120 := if j.val < 1024 then ⟨1024 + j.val, by omega⟩ else ⟨2048 + j.val, by omega⟩

/-- The column of the weights behind row `j` of the queries and values. -/
def qvCol (j : Fin 2048) : Fin 5120 := if j.val < 1024 then ⟨j.val, by omega⟩ else ⟨1024 + j.val, by omega⟩

/-- Keys and gates, token by column. -/
def kgG (x : Sx.Idx → EReal) (w : Sw.Idx → EReal) : Skg.Idx → EReal := fun i => dotG x w (i 0) (kgCol (i 1))

/-- Queries and values, column by token. -/
def qvG (x : Sx.Idx → EReal) (w : Sw.Idx → EReal) : Sqv.Idx → EReal := fun i => dotG x w (i 1) (qvCol (i 0))

end Cert.Proj

end
-- ==== Proof.ProjKg.lean ====
/- The projection onto keys and gates: what the kernel leaves, and what the reference computes. -/
module

public import proofs.«01_k».proof.Defs
public import proofs.«01_k».proof.Proof.ProjSpec
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit.Geometry
public import Idealize.ShloMosaic.Lib.MatmulPlain
public import Idealize.ShloMosaic.Lib.StableHlo.RunRead
public import Idealize.ShloMosaic.Lib.StableHlo.ReadAt

@[expose] public section

noncomputable section

namespace Cert.Proj

open Idealize.ShloMosaic hiding ix0 ix1 ix2 ix3 ix4
open Idealize.ShloMosaic.TcCoe
open Idealize.SL.Sem Idealize.ShloMosaic.StableHlo
open Idealize.ShloMosaic.ValueIdx
open Idealize.ShloMosaic.Pipeline (Dat)

section kernel

open Cert.Kernel2Ideal Cert.Kernel2Ideal.Gen

variable (m : (ℓ : Loc nD τ sig) → Buf (Elt Ideal) ℓ) (c : Dev nD)

theorem kgZ : (![0, 0] : Fin 2 → Nat) = fun _ => 0 := funext fun a => by fin_cases a <;> rfl

/-- A point's product. -/
theorem kg_pay (x : Vec Ideal S1024x2048 .bf16) (w : Vec Ideal S2048x1536 .bf16) (r : Fin 1024) (j : Fin 1536) :
    k0_pay2 x w (ix2 r j) = ∑ k : Fin 2048, x (ix2 r k) * w (ix2 k j) := by
  unfold k0_pay2
  refine (Ideal.matmul_plain_apply (M := 1024) (K := 2048) (N := 1536) (φ₁ := .bf16) (φ₂ := .bf16) none _ _ _ r j).trans ?_
  refine (congrArg (· + _) Ideal.ofBits_zero_f32).trans ?_
  rw [zero_add]
  exact Finset.sum_congr rfl fun k _ => congrArg (x (ix2 r k) * ·) (congrFun (shapeCast_self _ _) _)

theorem kg_keep (x : Vec Ideal S1024x2048 .f32) : k0_pay1 x = x := by
  unfold k0_pay1
  simp only [shapeCast_self]
  rfl

theorem kg_outA (i : grid0.Coords) (a2 : Memref sig .tc .vmem S1024x2048 .f32) (h2 : a2.IsWhole) (a3 : Memref sig .tc .vmem S2048x1536 .bf16) (h3 : a3.IsWhole)
    (a4 : Memref sig .tc .vmem S1024x1536 .bf16) (h4 : a4.IsWhole) (a5 : Memref sig .tc .vmem S1024x2048 .bf16) (h5 : a5.IsWhole) (hc : cond0_0 i)
    (x : Vec Ideal S1024x2048 .f32) (w : Vec Ideal S2048x1536 .bf16) :
    out0_A_2 c i a2 h2 a3 h3 a4 h4 a5 h5 hc x w = k0_pay2 (k0_pay1 x) w := by
  unfold out0_A_2
  rw [View.read_writes_eq_canon _ _ _ (cover0_A_2 c i a2 h2 a3 h3 a4 h4 a5 h5 hc x w)]
  unfold kernelRun0_A
  dsimp only
  sl_unfold_words
  rw [View.canon_unit_zero (S := S1024x1536) kgZ, View.readCov_unit_zero (S := S1024x2048) _ kgZ]
  simp only [View.readAt_eq_ld, h2.read_unread, h3.read_unread, View.ld_unit_zero (S := S1024x2048) kgZ, View.ld_unit_zero (S := S2048x1536) kgZ]

theorem kg_soutA (i : grid0.Coords) (a2 : Memref sig .tc .vmem S1024x2048 .f32) (h2 : a2.IsWhole) (a3 : Memref sig .tc .vmem S2048x1536 .bf16) (h3 : a3.IsWhole)
    (a4 : Memref sig .tc .vmem S1024x1536 .bf16) (h4 : a4.IsWhole) (a5 : Memref sig .tc .vmem S1024x2048 .bf16) (h5 : a5.IsWhole) (hc : cond0_0 i)
    (x : Vec Ideal S1024x2048 .f32) (w : Vec Ideal S2048x1536 .bf16) :
    sout0_A_0 c i a2 h2 a3 h3 a4 h4 a5 h5 hc x w = k0_pay1 x := by
  unfold sout0_A_0
  rw [View.read_writes_eq_canon _ _ _ (scover0_A_0 c i a2 h2 a3 h3 a4 h4 a5 h5 hc x w)]
  unfold kernelRun0_A
  dsimp only
  sl_unfold_words
  rw [View.canon_unit_zero (S := S1024x2048) kgZ]
  simp only [View.readAt_eq_ld, h2.read_unread, View.ld_unit_zero (S := S1024x2048) kgZ]

theorem kg_outB (i : grid0.Coords) (a2 : Memref sig .tc .vmem S1024x2048 .f32) (h2 : a2.IsWhole) (a3 : Memref sig .tc .vmem S2048x1536 .bf16) (h3 : a3.IsWhole)
    (a4 : Memref sig .tc .vmem S1024x1536 .bf16) (h4 : a4.IsWhole) (a5 : Memref sig .tc .vmem S1024x2048 .bf16) (h5 : a5.IsWhole) (hc : ¬cond0_0 i)
    (x : Vec Ideal S1024x2048 .f32) (w : Vec Ideal S2048x1536 .bf16) (s : Vec Ideal S1024x2048 .bf16) :
    out0_B_2 c i a2 h2 a3 h3 a4 h4 a5 h5 hc x w s = k0_pay2 s w := by
  unfold out0_B_2
  rw [View.read_writes_eq_canon _ _ _ (cover0_B_2 c i a2 h2 a3 h3 a4 h4 a5 h5 hc x w s)]
  unfold kernelRun0_B
  dsimp only
  sl_unfold_words
  rw [View.canon_unit_zero (S := S1024x1536) kgZ]
  simp only [View.readAt_eq_ld, h3.read_unread, h5.read_unread, View.ld_unit_zero (S := S1024x2048) kgZ, View.ld_unit_zero (S := S2048x1536) kgZ]

theorem kg_index0 : ∀ t : Fin cfg0.N, win0_0.index t = ![t.val / 2, 0] := (by decide +kernel : ∀ t : Fin grid0.N, _)
theorem kg_index1 : ∀ t : Fin cfg0.N, win0_1.index t = ![0, t.val % 2] := (by decide +kernel : ∀ t : Fin grid0.N, _)
theorem kg_index2 : ∀ t : Fin cfg0.N, win0_2.index t = ![t.val / 2, t.val % 2] := (by decide +kernel : ∀ t : Fin grid0.N, _)
theorem kg_N (t : Fin cfg0.N) : t.val < 64 := lt_of_lt_of_eq t.isLt N_0

theorem kg_blk0 (t : Fin cfg0.N) (r : Fin 1024) (k : Fin 2048) :
    iblk m c 0 t (ix2 r k) = V m c main_v0 (ix2 ⟨1024 * (t.val / 2) + r.val, by have := kg_N t; omega⟩ k) := by
  have e := kg_index0 t
  blk_simp [iblk]
  show V m c main_v0 _ = _
  refine congrArg _ (funext fun a => Fin.ext ?_)
  match a with
  | 0 => blk_simp [e]; show t.val / 2 * 1024 + r.val = 1024 * (t.val / 2) + r.val; omega
  | 1 => blk_simp [e]; rfl

theorem kg_blk1 (t : Fin cfg0.N) (k : Fin 2048) (j : Fin 1536) :
    iblk m c 1 t (ix2 k j) = V m c main_v5 (ix2 k ⟨1536 * (t.val % 2) + j.val, by omega⟩) := by
  have e := kg_index1 t
  blk_simp [iblk]
  show V m c main_v5 _ = _
  refine congrArg _ (funext fun a => Fin.ext ?_)
  match a with
  | 0 => blk_simp [e]; rfl
  | 1 => blk_simp [e]; show t.val % 2 * 1536 + j.val = 1536 * (t.val % 2) + j.val; omega

/-- The scratch after a point: the rows of the point's own block. -/
theorem kg_scratch (t : Fin cfg0.N) (r : Fin 1024) (k : Fin 2048) :
    (outsAt0 m c t.val t.isLt).2 (ix2 r k) = V m c main_v0 (ix2 ⟨1024 * (t.val / 2) + r.val, by have := kg_N t; omega⟩ k) := by
  by_cases h : t.val % 2 = 0
  · rw [outsAt0_A m c t h]
    dsimp only
    rw [kg_soutA, kg_keep]
    exact kg_blk0 m c t r k
  · rw [outsAt0_B m c t h]
    dsimp only
    unfold sout0_B_0
    have h' : (t.val - 1) % 2 = 0 := by omega
    rw [outsAt0_A m c ⟨t.val - 1, Nat.lt_of_le_of_lt (Nat.sub_le _ _) t.isLt⟩ h']
    dsimp only
    rw [kg_soutA, kg_keep]
    refine (kg_blk0 m c _ r k).trans (congrArg (V m c main_v0) ?_)
    refine congrArg (fun z => (ix2 z k : S32768x2048.Idx)) (Fin.ext ?_)
    show 1024 * ((t.val - 1) / 2) + r.val = 1024 * (t.val / 2) + r.val
    omega

/-- A row of the input against a column of the weights. -/
def kgDot (x : S32768x2048.Idx → EReal) (w : S2048x3072.Idx → EReal) (r : Fin 32768) (j : Fin 3072) : EReal :=
  ∑ k : Fin 2048, x (ix2 r k) * w (ix2 k j)

/-- The output after a point. -/
theorem kg_out (t : Fin cfg0.N) (r : Fin 1024) (j : Fin 1536) :
    (outsAt0 m c t.val t.isLt).1 (ix2 r j) = kgDot (V m c main_v0) (V m c main_v5) ⟨1024 * (t.val / 2) + r.val, by have := kg_N t; omega⟩ ⟨1536 * (t.val % 2) + j.val, by omega⟩ := by
  unfold kgDot
  by_cases h : t.val % 2 = 0
  · rw [outsAt0_A m c t h]
    dsimp only
    rw [kg_outA, kg_pay, kg_keep]
    exact Finset.sum_congr rfl fun k _ => congrArg₂ (fun a b : EReal => a * b) (kg_blk0 m c t r k) (kg_blk1 m c t k j)
  · have hs := kg_scratch m c t
    rw [outsAt0_B m c t h] at hs ⊢
    dsimp only at hs ⊢
    unfold sout0_B_0 at hs
    rw [kg_outB, kg_pay]
    exact Finset.sum_congr rfl fun k _ => congrArg₂ (fun a b : EReal => a * b) (hs r k) (kg_blk1 m c t k j)

/-- The weights the region finds. -/
def kgW (w : S1x2048x5120.Idx → EReal) : S2048x3072.Idx → EReal :=
  concatenate S2048x3072 1 [⟨S2048x1024, extractStridedSlice S2048x1024 ![0, 1024] (truncf .bf16 (shapeCast S2048x5120 w shapeCasts_S1x2048x5120_S2048x5120 : FVec Ideal S2048x5120 .f32) bitsLt_bf16_f32) slices_S2048x5120_S2048x1024_0_1024⟩,
    ⟨S2048x2048, extractStridedSlice S2048x2048 ![0, 3072] (truncf .bf16 (shapeCast S2048x5120 w shapeCasts_S1x2048x5120_S2048x5120 : FVec Ideal S2048x5120 .f32) bitsLt_bf16_f32) slices_S2048x5120_S2048x2048_0_3072⟩] concatenates_S2048x1024_S2048x2048_S2048x3072_d1

theorem kg_V0 : V m c main_v0 = shapeCast S32768x2048 (m ((c.tc : Thread nD τ).loc main_arg0)) shapeCasts_S8x4096x2048_S32768x2048 := by
  after_reads_simp
  rfl

theorem kg_V5 : V m c main_v5 = kgW (m ((c.tc : Thread nD τ).loc main_arg1)) := by
  after_reads_simp
  rfl

theorem kg_flat (w : S1x2048x5120.Idx → EReal) (k : Fin 2048) (j : Fin 5120) :
    (truncf .bf16 (shapeCast S2048x5120 w shapeCasts_S1x2048x5120_S2048x5120 : FVec Ideal S2048x5120 .f32) bitsLt_bf16_f32) (ix2 k j) = w (ix3 0 k j) :=
  shapeCast_apply w _ _ (ix3 0 k j) (by
    rw [Shape.rowMajor_val_three, Shape.rowMajor_val_two]
    show (0 * 2048 + k.val) * 5120 + j.val = k.val * 5120 + j.val
    omega)

theorem kgW_at (w : S1x2048x5120.Idx → EReal) (k : Fin 2048) (j : Fin 3072) : kgW w (ix2 k j) = w (ix3 0 k (kgCol j)) := by
  unfold kgW kgCol
  split
  · next h =>
    refine (concatenate_pair_apply_left (s₁ := S2048x1024) (s₂ := S2048x2048) 1 _ _ _ (ix2 k j) rfl (ix2 k ⟨j.val, h⟩) (fun b => by match b with | 0 => rfl | 1 => rfl)).trans ?_
    exact (extractStridedSlice_apply _ _ _ _ (ix2 k ⟨1024 + j.val, by omega⟩) (fun a => by match a with | 0 => exact (Nat.zero_add _).symm | 1 => rfl)).trans (kg_flat w k _)
  · next h =>
    refine (concatenate_pair_apply_right (s₁ := S2048x1024) (s₂ := S2048x2048) 1 _ _ _ (ix2 k j) rfl rfl (ix2 k ⟨j.val - 1024, by omega⟩)
      (fun b hb => by match b with | 0 => rfl | 1 => exact absurd rfl hb) (by show j.val - 1024 + 1024 = j.val; omega)).trans ?_
    exact (extractStridedSlice_apply _ _ _ _ (ix2 k ⟨2048 + j.val, by omega⟩) (fun a => by
      match a with
      | 0 => exact (Nat.zero_add _).symm
      | 1 => show 2048 + j.val = 3072 + (j.val - 1024); omega)).trans (kg_flat w k _)

theorem kg_rows (x : S8x4096x2048.Idx → EReal) (r : Fin 32768) (k : Fin 2048) :
    (shapeCast S32768x2048 x shapeCasts_S8x4096x2048_S32768x2048 : S32768x2048.Idx → EReal) (ix2 r k) = x (ix3 ⟨r.val / 4096, by omega⟩ ⟨r.val % 4096, by omega⟩ k) :=
  shapeCast_apply x _ _ _ (by
    rw [Shape.rowMajor_val_three, Shape.rowMajor_val_two]
    show (r.val / 4096 * 4096 + r.val % 4096) * 2048 + k.val = r.val * 2048 + k.val
    omega)

/-- The array after the run. -/
theorem kg_final : (dats m 0 c).arrAt 2 cfg0.N = kgG (m ((c.tc : Thread nD τ).loc main_arg0)) (m ((c.tc : Thread nD τ).loc main_arg1)) := by
  refine (dats m 0 c).arrAt_eq_of_cover 2 _ (fun t hf => ?_) (fun i => (Value.covered_iff2 i).2 (by
    have h0 : (i 0).val < 32768 := (i 0).isLt
    have h1 : (i 1).val < 3072 := (i 1).isLt
    omega))
  rw [Value.flushed2]
  have e := kg_index2 t
  have ht := kg_N t
  funext y
  have hy : ∃ (r : Fin 1024) (j : Fin 1536), y = (ix2 r j : S1024x1536.Idx) := ⟨y 0, y 1, ValueIdx.eq_ix2 (n0 := 1024) (n1 := 1536) y⟩
  obtain ⟨r, j, rfl⟩ := hy
  have he : (win0_2.blk t).view.emb (ix2 r j : S1024x1536.Idx) = (ix2 ⟨1024 * (t.val / 2) + r.val, by omega⟩ ⟨1536 * (t.val % 2) + j.val, by omega⟩ : S32768x3072.Idx) := by
    funext a
    refine Fin.ext ?_
    match a with
    | 0 => blk_simp [e]; show t.val / 2 * 1024 + r.val = 1024 * (t.val / 2) + r.val; omega
    | 1 => blk_simp [e]; show t.val % 2 * 1536 + j.val = 1536 * (t.val % 2) + j.val; omega
  show (outsAt0 m c t.val t.isLt).1 (ix2 r j) = kgG _ _ ((win0_2.blk t).view.emb (ix2 r j : S1024x1536.Idx))
  rw [he, kg_out]
  unfold kgG dotG kgDot
  refine Finset.sum_congr rfl fun k _ => congrArg₂ (· * ·) ?_ ?_
  · rw [kg_V0]; exact kg_rows _ _ k
  · rw [kg_V5]; exact kgW_at _ k _

/-- The kernel's run, read at its result. -/
theorem kg_run (ρ : Dev nD → PrngReg) : θ_run defs (onTc (τ := τ) (main (F := Ideal))) ⟨m, fun _ => 0, ρ⟩ (fun r => ∀ c : Dev nD,
      (r.2.mem ((c.tc : Thread nD τ).loc main_v6) : S32768x3072.Idx → EReal) = kgG (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (kg_final m c), (h c).2⟩) (Value.run_blocks m ρ)

end kernel

section reference

open Cert.Reference2Ideal Cert.Reference2Ideal.Gen

theorem kgRef_dot (x : S8x4096x2048.Idx → EReal) (w : S1x2048x5120.Idx → EReal) (b : Fin 8) (s : Fin 4096) (j : Fin 5120) :
    Read.val_main_v1 (F := Ideal) x w (ix3 b s j) = ∑ k : Fin 2048, x (ix3 b s k) * w (ix3 0 k j) := by
  rw [Read.val_main_v1_apply]
  refine Finset.sum_congr rfl fun k _ => congrArg₂ (fun a b : EReal => a * b) (congrArg x (funext fun a => by match a with | 0 => rfl | 1 => rfl | 2 => rfl)) ?_
  rw [Read.val_main_v0_apply]
  refine congrArg w (funext fun a => Fin.ext ?_)
  have hk := k.isLt
  have hj := j.isLt
  match a with
  | 0 => rfl
  | 1 => show (k.val * 5120 + j.val) / 5120 % 2048 = k.val; omega
  | 2 => show (k.val * 5120 + j.val) % 5120 = j.val; omega

theorem kgRef_cat (x : S8x4096x2048.Idx → EReal) (w : S1x2048x5120.Idx → EReal) (b : Fin 8) (s : Fin 4096) (j : Fin 3072) :
    Read.val_main_v4 (F := Ideal) x w (ix3 b s j) = ∑ k : Fin 2048, x (ix3 b s k) * w (ix3 0 k (kgCol j)) := by
  unfold Read.val_main_v4 kgCol
  split
  · next h =>
    refine (concatenate_pair_apply_left (s₁ := S8x4096x1024) (s₂ := S8x4096x2048) 2 _ _ _ (ix3 b s j) rfl (ix3 b s ⟨j.val, h⟩)
      (fun b => by match b with | 0 => rfl | 1 => rfl | 2 => rfl)).trans ?_
    rw [Read.val_main_v2_apply]
    refine Eq.trans (congrArg (Read.val_main_v1 (F := Ideal) x w) (funext fun a => ?_)) (kgRef_dot x w b s _)
    match a with | 0 => rfl | 1 => rfl | 2 => rfl
  · next h =>
    refine (concatenate_pair_apply_right (s₁ := S8x4096x1024) (s₂ := S8x4096x2048) 2 _ _ _ (ix3 b s j) rfl rfl (ix3 b s ⟨j.val - 1024, by omega⟩)
      (fun b hb => by match b with | 0 => rfl | 1 => rfl | 2 => exact absurd rfl hb) (by show j.val - 1024 + 1024 = j.val; omega)).trans ?_
    rw [Read.val_main_v3_apply]
    refine Eq.trans (congrArg (Read.val_main_v1 (F := Ideal) x w) (funext fun a => Fin.ext ?_)) (kgRef_dot x w b s _)
    match a with
    | 0 => rfl
    | 1 => rfl
    | 2 => show 3072 + (j.val - 1024) = 2048 + j.val; omega

theorem kgRef (x : S8x4096x2048.Idx → EReal) (w : S1x2048x5120.Idx → EReal) : Read.val_main_v6 (F := Ideal) x w = kgG x w := by
  funext i
  obtain ⟨r, j, rfl⟩ : ∃ (r : Fin 32768) (j : Fin 3072), i = (ix2 r j : S32768x3072.Idx) := ⟨i 0, i 1, ValueIdx.eq_ix2 (n0 := 32768) (n1 := 3072) i⟩
  refine (Read.val_main_v6_apply (F := Ideal) x w (ix2 r j)).trans ?_
  show Read.val_main_v5 (F := Ideal) x w (ix2 r j) = _
  rw [Read.val_main_v5_apply]
  have hr := r.isLt
  have hj := j.isLt
  refine Eq.trans (congrArg (Read.val_main_v4 (F := Ideal) x w) (funext fun a => Fin.ext ?_)) (kgRef_cat x w ⟨r.val / 4096, by omega⟩ ⟨r.val % 4096, by omega⟩ j)
  match a with
  | 0 => show (r.val * 3072 + j.val) / 12582912 = r.val / 4096; omega
  | 1 => show (r.val * 3072 + j.val) / 3072 % 4096 = r.val % 4096; omega
  | 2 => show (r.val * 3072 + j.val) % 3072 = j.val; omega

theorem kgRef_congr {x y : (⟨S8x4096x2048, .f32⟩ : BufTy).Contents (Elt Ideal)} {w v : (⟨S1x2048x5120, .f32⟩ : BufTy).Contents (Elt Ideal)} (ex : x = y) (ew : w = v) :
    Read.val_main_v6 (F := Ideal) x w = Read.val_main_v6 (F := Ideal) y v := by rw [ex, ew]

theorem kgRef_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end reference

/-- From memories that agree on the arguments, kernel and reference end with equal keys and gates. -/
theorem kg_value : Cert.algebraic_Kernel2Ideal_Reference2Ideal := fun m g m' g' _ hm => by
  refine ⟨fun c => kgG (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), kg_run m g, ?_⟩
  refine (θ_run Cert.Reference2Ideal.defs _ _).mono (fun r h c => ⟨?_, (h c).2⟩) (Cert.Reference2Ideal.Value.run (F := Ideal) m' g')
  obtain ⟨e0, e1⟩ := hm c
  exact ((h c).1.trans (Cert.Reference2Ideal.Read.val_main_v6_eq (F := Ideal) _ _)).trans ((kgRef_congr e0 e1).trans (kgRef _ _))

end Cert.Proj

end
-- ==== Proof.ProjQv.lean ====
/- The projection onto queries and values, transposed: what the kernel leaves, and what the reference computes. -/
module

public import proofs.«01_k».proof.Defs
public import proofs.«01_k».proof.Proof.ProjSpec
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit.Geometry
public import Idealize.ShloMosaic.Lib.MatmulPlain
public import Idealize.ShloMosaic.Lib.ValueLayoutCasts
public import Idealize.ShloMosaic.Lib.StableHlo.RunRead
public import Idealize.ShloMosaic.Lib.StableHlo.ReadAt

@[expose] public section

noncomputable section

namespace Cert.Proj

open Idealize.ShloMosaic hiding ix0 ix1 ix2 ix3 ix4
open Idealize.ShloMosaic.TcCoe
open Idealize.SL.Sem Idealize.ShloMosaic.StableHlo
open Idealize.ShloMosaic.ValueIdx
open Idealize.ShloMosaic.Pipeline (Dat)

section kernel

open Cert.Kernel3Ideal Cert.Kernel3Ideal.Gen

variable (m : (ℓ : Loc nD τ sig) → Buf (Elt Ideal) ℓ) (c : Dev nD)

theorem qvZ : (![0, 0] : Fin 2 → Nat) = fun _ => 0 := funext fun a => by fin_cases a <;> rfl

/-- A point's product: rows of the weights against rows of the input. -/
theorem qv_pay (w : Vec Ideal S2048x2048 .bf16) (x : Vec Ideal S512x2048 .bf16) (j : Fin 2048) (r : Fin 512) :
    k0_pay2 w x (ix2 j r) = ∑ k : Fin 2048, w (ix2 j k) * x (ix2 r k) := by
  unfold k0_pay2
  refine (Ideal.matmul_transposedRhs_apply (M := 2048) (K := 2048) (N := 512) (φ₁ := .bf16) (φ₂ := .bf16) none _ _ _ j r).trans ?_
  refine (congrArg (· + _) Ideal.ofBits_zero_f32).trans ?_
  rw [zero_add]
  exact Finset.sum_congr rfl fun k _ => congrArg (· * x (ix2 r k)) (congrFun (shapeCast_self _ _) _)

theorem qv_keep (x : Vec Ideal S512x2048 .f32) : k0_pay1 x = x := by
  unfold k0_pay1
  simp only [shapeCast_self]
  rfl

theorem qv_outA (i : grid0.Coords) (a2 : Memref sig .tc .vmem S512x2048 .f32) (h2 : a2.IsWhole) (a3 : Memref sig .tc .vmem S2048x2048 .bf16) (h3 : a3.IsWhole)
    (a4 : Memref sig .tc .vmem S2048x512 .bf16) (h4 : a4.IsWhole) (a5 : Memref sig .tc .vmem S512x2048 .bf16) (h5 : a5.IsWhole) (hc : cond0_0 i)
    (x : Vec Ideal S512x2048 .f32) (w : Vec Ideal S2048x2048 .bf16) :
    out0_A_2 c i a2 h2 a3 h3 a4 h4 a5 h5 hc x w = k0_pay2 w (k0_pay1 x) := by
  unfold out0_A_2
  rw [View.read_writes_eq_canon _ _ _ (cover0_A_2 c i a2 h2 a3 h3 a4 h4 a5 h5 hc x w)]
  unfold kernelRun0_A
  dsimp only
  sl_unfold_words
  rw [View.canon_unit_zero (S := S2048x512) qvZ, View.readCov_unit_zero (S := S512x2048) _ qvZ]
  simp only [View.readAt_eq_ld, h2.read_unread, h3.read_unread, View.ld_unit_zero (S := S512x2048) qvZ, View.ld_unit_zero (S := S2048x2048) qvZ]

theorem qv_index0 : ∀ t : Fin cfg0.N, win0_0.index t = ![t.val, 0] := (by decide +kernel : ∀ t : Fin grid0.N, _)
theorem qv_index1 : ∀ t : Fin cfg0.N, win0_1.index t = ![0, 0] := (by decide +kernel : ∀ t : Fin grid0.N, _)
theorem qv_index2 : ∀ t : Fin cfg0.N, win0_2.index t = ![0, t.val] := (by decide +kernel : ∀ t : Fin grid0.N, _)
theorem qv_N (t : Fin cfg0.N) : t.val < 64 := lt_of_lt_of_eq t.isLt N_0

theorem qv_blk0 (t : Fin cfg0.N) (r : Fin 512) (k : Fin 2048) :
    iblk m c 0 t (ix2 r k) = V m c main_v0 (ix2 ⟨512 * t.val + r.val, by have := qv_N t; omega⟩ k) := by
  have e := qv_index0 t
  blk_simp [iblk]
  show V m c main_v0 _ = _
  refine congrArg _ (funext fun a => Fin.ext ?_)
  match a with
  | 0 => blk_simp [e]; show t.val * 512 + r.val = 512 * t.val + r.val; omega
  | 1 => blk_simp [e]; rfl

theorem qv_blk1 (t : Fin cfg0.N) (j : Fin 2048) (k : Fin 2048) : iblk m c 1 t (ix2 j k) = V m c main_v6 (ix2 j k) := by
  have e := qv_index1 t
  blk_simp [iblk]
  show V m c main_v6 _ = _
  refine congrArg _ (funext fun a => Fin.ext ?_)
  match a with
  | 0 => blk_simp [e]
  | 1 => blk_simp [e]

/-- A row of the weights against a row of the input. -/
def qvDot (x : S32768x2048.Idx → EReal) (w : S2048x2048.Idx → EReal) (r : Fin 32768) (j : Fin 2048) : EReal :=
  ∑ k : Fin 2048, w (ix2 j k) * x (ix2 r k)

/-- The output after a point. -/
theorem qv_out (t : Fin cfg0.N) (j : Fin 2048) (r : Fin 512) :
    outsAt0 m c t (ix2 j r) = qvDot (V m c main_v0) (V m c main_v6) ⟨512 * t.val + r.val, by have := qv_N t; omega⟩ j := by
  unfold qvDot outsAt0
  rw [qv_outA, qv_pay, qv_keep]
  exact Finset.sum_congr rfl fun k _ => congrArg₂ (fun a b : EReal => a * b) (qv_blk1 m c t j k) (qv_blk0 m c t r k)

/-- The weights the region finds, before they are transposed. -/
def qvW (w : S1x2048x5120.Idx → EReal) : S2048x2048.Idx → EReal :=
  concatenate S2048x2048 1 [⟨S2048x1024, extractStridedSlice S2048x1024 ![0, 0] (truncf .bf16 (shapeCast S2048x5120 w shapeCasts_S1x2048x5120_S2048x5120 : FVec Ideal S2048x5120 .f32) bitsLt_bf16_f32) slices_S2048x5120_S2048x1024_0_0⟩,
    ⟨S2048x1024, extractStridedSlice S2048x1024 ![0, 2048] (truncf .bf16 (shapeCast S2048x5120 w shapeCasts_S1x2048x5120_S2048x5120 : FVec Ideal S2048x5120 .f32) bitsLt_bf16_f32) slices_S2048x5120_S2048x1024_0_2048⟩] concatenates_S2048x1024_S2048x1024_S2048x2048_d1

theorem qv_V0 : V m c main_v0 = shapeCast S32768x2048 (m ((c.tc : Thread nD τ).loc main_arg0)) shapeCasts_S8x4096x2048_S32768x2048 := by
  after_reads_simp
  rfl

theorem qv_V6 : V m c main_v6 = transpose S2048x2048 [1, 0] (qvW (m ((c.tc : Thread nD τ).loc main_arg1))) transposes_S2048x2048_S2048x2048_1_0 := by
  after_reads_simp
  rfl

theorem qv_flat (w : S1x2048x5120.Idx → EReal) (k : Fin 2048) (j : Fin 5120) :
    (truncf .bf16 (shapeCast S2048x5120 w shapeCasts_S1x2048x5120_S2048x5120 : FVec Ideal S2048x5120 .f32) bitsLt_bf16_f32) (ix2 k j) = w (ix3 0 k j) :=
  shapeCast_apply w _ _ (ix3 0 k j) (by
    rw [Shape.rowMajor_val_three, Shape.rowMajor_val_two]
    show (0 * 2048 + k.val) * 5120 + j.val = k.val * 5120 + j.val
    omega)

theorem qvW_at (w : S1x2048x5120.Idx → EReal) (k : Fin 2048) (j : Fin 2048) : qvW w (ix2 k j) = w (ix3 0 k (qvCol j)) := by
  unfold qvW qvCol
  split
  · next h =>
    refine (concatenate_pair_apply_left (s₁ := S2048x1024) (s₂ := S2048x1024) 1 _ _ _ (ix2 k j) rfl (ix2 k ⟨j.val, h⟩) (fun b => by match b with | 0 => rfl | 1 => rfl)).trans ?_
    exact (extractStridedSlice_apply _ _ _ _ (ix2 k ⟨j.val, by omega⟩) (fun a => by match a with | 0 => exact (Nat.zero_add _).symm | 1 => exact (Nat.zero_add _).symm)).trans (qv_flat w k _)
  · next h =>
    refine (concatenate_pair_apply_right (s₁ := S2048x1024) (s₂ := S2048x1024) 1 _ _ _ (ix2 k j) rfl rfl (ix2 k ⟨j.val - 1024, by omega⟩)
      (fun b hb => by match b with | 0 => rfl | 1 => exact absurd rfl hb) (by show j.val - 1024 + 1024 = j.val; omega)).trans ?_
    exact (extractStridedSlice_apply _ _ _ _ (ix2 k ⟨1024 + j.val, by omega⟩) (fun a => by
      match a with
      | 0 => exact (Nat.zero_add _).symm
      | 1 => show 1024 + j.val = 2048 + (j.val - 1024); omega)).trans (qv_flat w k _)

theorem qv_rows (x : S8x4096x2048.Idx → EReal) (r : Fin 32768) (k : Fin 2048) :
    (shapeCast S32768x2048 x shapeCasts_S8x4096x2048_S32768x2048 : S32768x2048.Idx → EReal) (ix2 r k) = x (ix3 ⟨r.val / 4096, by omega⟩ ⟨r.val % 4096, by omega⟩ k) :=
  shapeCast_apply x _ _ _ (by
    rw [Shape.rowMajor_val_three, Shape.rowMajor_val_two]
    show (r.val / 4096 * 4096 + r.val % 4096) * 2048 + k.val = r.val * 2048 + k.val
    omega)

/-- The array after the run. -/
theorem qv_final : (dats m 0 c).arrAt 2 cfg0.N = qvG (m ((c.tc : Thread nD τ).loc main_arg0)) (m ((c.tc : Thread nD τ).loc main_arg1)) := by
  refine (dats m 0 c).arrAt_eq_of_covers 2 _ (by decide +kernel) fun t hf y => ?_
  have e := qv_index2 t
  have ht := qv_N t
  have hy : ∃ (j : Fin 2048) (r : Fin 512), y = (ix2 j r : S2048x512.Idx) := ⟨y 0, y 1, ValueIdx.eq_ix2 (n0 := 2048) (n1 := 512) y⟩
  obtain ⟨j, r, rfl⟩ := hy
  have he : (win0_2.blk t).view.emb (ix2 j r : S2048x512.Idx) = (ix2 j ⟨512 * t.val + r.val, by omega⟩ : S2048x32768.Idx) := by
    funext a
    refine Fin.ext ?_
    match a with
    | 0 => blk_simp [e]; rfl
    | 1 => blk_simp [e]; show t.val * 512 + r.val = 512 * t.val + r.val; omega
  refine Eq.trans (congrFun (after0_2 m c t) (ix2 j r : S2048x512.Idx)) ?_
  refine Eq.trans ?_ (congrArg _ he).symm
  refine (qv_out m c t j r).trans ?_
  unfold qvG dotG qvDot
  refine Finset.sum_congr rfl fun k _ => (mul_comm _ _).trans (congrArg₂ (fun a b : EReal => a * b) ?_ ?_)
  · rw [qv_V0]; exact qv_rows _ _ k
  · rw [qv_V6]; exact (transpose_ix2_apply _ _ _ _).trans (qvW_at _ k _)

/-- The kernel's run, read at its result. -/
theorem qv_run (ρ : Dev nD → PrngReg) : θ_run defs (onTc (τ := τ) (main (F := Ideal))) ⟨m, fun _ => 0, ρ⟩ (fun r => ∀ c : Dev nD,
      (r.2.mem ((c.tc : Thread nD τ).loc main_v7) : S2048x32768.Idx → EReal) = qvG (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (qv_final m c), (h c).2⟩) (Value.run_blocks m ρ)

end kernel

section reference

open Cert.Reference3Ideal Cert.Reference3Ideal.Gen

theorem qvRef_dot (x : S8x4096x2048.Idx → EReal) (w : S1x2048x5120.Idx → EReal) (b : Fin 8) (s : Fin 4096) (j : Fin 5120) :
    Read.val_main_v1 (F := Ideal) x w (ix3 b s j) = ∑ k : Fin 2048, x (ix3 b s k) * w (ix3 0 k j) := by
  rw [Read.val_main_v1_apply]
  refine Finset.sum_congr rfl fun k _ => congrArg₂ (· * ·) (congrArg x (funext fun a => by match a with | 0 => rfl | 1 => rfl | 2 => rfl)) ?_
  rw [Read.val_main_v0_apply]
  refine congrArg w (funext fun a => Fin.ext ?_)
  have hk := k.isLt
  have hj := j.isLt
  match a with
  | 0 => rfl
  | 1 => show (k.val * 5120 + j.val) / 5120 % 2048 = k.val; omega
  | 2 => show (k.val * 5120 + j.val) % 5120 = j.val; omega

theorem qvRef_cat (x : S8x4096x2048.Idx → EReal) (w : S1x2048x5120.Idx → EReal) (b : Fin 8) (s : Fin 4096) (j : Fin 2048) :
    Read.val_main_v4 (F := Ideal) x w (ix3 b s j) = ∑ k : Fin 2048, x (ix3 b s k) * w (ix3 0 k (qvCol j)) := by
  unfold Read.val_main_v4 qvCol
  split
  · next h =>
    refine (concatenate_pair_apply_left (s₁ := S8x4096x1024) (s₂ := S8x4096x1024) 2 _ _ _ (ix3 b s j) rfl (ix3 b s ⟨j.val, h⟩)
      (fun b => by match b with | 0 => rfl | 1 => rfl | 2 => rfl)).trans ?_
    rw [Read.val_main_v2_apply]
    refine Eq.trans (congrArg (Read.val_main_v1 (F := Ideal) x w) (funext fun a => ?_)) (qvRef_dot x w b s _)
    match a with | 0 => rfl | 1 => rfl | 2 => rfl
  · next h =>
    refine (concatenate_pair_apply_right (s₁ := S8x4096x1024) (s₂ := S8x4096x1024) 2 _ _ _ (ix3 b s j) rfl rfl (ix3 b s ⟨j.val - 1024, by omega⟩)
      (fun b hb => by match b with | 0 => rfl | 1 => rfl | 2 => exact absurd rfl hb) (by show j.val - 1024 + 1024 = j.val; omega)).trans ?_
    rw [Read.val_main_v3_apply]
    refine Eq.trans (congrArg (Read.val_main_v1 (F := Ideal) x w) (funext fun a => Fin.ext ?_)) (qvRef_dot x w b s _)
    match a with
    | 0 => rfl
    | 1 => rfl
    | 2 => show 2048 + (j.val - 1024) = 1024 + j.val; omega

theorem qvRef (x : S8x4096x2048.Idx → EReal) (w : S1x2048x5120.Idx → EReal) : Read.val_main_v7 (F := Ideal) x w = qvG x w := by
  funext i
  obtain ⟨j, r, rfl⟩ : ∃ (j : Fin 2048) (r : Fin 32768), i = (ix2 j r : S2048x32768.Idx) := ⟨i 0, i 1, ValueIdx.eq_ix2 (n0 := 2048) (n1 := 32768) i⟩
  refine (Read.val_main_v7_apply (F := Ideal) x w (ix2 j r)).trans ?_
  show Read.val_main_v6 (F := Ideal) x w (ix2 j r) = _
  rw [Read.val_main_v6_apply, Read.val_main_v5_apply]
  have hr := r.isLt
  have hj := j.isLt
  refine Eq.trans (congrArg (Read.val_main_v4 (F := Ideal) x w) (funext fun a => Fin.ext ?_)) (qvRef_cat x w ⟨r.val / 4096, by omega⟩ ⟨r.val % 4096, by omega⟩ j)
  match a with
  | 0 => show (r.val * 2048 + j.val) / 8388608 = r.val / 4096; omega
  | 1 => show (r.val * 2048 + j.val) / 2048 % 4096 = r.val % 4096; omega
  | 2 => show (r.val * 2048 + j.val) % 2048 = j.val; omega

theorem qvRef_congr {x y : (⟨S8x4096x2048, .f32⟩ : BufTy).Contents (Elt Ideal)} {w v : (⟨S1x2048x5120, .f32⟩ : BufTy).Contents (Elt Ideal)} (ex : x = y) (ew : w = v) :
    Read.val_main_v7 (F := Ideal) x w = Read.val_main_v7 (F := Ideal) y v := by rw [ex, ew]

theorem qvRef_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end reference

/-- From memories that agree on the arguments, kernel and reference end with equal queries and values. -/
theorem qv_value : Cert.algebraic_Kernel3Ideal_Reference3Ideal := fun m g m' g' _ hm => by
  refine ⟨fun c => qvG (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), qv_run m g, ?_⟩
  refine (θ_run Cert.Reference3Ideal.defs _ _).mono (fun r h c => ⟨?_, (h c).2⟩) (Cert.Reference3Ideal.Value.run (F := Ideal) m' g')
  obtain ⟨e0, e1⟩ := hm c
  exact ((h c).1.trans (Cert.Reference3Ideal.Read.val_main_v7_eq (F := Ideal) _ _)).trans ((qvRef_congr e0 e1).trans (qvRef _ _))

end Cert.Proj

end
-- ==== Proof.OutpSpec.lean ====
/- The output projection with its residual and layer norm, as a function of the attention's and the convolution's outputs. -/
module

public import Idealize.ShloMosaic.Lib.Pipeline.Value
public import Idealize.ShloMosaic.Lib.ValueIdx
public import Idealize.ShloMosaic.PureOps.Ideal.Laws

@[expose] public section

noncomputable section

namespace Cert.Outp

open Idealize.ShloMosaic
open Idealize.ShloMosaic.ValueIdx

abbrev Sa : Shape := ⟨3, ![8, 4096, 1024]⟩
abbrev Sw : Shape := ⟨3, ![1, 2048, 2048]⟩
abbrev Sx : Shape := ⟨3, ![8, 4096, 2048]⟩
abbrev Sg : Shape := ⟨2, ![1, 2048]⟩
abbrev Sy : Shape := ⟨2, ![32768, 2048]⟩
abbrev St : Shape := ⟨2, ![2048, 32768]⟩

/-- A row's mean. -/
def mean (z : Fin 2048 → EReal) : EReal := Ideal.div (∑ k, z k) (Ideal.ofBits .f32 0x45000000#32)

/-- A row's deviation from its mean, over the root of its variance. -/
def unitRow (z : Fin 2048 → EReal) (j : Fin 2048) : EReal :=
  (z j - mean z) * Ideal.rsqrt (mean (fun k => (z k - mean z) * (z k - mean z)) + Ideal.ofBits .f32 0x3727C5AC#32)

/-- A row's layer norm. -/
def lnRow (z g b : Fin 2048 → EReal) (j : Fin 2048) : EReal := unitRow z j * g j + b j

/-- Token `r` before its norm: the scaled input and both groups' products with the weights. -/
def mixRow (a c : Sa.Idx → EReal) (w : Sw.Idx → EReal) (x : Sx.Idx → EReal) (r : Fin 32768) (j : Fin 2048) : EReal :=
  Ideal.ofBits .f32 0x3F9837F0#32 * x (ix3 ⟨r.val / 4096, by omega⟩ ⟨r.val % 4096, by omega⟩ j)
    + (∑ k : Fin 1024, a (ix3 ⟨r.val / 4096, by omega⟩ ⟨r.val % 4096, by omega⟩ k) * w (ix3 0 ⟨k.val, by omega⟩ j)
      + ∑ k : Fin 1024, c (ix3 ⟨r.val / 4096, by omega⟩ ⟨r.val % 4096, by omega⟩ k) * w (ix3 0 ⟨1024 + k.val, by omega⟩ j))

/-- The layer's state after its first half, token by column. -/
def outG (a c : Sa.Idx → EReal) (w : Sw.Idx → EReal) (x : Sx.Idx → EReal) (g b : Sg.Idx → EReal) (r : Fin 32768) (j : Fin 2048) : EReal :=
  lnRow (mixRow a c w x r) (fun j => g (ix2 0 j)) (fun j => b (ix2 0 j)) j

/-- The layer's state, a row for each token. -/
def yG (a c : Sa.Idx → EReal) (w : Sw.Idx → EReal) (x : Sx.Idx → EReal) (g b : Sg.Idx → EReal) : Sy.Idx → EReal := fun i => outG a c w x g b (i 0) (i 1)

/-- The same, a column for each token. -/
def ytG (a c : Sa.Idx → EReal) (w : Sw.Idx → EReal) (x : Sx.Idx → EReal) (g b : Sg.Idx → EReal) : St.Idx → EReal := fun i => outG a c w x g b (i 1) (i 0)

end Cert.Outp

end
-- ==== Proof.OutpPay.lean ====
/- What the output projection's body computes of its blocks. -/
module

public import proofs.«01_k».proof.Proof.OutpSpec
public import proofs.«01_k».proof.Proof.Gen.Kernel4Ideal.Value
public import proofs.«01_k».proof.Defs
public import Idealize.ShloMosaic.Lib.Pipeline.ValueKit.Geometry
public import Idealize.ShloMosaic.Lib.MatmulPlain
public import Idealize.ShloMosaic.Lib.ValueLayoutCasts
public import Idealize.ShloMosaic.Lib.StableHlo.RunRead
public import Idealize.ShloMosaic.Lib.StableHlo.ReadAt

@[expose] public section

noncomputable section

namespace Cert.Outp

open Idealize.ShloMosaic hiding ix0 ix1 ix2 ix3 ix4
open Idealize.ShloMosaic.ValueIdx
open Cert.Kernel4Ideal Cert.Kernel4Ideal.Gen

theorem rowSum_at (v : FVec Ideal S512x2048 .f32) (r : Fin 512) :
    multiReduction .add [1] S512 v 0x00000000#32 reduces_S512x2048_S512 (.inl rfl) rfl (ix1 r) = ∑ k : Fin 2048, v (ix2 r k) := by
  refine Eq.trans (Ideal.multiReduction_add_single _ _ _ _ _ _) ?_
  refine Finset.sum_congr rfl fun k _ => congrArg v (funext fun a => ?_)
  match a with
  | 0 => rfl
  | 1 => rfl

theorem bcCol_at (v : FVec Ideal S512x1 .f32) (r : Fin 512) (j : Fin 2048) : broadcastTo S512x2048 v broadcasts_S512x1_S512x2048 (ix2 r j) = v (ix2 r 0) :=
  broadcastTo_apply v _ _ _ fun a => by match a with | 0 => rfl | 1 => rfl

theorem bcRow_at (v : FVec Ideal S1x2048 .f32) (r : Fin 512) (j : Fin 2048) : broadcastTo S512x2048 v broadcasts_S1x2048_S512x2048 (ix2 r j) = v (ix2 0 j) :=
  broadcastTo_apply v _ _ _ fun a => by match a with | 0 => rfl | 1 => rfl

/-- The rows' means. -/
def meanV (z : FVec Ideal S512x2048 .f32) : FVec Ideal S512x1 .f32 :=
  divf (shapeCast S512x1 (multiReduction .add [1] S512 z 0x00000000#32 reduces_S512x2048_S512 (.inl rfl) rfl) shapeCasts_S512_S512x1)
    (broadcast S512x1 (Scalar.ofBits .f32 0x45000000#32 : Ideal .f32))

theorem meanV_at (z : FVec Ideal S512x2048 .f32) (r : Fin 512) : meanV z (ix2 r 0) = mean (fun k => z (ix2 r k)) := by
  have e : shapeCast S512x1 (multiReduction .add [1] S512 z 0x00000000#32 reduces_S512x2048_S512 (.inl rfl) rfl) shapeCasts_S512_S512x1 (ix2 r 0)
      = ∑ k : Fin 2048, z (ix2 r k) :=
    (shapeCast_apply _ _ _ (ix1 r) (by
      rw [Shape.rowMajor_val_one, Shape.rowMajor_val_two]
      show r.val = r.val * 1 + 0
      omega)).trans (rowSum_at z r)
  show Ideal.div _ _ = _
  rw [e]
  rfl

/-- The rows' deviations. -/
def devV (z : FVec Ideal S512x2048 .f32) : FVec Ideal S512x2048 .f32 := subf z (broadcastTo S512x2048 (meanV z) broadcasts_S512x1_S512x2048)

theorem devV_at (z : FVec Ideal S512x2048 .f32) (r : Fin 512) (j : Fin 2048) : devV z (ix2 r j) = z (ix2 r j) - mean (fun k => z (ix2 r k)) := by
  show _ - _ = _
  rw [bcCol_at, meanV_at]

/-- The rows before the norm. -/
def mixV (a : Vec Ideal S512x1024 .bf16) (wa : Vec Ideal S1024x2048 .bf16) (c : Vec Ideal S512x1024 .bf16) (wc : Vec Ideal S1024x2048 .bf16) (x : Vec Ideal S512x2048 .f32) :
    FVec Ideal S512x2048 .f32 :=
  addf (mulf (broadcast S512x2048 (Scalar.ofBits .f32 0x3F9837F0#32 : Ideal .f32)) (shapeCast S512x2048 x shapeCasts_S512x2048_S512x2048))
    (addf
      (matmul dot_S512x1024_S1024x2048_S512x2048_1_0_0_1_n_n none (shapeCast S512x1024 a shapeCasts_S512x1024_S512x1024 : FVec Ideal S512x1024 .bf16)
        (shapeCast S1024x2048 wa shapeCasts_S1024x2048_S1024x2048 : FVec Ideal S1024x2048 .bf16) (constant S512x2048 .f32 0x00000000#32))
      (matmul dot_S512x1024_S1024x2048_S512x2048_1_0_0_1_n_n none (shapeCast S512x1024 c shapeCasts_S512x1024_S512x1024 : FVec Ideal S512x1024 .bf16)
        (shapeCast S1024x2048 wc shapeCasts_S1024x2048_S1024x2048 : FVec Ideal S1024x2048 .bf16) (constant S512x2048 .f32 0x00000000#32)))

theorem prod_at (a : FVec Ideal S512x1024 .bf16) (w : FVec Ideal S1024x2048 .bf16) (r : Fin 512) (j : Fin 2048) :
    matmul dot_S512x1024_S1024x2048_S512x2048_1_0_0_1_n_n none a w (constant S512x2048 .f32 0x00000000#32 : FVec Ideal S512x2048 .f32) (ix2 r j)
      = ∑ k : Fin 1024, a (ix2 r k) * w (ix2 k j) := by
  refine (Ideal.matmul_plain_apply (M := 512) (K := 1024) (N := 2048) (φ₁ := .bf16) (φ₂ := .bf16) none _ _ _ r j).trans ?_
  refine (congrArg (· + _) Ideal.ofBits_zero_f32).trans ?_
  rw [zero_add]

theorem mixV_at (a : Vec Ideal S512x1024 .bf16) (wa : Vec Ideal S1024x2048 .bf16) (c : Vec Ideal S512x1024 .bf16) (wc : Vec Ideal S1024x2048 .bf16)
    (x : Vec Ideal S512x2048 .f32) (r : Fin 512) (j : Fin 2048) :
    mixV a wa c wc x (ix2 r j) = Ideal.ofBits .f32 0x3F9837F0#32 * x (ix2 r j)
      + ((∑ k : Fin 1024, a (ix2 r k) * wa (ix2 k j)) + ∑ k : Fin 1024, c (ix2 r k) * wc (ix2 k j)) := by
  unfold mixV
  simp only [shapeCast_self]
  have e1 := prod_at a wa r j
  have e2 := prod_at c wc r j
  show _ * _ + (_ + _) = _
  rw [e1, e2]
  rfl

/-- The rows' deviations over the root of the variance. -/
def unitV (z : FVec Ideal S512x2048 .f32) : FVec Ideal S512x2048 .f32 :=
  mulf (devV z) (broadcastTo S512x2048 (rsqrt (addf (meanV (mulf (devV z) (devV z))) (broadcast S512x1 (Scalar.ofBits .f32 0x3727C5AC#32 : Ideal .f32))))
    broadcasts_S512x1_S512x2048)

theorem unitV_at (z : FVec Ideal S512x2048 .f32) (r : Fin 512) (j : Fin 2048) : unitV z (ix2 r j) = unitRow (fun k => z (ix2 r k)) j := by
  show _ * _ = _
  rw [bcCol_at, devV_at]
  unfold unitRow
  refine congrArg (fun u : EReal => (z (ix2 r j) - mean (fun k => z (ix2 r k))) * u) ?_
  show Ideal.rsqrt (_ + _) = _
  rw [meanV_at]
  have e : (fun k => (mulf (devV z) (devV z)) (ix2 r k))
      = fun k => (z (ix2 r k) - mean (fun k => z (ix2 r k))) * (z (ix2 r k) - mean (fun k => z (ix2 r k))) := by
    funext k
    show _ * _ = _
    rw [devV_at]
  rw [e]
  rfl

theorem pay5_eq (a : Vec Ideal S512x1024 .bf16) (wa : Vec Ideal S1024x2048 .bf16) (c : Vec Ideal S512x1024 .bf16) (wc : Vec Ideal S1024x2048 .bf16)
    (x : Vec Ideal S512x2048 .f32) : k0_pay5 a wa c wc x = unitV (mixV a wa c wc x) := rfl

/-- A block's norm. -/
theorem pay1_at (a : Vec Ideal S512x1024 .bf16) (wa : Vec Ideal S1024x2048 .bf16) (c : Vec Ideal S512x1024 .bf16) (wc : Vec Ideal S1024x2048 .bf16)
    (x : Vec Ideal S512x2048 .f32) (g b : Vec Ideal S1x2048 .f32) (r : Fin 512) (j : Fin 2048) :
    k0_pay1 (k0_pay4 b) (k0_pay5 a wa c wc x) (k0_pay6 g) (ix2 r j)
      = lnRow (fun j => Ideal.ofBits .f32 0x3F9837F0#32 * x (ix2 r j)
          + ((∑ k : Fin 1024, a (ix2 r k) * wa (ix2 k j)) + ∑ k : Fin 1024, c (ix2 r k) * wc (ix2 k j)))
        (fun j => g (ix2 0 j)) (fun j => b (ix2 0 j)) j := by
  have e4 : k0_pay4 b = b := by unfold k0_pay4; simp only [shapeCast_self]
  have e6 : k0_pay6 g = broadcastTo S512x2048 g broadcasts_S1x2048_S512x2048 := by unfold k0_pay6; simp only [shapeCast_self]
  rw [e4, e6, pay5_eq]
  show unitV (mixV a wa c wc x) (ix2 r j) * broadcastTo S512x2048 g broadcasts_S1x2048_S512x2048 (ix2 r j) + broadcastTo S512x2048 b broadcasts_S1x2048_S512x2048 (ix2 r j) = _
  rw [unitV_at, bcRow_at, bcRow_at]
  unfold lnRow
  refine congrArg (fun z : Fin 2048 → EReal => unitRow z j * g (ix2 0 j) + b (ix2 0 j)) (funext fun k => mixV_at a wa c wc x r k)

theorem zz : (![0, 0] : Fin 2 → Nat) = fun _ => 0 := funext fun a => by fin_cases a <;> rfl

theorem out7_at (a c : Vec Ideal S512x1024 .bf16) (wa wc : Vec Ideal S1024x2048 .bf16) (x : Vec Ideal S512x2048 .f32) (g b : Vec Ideal S1x2048 .f32) (r : Fin 512) (j : Fin 2048) :
    out0_7 a c wa wc x g b (ix2 r j) = lnRow (fun j => Ideal.ofBits .f32 0x3F9837F0#32 * x (ix2 r j)
          + ((∑ k : Fin 1024, a (ix2 r k) * wa (ix2 k j)) + ∑ k : Fin 1024, c (ix2 r k) * wc (ix2 k j)))
        (fun j => g (ix2 0 j)) (fun j => b (ix2 0 j)) j := by
  unfold out0_7 k0_pay9 k0_pay8 k0_pay7
  rw [View.canon_unit_zero (S := S512x2048) zz]
  simp only [View.ld_unit_zero (S := S512x1024) zz, View.ld_unit_zero (S := S1024x2048) zz, View.ld_unit_zero (S := S512x2048) zz, View.ld_unit_zero (S := S1x2048) zz]
  exact pay1_at a wa c wc x g b r j

theorem out8_at (a c : Vec Ideal S512x1024 .bf16) (wa wc : Vec Ideal S1024x2048 .bf16) (x : Vec Ideal S512x2048 .f32) (g b : Vec Ideal S1x2048 .f32) (r : Fin 512) (j : Fin 2048) :
    out0_8 a c wa wc x g b (ix2 r j) = lnRow (fun j => Ideal.ofBits .f32 0x3F9837F0#32 * x (ix2 r j)
          + ((∑ k : Fin 1024, a (ix2 r k) * wa (ix2 k j)) + ∑ k : Fin 1024, c (ix2 r k) * wc (ix2 k j)))
        (fun j => g (ix2 0 j)) (fun j => b (ix2 0 j)) j := by
  unfold out0_8 k0_pay9 k0_pay8 k0_pay7
  rw [View.canon_unit_zero (S := S512x2048) zz]
  simp only [View.ld_unit_zero (S := S512x1024) zz, View.ld_unit_zero (S := S1024x2048) zz, View.ld_unit_zero (S := S512x2048) zz, View.ld_unit_zero (S := S1x2048) zz]
  exact pay1_at a wa c wc x g b r j

theorem out9_at (a c : Vec Ideal S512x1024 .bf16) (wa wc : Vec Ideal S1024x2048 .bf16) (x : Vec Ideal S512x2048 .f32) (g b : Vec Ideal S1x2048 .f32) (r : Fin 512) (j : Fin 2048) :
    out0_9 a c wa wc x g b (ix2 j r) = lnRow (fun j => Ideal.ofBits .f32 0x3F9837F0#32 * x (ix2 r j)
          + ((∑ k : Fin 1024, a (ix2 r k) * wa (ix2 k j)) + ∑ k : Fin 1024, c (ix2 r k) * wc (ix2 k j)))
        (fun j => g (ix2 0 j)) (fun j => b (ix2 0 j)) j := by
  unfold out0_9 k0_pay9 k0_pay8 k0_pay7
  rw [View.canon_unit_zero (S := S2048x512) zz]
  simp only [View.ld_unit_zero (S := S512x1024) zz, View.ld_unit_zero (S := S1024x2048) zz, View.ld_unit_zero (S := S512x2048) zz, View.ld_unit_zero (S := S1x2048) zz]
  exact (transpose_ix2_apply _ _ _ _).trans (pay1_at a wa c wc x g b r j)

end Cert.Outp

end
-- ==== Proof.Outp.lean ====
/- The output projection with its layer norm: what the kernel leaves, and what the reference computes. -/
module

public import proofs.«01_k».proof.Defs
public import proofs.«01_k».proof.Proof.OutpPay
public import proofs.«01_k».proof.Proof.Gen.Reference4Ideal.Run
public import proofs.«01_k».proof.Proof.Gen.Reference4Ideal.Read
public import Idealize.ShloMosaic.Lib.Pipeline.ValueKit.Geometry
public import Idealize.ShloMosaic.Lib.ValueLayoutCasts
public import Idealize.ShloMosaic.Lib.StableHlo.RunRead
public import Idealize.ShloMosaic.Lib.StableHlo.ReadAt

@[expose] public section

noncomputable section

namespace Cert.Outp

open Idealize.ShloMosaic hiding ix0 ix1 ix2 ix3 ix4
open Idealize.ShloMosaic.TcCoe
open Idealize.SL.Sem Idealize.ShloMosaic.StableHlo
open Idealize.ShloMosaic.ValueIdx
open Idealize.ShloMosaic.Pipeline (Dat)

section kernel

open Cert.Kernel4Ideal Cert.Kernel4Ideal.Gen

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![0, t.val] := (by decide +kernel : ∀ t : Fin grid0.N, _)
theorem N_lt (t : Fin cfg0.N) : t.val < 64 := lt_of_lt_of_eq t.isLt N_0

/-- The token behind row `r` of point `t`. -/
def tok (t : Fin cfg0.N) (r : Fin 512) : Fin 32768 := ⟨512 * t.val + r.val, by have := N_lt t; omega⟩

theorem blk0 (t : Fin cfg0.N) (r : Fin 512) (k : Fin 1024) : iblk m c 0 t (ix2 r k) = V m c main_v1 (ix2 (tok t r) k) := by
  have e := index0 t
  blk_simp [iblk]
  show V m c main_v1 _ = _
  refine congrArg _ (funext fun a => Fin.ext ?_)
  match a with
  | 0 => blk_simp [e]; show t.val * 512 + r.val = 512 * t.val + r.val; omega
  | 1 => blk_simp [e]; rfl

theorem blk1 (t : Fin cfg0.N) (r : Fin 512) (k : Fin 1024) : iblk m c 1 t (ix2 r k) = V m c main_v2 (ix2 (tok t r) k) := by
  have e := index1 t
  blk_simp [iblk]
  show V m c main_v2 _ = _
  refine congrArg _ (funext fun a => Fin.ext ?_)
  match a with
  | 0 => blk_simp [e]; show t.val * 512 + r.val = 512 * t.val + r.val; omega
  | 1 => blk_simp [e]; rfl

theorem blk2 (t : Fin cfg0.N) (k : Fin 1024) (j : Fin 2048) : iblk m c 2 t (ix2 k j) = V m c main_v9 (ix2 k j) := by
  have e := index2 t
  blk_simp [iblk]
  show V m c main_v9 _ = _
  refine congrArg _ (funext fun a => Fin.ext ?_)
  match a with
  | 0 => blk_simp [e]
  | 1 => blk_simp [e]

theorem blk3 (t : Fin cfg0.N) (k : Fin 1024) (j : Fin 2048) : iblk m c 3 t (ix2 k j) = V m c main_v10 (ix2 k j) := by
  have e := index3 t
  blk_simp [iblk]
  show V m c main_v10 _ = _
  refine congrArg _ (funext fun a => Fin.ext ?_)
  match a with
  | 0 => blk_simp [e]
  | 1 => blk_simp [e]

theorem blk4 (t : Fin cfg0.N) (r : Fin 512) (j : Fin 2048) : iblk m c 4 t (ix2 r j) = V m c main_v0 (ix2 (tok t r) j) := by
  have e := index4 t
  blk_simp [iblk]
  show V m c main_v0 _ = _
  refine congrArg _ (funext fun a => Fin.ext ?_)
  match a with
  | 0 => blk_simp [e]; show t.val * 512 + r.val = 512 * t.val + r.val; omega
  | 1 => blk_simp [e]; rfl

theorem blk5 (t : Fin cfg0.N) (j : Fin 2048) : iblk m c 5 t (ix2 0 j) = V m c main_v6 (ix2 0 j) := by
  have e := index5 t
  blk_simp [iblk]
  show V m c main_v6 _ = _
  refine congrArg _ (funext fun a => Fin.ext ?_)
  match a with
  | 0 => blk_simp [e]
  | 1 => blk_simp [e]

theorem blk6 (t : Fin cfg0.N) (j : Fin 2048) : iblk m c 6 t (ix2 0 j) = V m c main_v8 (ix2 0 j) := by
  have e := index6 t
  blk_simp [iblk]
  show V m c main_v8 _ = _
  refine congrArg _ (funext fun a => Fin.ext ?_)
  match a with
  | 0 => blk_simp [e]
  | 1 => blk_simp [e]

theorem half_rows (x : S8x4096x1024.Idx → EReal) (r : Fin 32768) (k : Fin 1024) :
    (shapeCast S32768x1024 x shapeCasts_S8x4096x1024_S32768x1024 : S32768x1024.Idx → EReal) (ix2 r k) = x (ix3 ⟨r.val / 4096, by omega⟩ ⟨r.val % 4096, by omega⟩ k) :=
  shapeCast_apply x _ _ _ (by
    rw [Shape.rowMajor_val_three, Shape.rowMajor_val_two]
    show (r.val / 4096 * 4096 + r.val % 4096) * 1024 + k.val = r.val * 1024 + k.val
    omega)

theorem full_rows (x : S8x4096x2048.Idx → EReal) (r : Fin 32768) (k : Fin 2048) :
    (shapeCast S32768x2048 x shapeCasts_S8x4096x2048_S32768x2048 : S32768x2048.Idx → EReal) (ix2 r k) = x (ix3 ⟨r.val / 4096, by omega⟩ ⟨r.val % 4096, by omega⟩ k) :=
  shapeCast_apply x _ _ _ (by
    rw [Shape.rowMajor_val_three, Shape.rowMajor_val_two]
    show (r.val / 4096 * 4096 + r.val % 4096) * 2048 + k.val = r.val * 2048 + k.val
    omega)

theorem flat_row (g : S1x2048.Idx → EReal) (j : Fin 2048) :
    (shapeCast S1x2048 (shapeCast S2048 g shapeCasts_S1x2048_S2048) shapeCasts_S2048_S1x2048 : S1x2048.Idx → EReal) (ix2 0 j) = g (ix2 0 j) :=
  (shapeCast_apply _ _ _ (ix1 j) (by
    rw [Shape.rowMajor_val_one, Shape.rowMajor_val_two]
    show j.val = 0 * 2048 + j.val
    omega)).trans
  (shapeCast_apply g _ _ (ix2 0 j) (by
    rw [Shape.rowMajor_val_one, Shape.rowMajor_val_two]
    show 0 * 2048 + j.val = j.val
    omega))

theorem flat_w (w : S1x2048x2048.Idx → EReal) (k : Fin 2048) (j : Fin 2048) :
    (truncf .bf16 (shapeCast S2048x2048 w shapeCasts_S1x2048x2048_S2048x2048 : FVec Ideal S2048x2048 .f32) bitsLt_bf16_f32) (ix2 k j) = w (ix3 0 k j) :=
  shapeCast_apply w _ _ (ix3 0 k j) (by
    rw [Shape.rowMajor_val_three, Shape.rowMajor_val_two]
    show (0 * 2048 + k.val) * 2048 + j.val = k.val * 2048 + j.val
    omega)

theorem V0_at (r : Fin 32768) (k : Fin 2048) : V m c main_v0 (ix2 r k) = m ((c.tc : Thread nD τ).loc main_arg3) (ix3 ⟨r.val / 4096, by omega⟩ ⟨r.val % 4096, by omega⟩ k) := by
  have e : V m c main_v0 = shapeCast S32768x2048 (m ((c.tc : Thread nD τ).loc main_arg3)) shapeCasts_S8x4096x2048_S32768x2048 := by
    after_reads_simp
    rfl
  rw [e]
  exact full_rows _ _ _

theorem V1_at (r : Fin 32768) (k : Fin 1024) : V m c main_v1 (ix2 r k) = m ((c.tc : Thread nD τ).loc main_arg0) (ix3 ⟨r.val / 4096, by omega⟩ ⟨r.val % 4096, by omega⟩ k) := by
  have e : V m c main_v1 = shapeCast S32768x1024 (m ((c.tc : Thread nD τ).loc main_arg0)) shapeCasts_S8x4096x1024_S32768x1024 := by
    after_reads_simp
    rfl
  rw [e]
  exact half_rows _ _ _

theorem V2_at (r : Fin 32768) (k : Fin 1024) : V m c main_v2 (ix2 r k) = m ((c.tc : Thread nD τ).loc main_arg1) (ix3 ⟨r.val / 4096, by omega⟩ ⟨r.val % 4096, by omega⟩ k) := by
  have e : V m c main_v2 = shapeCast S32768x1024 (m ((c.tc : Thread nD τ).loc main_arg1)) shapeCasts_S8x4096x1024_S32768x1024 := by
    after_reads_simp
    rfl
  rw [e]
  exact half_rows _ _ _

theorem V6_at (j : Fin 2048) : V m c main_v6 (ix2 0 j) = m ((c.tc : Thread nD τ).loc main_arg4) (ix2 0 j) := by
  have e : V m c main_v6 = shapeCast S1x2048 (shapeCast S2048 (m ((c.tc : Thread nD τ).loc main_arg4)) shapeCasts_S1x2048_S2048) shapeCasts_S2048_S1x2048 := by
    after_reads_simp
    rfl
  rw [e]
  exact flat_row _ _

theorem V8_at (j : Fin 2048) : V m c main_v8 (ix2 0 j) = m ((c.tc : Thread nD τ).loc main_arg5) (ix2 0 j) := by
  have e : V m c main_v8 = shapeCast S1x2048 (shapeCast S2048 (m ((c.tc : Thread nD τ).loc main_arg5)) shapeCasts_S1x2048_S2048) shapeCasts_S2048_S1x2048 := by
    after_reads_simp
    rfl
  rw [e]
  exact flat_row _ _

theorem V9_at (k : Fin 1024) (j : Fin 2048) : V m c main_v9 (ix2 k j) = m ((c.tc : Thread nD τ).loc main_arg2) (ix3 0 ⟨k.val, by omega⟩ j) := by
  have e : V m c main_v9 = extractStridedSlice S1024x2048 ![0, 0] (truncf .bf16 (shapeCast S2048x2048 (m ((c.tc : Thread nD τ).loc main_arg2)) shapeCasts_S1x2048x2048_S2048x2048 : FVec Ideal S2048x2048 .f32) bitsLt_bf16_f32) slices_S2048x2048_S1024x2048_0_0 := by
    after_reads_simp
    rfl
  rw [e]
  exact (extractStridedSlice_apply _ _ _ _ (ix2 ⟨k.val, by omega⟩ j) (fun a => by match a with | 0 => exact (Nat.zero_add _).symm | 1 => exact (Nat.zero_add _).symm)).trans (flat_w _ _ _)

theorem V10_at (k : Fin 1024) (j : Fin 2048) : V m c main_v10 (ix2 k j) = m ((c.tc : Thread nD τ).loc main_arg2) (ix3 0 ⟨1024 + k.val, by omega⟩ j) := by
  have e : V m c main_v10 = extractStridedSlice S1024x2048 ![1024, 0] (truncf .bf16 (shapeCast S2048x2048 (m ((c.tc : Thread nD τ).loc main_arg2)) shapeCasts_S1x2048x2048_S2048x2048 : FVec Ideal S2048x2048 .f32) bitsLt_bf16_f32) slices_S2048x2048_S1024x2048_1024_0 := by
    after_reads_simp
    rfl
  rw [e]
  exact (extractStridedSlice_apply _ _ _ _ (ix2 ⟨1024 + k.val, by omega⟩ j) (fun a => by match a with | 0 => rfl | 1 => exact (Nat.zero_add _).symm)).trans (flat_w _ _ _)

/-- The layer's state at the arguments' contents. -/
abbrev outM (r : Fin 32768) (j : Fin 2048) : EReal :=
  outG (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) r j

/-- A norm depends on its row, gain and shift alone. -/
theorem lnRow_congr {z z' g g' b b' : Fin 2048 → EReal} (hz : ∀ j, z j = z' j) (hg : ∀ j, g j = g' j) (hb : ∀ j, b j = b' j) (j : Fin 2048) :
    lnRow z g b j = lnRow z' g' b' j := by
  rw [funext hz, funext hg, funext hb]

/-- A sum of two products over the extended reals, term by term. -/
theorem mix_congr {α x x' : EReal} {a a' w w' c c' v v' : Fin 1024 → EReal} (hx : x = x') (ha : ∀ k, a k = a' k) (hw : ∀ k, w k = w' k)
    (hc : ∀ k, c k = c' k) (hv : ∀ k, v k = v' k) :
    α * x + ((∑ k, a k * w k) + ∑ k, c k * v k) = α * x' + ((∑ k, a' k * w' k) + ∑ k, c' k * v' k) := by
  rw [hx, funext ha, funext hw, funext hc, funext hv]

theorem row_of (t : Fin cfg0.N) (r : Fin 512) (A C : S512x1024.Idx → EReal) (P Q : S1024x2048.Idx → EReal) (X : S512x2048.Idx → EReal) (G H : S1x2048.Idx → EReal)
    (hA : ∀ k, A (ix2 r k) = V m c main_v1 (ix2 (tok t r) k)) (hC : ∀ k, C (ix2 r k) = V m c main_v2 (ix2 (tok t r) k))
    (hP : ∀ k j, P (ix2 k j) = V m c main_v9 (ix2 k j)) (hQ : ∀ k j, Q (ix2 k j) = V m c main_v10 (ix2 k j))
    (hX : ∀ j, X (ix2 r j) = V m c main_v0 (ix2 (tok t r) j)) (hG : ∀ j, G (ix2 0 j) = V m c main_v6 (ix2 0 j)) (hH : ∀ j, H (ix2 0 j) = V m c main_v8 (ix2 0 j)) (j : Fin 2048) :
    lnRow (fun j => Ideal.ofBits .f32 0x3F9837F0#32 * X (ix2 r j) + ((∑ k : Fin 1024, A (ix2 r k) * P (ix2 k j)) + ∑ k : Fin 1024, C (ix2 r k) * Q (ix2 k j)))
        (fun j => G (ix2 0 j)) (fun j => H (ix2 0 j)) j
      = outM m c (tok t r) j := by
  unfold outM outG
  refine lnRow_congr (fun j => ?_) (fun j => (hG j).trans (V6_at m c j)) (fun j => (hH j).trans (V8_at m c j)) j
  unfold mixRow
  exact mix_congr ((hX j).trans (V0_at m c _ j)) (fun k => (hA k).trans (V1_at m c _ k)) (fun k => (hP k j).trans (V9_at m c k j))
    (fun k => (hC k).trans (V2_at m c _ k)) (fun k => (hQ k j).trans (V10_at m c k j))

theorem point7 (t : Fin cfg0.N) (r : Fin 512) (j : Fin 2048) :
    out0_7 (iblk m c 0 t) (iblk m c 1 t) (iblk m c 2 t) (iblk m c 3 t) (iblk m c 4 t) (iblk m c 5 t) (iblk m c 6 t) (ix2 r j) = outM m c (tok t r) j := by
  refine (out7_at (iblk m c 0 t) (iblk m c 1 t) (iblk m c 2 t) (iblk m c 3 t) (iblk m c 4 t) (iblk m c 5 t) (iblk m c 6 t) r j).trans ?_
  exact row_of m c t r (iblk m c 0 t) (iblk m c 1 t) (iblk m c 2 t) (iblk m c 3 t) (iblk m c 4 t) (iblk m c 5 t) (iblk m c 6 t)
    (blk0 m c t r) (blk1 m c t r) (blk2 m c t) (blk3 m c t) (blk4 m c t r) (blk5 m c t) (blk6 m c t) j

theorem point8 (t : Fin cfg0.N) (r : Fin 512) (j : Fin 2048) :
    out0_8 (iblk m c 0 t) (iblk m c 1 t) (iblk m c 2 t) (iblk m c 3 t) (iblk m c 4 t) (iblk m c 5 t) (iblk m c 6 t) (ix2 r j) = outM m c (tok t r) j := by
  refine (out8_at (iblk m c 0 t) (iblk m c 1 t) (iblk m c 2 t) (iblk m c 3 t) (iblk m c 4 t) (iblk m c 5 t) (iblk m c 6 t) r j).trans ?_
  exact row_of m c t r (iblk m c 0 t) (iblk m c 1 t) (iblk m c 2 t) (iblk m c 3 t) (iblk m c 4 t) (iblk m c 5 t) (iblk m c 6 t)
    (blk0 m c t r) (blk1 m c t r) (blk2 m c t) (blk3 m c t) (blk4 m c t r) (blk5 m c t) (blk6 m c t) j

theorem point9 (t : Fin cfg0.N) (r : Fin 512) (j : Fin 2048) :
    out0_9 (iblk m c 0 t) (iblk m c 1 t) (iblk m c 2 t) (iblk m c 3 t) (iblk m c 4 t) (iblk m c 5 t) (iblk m c 6 t) (ix2 j r) = outM m c (tok t r) j := by
  refine (out9_at (iblk m c 0 t) (iblk m c 1 t) (iblk m c 2 t) (iblk m c 3 t) (iblk m c 4 t) (iblk m c 5 t) (iblk m c 6 t) r j).trans ?_
  exact row_of m c t r (iblk m c 0 t) (iblk m c 1 t) (iblk m c 2 t) (iblk m c 3 t) (iblk m c 4 t) (iblk m c 5 t) (iblk m c 6 t)
    (blk0 m c t r) (blk1 m c t r) (blk2 m c t) (blk3 m c t) (blk4 m c t r) (blk5 m c t) (blk6 m c t) j

/-- The first result's array after the run. -/
theorem final7 : (dats m 0 c).arrAt 7 cfg0.N = fun i : S32768x2048.Idx => outM m c (i 0) (i 1) := by
  refine (dats m 0 c).arrAt_eq_of_covers 7 _ (by decide +kernel) fun t hf y => ?_
  have e := index7 t
  have hy : ∃ (r : Fin 512) (j : Fin 2048), y = (ix2 r j : S512x2048.Idx) := ⟨y 0, y 1, ValueIdx.eq_ix2 (n0 := 512) (n1 := 2048) y⟩
  obtain ⟨r, j, rfl⟩ := hy
  have he : (win0_7.blk t).view.emb (ix2 r j : S512x2048.Idx) = (ix2 (tok t r) j : S32768x2048.Idx) := by
    funext a
    refine Fin.ext ?_
    match a with
    | 0 => blk_simp [e]; show t.val * 512 + r.val = 512 * t.val + r.val; omega
    | 1 => blk_simp [e]; rfl
  refine Eq.trans (congrFun (after0_7 m c t) (ix2 r j : S512x2048.Idx)) ?_
  refine Eq.trans ?_ (congrArg (fun i : S32768x2048.Idx => outM m c (i 0) (i 1)) he).symm
  exact point7 m c t r j

/-- The second result's array after the run. -/
theorem final8 : (dats m 0 c).arrAt 8 cfg0.N = fun i : S32768x2048.Idx => outM m c (i 0) (i 1) := by
  refine (dats m 0 c).arrAt_eq_of_covers 8 _ (by decide +kernel) fun t hf y => ?_
  have e := index8 t
  have hy : ∃ (r : Fin 512) (j : Fin 2048), y = (ix2 r j : S512x2048.Idx) := ⟨y 0, y 1, ValueIdx.eq_ix2 (n0 := 512) (n1 := 2048) y⟩
  obtain ⟨r, j, rfl⟩ := hy
  have he : (win0_8.blk t).view.emb (ix2 r j : S512x2048.Idx) = (ix2 (tok t r) j : S32768x2048.Idx) := by
    funext a
    refine Fin.ext ?_
    match a with
    | 0 => blk_simp [e]; show t.val * 512 + r.val = 512 * t.val + r.val; omega
    | 1 => blk_simp [e]; rfl
  refine Eq.trans (congrFun (after0_8 m c t) (ix2 r j : S512x2048.Idx)) ?_
  refine Eq.trans ?_ (congrArg (fun i : S32768x2048.Idx => outM m c (i 0) (i 1)) he).symm
  exact point8 m c t r j

/-- The third result's array after the run. -/
theorem final9 : (dats m 0 c).arrAt 9 cfg0.N = fun i : S2048x32768.Idx => outM m c (i 1) (i 0) := by
  refine (dats m 0 c).arrAt_eq_of_covers 9 _ (by decide +kernel) fun t hf y => ?_
  have e := index9 t
  have hy : ∃ (j : Fin 2048) (r : Fin 512), y = (ix2 j r : S2048x512.Idx) := ⟨y 0, y 1, ValueIdx.eq_ix2 (n0 := 2048) (n1 := 512) y⟩
  obtain ⟨j, r, rfl⟩ := hy
  have he : (win0_9.blk t).view.emb (ix2 j r : S2048x512.Idx) = (ix2 j (tok t r) : S2048x32768.Idx) := by
    funext a
    refine Fin.ext ?_
    match a with
    | 0 => blk_simp [e]; rfl
    | 1 => blk_simp [e]; show t.val * 512 + r.val = 512 * t.val + r.val; omega
  refine Eq.trans (congrFun (after0_9 m c t) (ix2 j r : S2048x512.Idx)) ?_
  refine Eq.trans ?_ (congrArg (fun i : S2048x32768.Idx => outM m c (i 1) (i 0)) he).symm
  exact point9 m c t r j

/-- The kernel's run, read at its results. -/
theorem out_run (ρ : Dev nD → PrngReg) : θ_run defs (onTc (τ := τ) (main (F := Ideal))) ⟨m, fun _ => 0, ρ⟩ (fun r => ∀ c : Dev nD,
      (r.2.mem ((c.tc : Thread nD τ).loc main_v11_0) : S32768x2048.Idx → EReal) = (fun i : S32768x2048.Idx => outM m c (i 0) (i 1))
      ∧ (r.2.mem ((c.tc : Thread nD τ).loc main_v11_1) : S32768x2048.Idx → EReal) = (fun i : S32768x2048.Idx => outM m c (i 0) (i 1))
      ∧ (r.2.mem ((c.tc : Thread nD τ).loc main_v11_2) : S2048x32768.Idx → EReal) = (fun i : S2048x32768.Idx => outM m c (i 1) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (final7 m c), (h c).2.1.trans (final8 m c), (h c).2.2.1.trans (final9 m c), (h c).2.2.2⟩) (Value.run_blocks m ρ)

end kernel

section reference

open Cert.Reference4Ideal Cert.Reference4Ideal.Gen

variable (a c : S8x4096x1024.Idx → EReal) (w : S1x2048x2048.Idx → EReal) (x : S8x4096x2048.Idx → EReal) (g b : S1x2048.Idx → EReal)

theorem ref_w (k : Fin 2048) (j : Fin 2048) : Read.val_main_v2 (F := Ideal) w (ix2 k j) = w (ix3 0 k j) := by
  rw [Read.val_main_v2_apply]
  refine congrArg w (funext fun u => Fin.ext ?_)
  have hk := k.isLt
  have hj := j.isLt
  match u with
  | 0 => rfl
  | 1 => show (k.val * 2048 + j.val) / 2048 % 2048 = k.val; omega
  | 2 => show (k.val * 2048 + j.val) % 2048 = j.val; omega

theorem ref_left (n : Fin 8) (s : Fin 4096) (k : Fin 1024) : Read.val_main_v1 (F := Ideal) a c (ix3 n s (⟨k.val, by omega⟩ : Fin 2048)) = a (ix3 n s k) := by
  rw [Read.val_main_v1_apply]
  show Read.val_main_v0 (F := Ideal) a c _ = _
  unfold Read.val_main_v0
  refine concatenate_pair_apply_left (t := S8x4096x2048) (s₁ := S8x4096x1024) (s₂ := S8x4096x1024) 2 a c _ (ix3 n s (⟨k.val, by omega⟩ : Fin 2048)) rfl (ix3 n s k)
    (fun b => by match b with | 0 => rfl | 1 => rfl | 2 => rfl)

theorem ref_right (n : Fin 8) (s : Fin 4096) (k : Fin 1024) : Read.val_main_v1 (F := Ideal) a c (ix3 n s (⟨1024 + k.val, by omega⟩ : Fin 2048)) = c (ix3 n s k) := by
  rw [Read.val_main_v1_apply]
  show Read.val_main_v0 (F := Ideal) a c _ = _
  unfold Read.val_main_v0
  refine concatenate_pair_apply_right (t := S8x4096x2048) (s₁ := S8x4096x1024) (s₂ := S8x4096x1024) 2 a c _ (ix3 n s (⟨1024 + k.val, by omega⟩ : Fin 2048)) rfl rfl (ix3 n s k)
    (fun b hb => by match b with | 0 => rfl | 1 => rfl | 2 => exact absurd rfl hb) (by show k.val + 1024 = 1024 + k.val; omega)

/-- The product over both groups is the sum of the groups' products. -/
theorem ref_dot (n : Fin 8) (s : Fin 4096) (j : Fin 2048) :
    Read.val_main_v3 (F := Ideal) a c w (ix3 n s j)
      = (∑ k : Fin 1024, a (ix3 n s k) * w (ix3 0 (⟨k.val, by omega⟩ : Fin 2048) j)) + ∑ k : Fin 1024, c (ix3 n s k) * w (ix3 0 (⟨1024 + k.val, by omega⟩ : Fin 2048) j) := by
  rw [Read.val_main_v3_apply]
  have e : ∀ k : Fin 2048, Read.val_main_v1 (F := Ideal) a c (Read.lidx_main_v3 (ix3 n s j) k) * Read.val_main_v2 (F := Ideal) w (Read.ridx_main_v3 (ix3 n s j) k)
      = Read.val_main_v1 (F := Ideal) a c (ix3 n s k) * w (ix3 0 k j) := fun k =>
    congrArg₂ (fun u v : EReal => u * v)
      (congrArg (Read.val_main_v1 (F := Ideal) a c) (funext fun u => by match u with | 0 => rfl | 1 => rfl | 2 => rfl))
      ((congrArg (Read.val_main_v2 (F := Ideal) w) (funext fun u => by match u with | 0 => rfl | 1 => rfl)).trans (ref_w w k j))
  refine (Finset.sum_congr rfl fun k _ => e k).trans ?_
  refine (Fin.sum_univ_add (a := 1024) (b := 1024) (fun k : Fin (1024 + 1024) => (Read.val_main_v1 (F := Ideal) a c (ix3 n s k) : EReal) * w (ix3 0 k j))).trans ?_
  exact congrArg₂ (fun u v : EReal => u + v)
    (Finset.sum_congr rfl fun k _ => congrArg (fun u : EReal => u * w (ix3 0 (⟨k.val, by omega⟩ : Fin 2048) j)) (ref_left a c n s k))
    (Finset.sum_congr rfl fun k _ => congrArg (fun u : EReal => u * w (ix3 0 (⟨1024 + k.val, by omega⟩ : Fin 2048) j)) (ref_right a c n s k))

/-- A row before its norm. -/
theorem ref_mix (r : Fin 32768) (j : Fin 2048) :
    Read.val_main_v6 (F := Ideal) a c w x (ix3 ⟨r.val / 4096, by omega⟩ ⟨r.val % 4096, by omega⟩ j) = mixRow a c w x r j := by
  rw [Read.val_main_v6_apply, Read.val_main_v5_apply, Read.val_main_v4_apply]
  unfold mixRow
  exact congrArg (fun u : EReal => _ + u) (ref_dot a c w _ _ j)

theorem ref_mean (r : Fin 32768) :
    Read.val_main_v10 (F := Ideal) a c w x (ix3 ⟨r.val / 4096, by omega⟩ ⟨r.val % 4096, by omega⟩ 0) = mean (mixRow a c w x r) := by
  rw [Read.val_main_v10_apply, Read.val_main_v8_apply, Read.val_main_v9_apply, Read.val_main_v7_apply]
  unfold mean
  refine congrArg (fun u => Ideal.div u (Ideal.ofBits .f32 0x45000000#32)) ?_
  refine (congrArg (· + _) Ideal.ofBits_zero_f32).trans ((zero_add _).trans ?_)
  exact Finset.sum_congr rfl fun k _ => (congrArg (Read.val_main_v6 (F := Ideal) a c w x) (funext fun u => by match u with | 0 => rfl | 1 => rfl | 2 => rfl)).trans (ref_mix a c w x r k)

theorem ref_dev (r : Fin 32768) (j : Fin 2048) :
    Read.val_main_v12 (F := Ideal) a c w x (ix3 ⟨r.val / 4096, by omega⟩ ⟨r.val % 4096, by omega⟩ j) = mixRow a c w x r j - mean (mixRow a c w x r) := by
  rw [Read.val_main_v12_apply, Read.val_main_v11_apply]
  refine congrArg₂ (fun u v : EReal => u - v) (ref_mix a c w x r j) ?_
  exact (congrArg (Read.val_main_v10 (F := Ideal) a c w x) (funext fun u => by match u with | 0 => rfl | 1 => rfl | 2 => rfl)).trans (ref_mean a c w x r)

theorem ref_dev' (r : Fin 32768) (j : Fin 2048) :
    Read.val_main_v19 (F := Ideal) a c w x (ix3 ⟨r.val / 4096, by omega⟩ ⟨r.val % 4096, by omega⟩ j) = mixRow a c w x r j - mean (mixRow a c w x r) := by
  rw [Read.val_main_v19_apply, Read.val_main_v18_apply]
  refine congrArg₂ (fun u v : EReal => u - v) (ref_mix a c w x r j) ?_
  exact (congrArg (Read.val_main_v10 (F := Ideal) a c w x) (funext fun u => by match u with | 0 => rfl | 1 => rfl | 2 => rfl)).trans (ref_mean a c w x r)

theorem ref_var (r : Fin 32768) :
    Read.val_main_v17 (F := Ideal) a c w x (ix3 ⟨r.val / 4096, by omega⟩ ⟨r.val % 4096, by omega⟩ 0)
      = mean (fun k => (mixRow a c w x r k - mean (mixRow a c w x r)) * (mixRow a c w x r k - mean (mixRow a c w x r))) := by
  rw [Read.val_main_v17_apply, Read.val_main_v15_apply, Read.val_main_v16_apply, Read.val_main_v14_apply]
  unfold mean
  refine congrArg (fun u => Ideal.div u (Ideal.ofBits .f32 0x45000000#32)) ?_
  refine (congrArg (· + _) Ideal.ofBits_zero_f32).trans ((zero_add _).trans ?_)
  refine Finset.sum_congr rfl fun k _ => (congrArg (Read.val_main_v13 (F := Ideal) a c w x) (a₂ := (ix3 ⟨r.val / 4096, by omega⟩ ⟨r.val % 4096, by omega⟩ k : S8x4096x2048.Idx))
    (funext fun u => by match u with | 0 => rfl | 1 => rfl | 2 => rfl)).trans ?_
  rw [Read.val_main_v13_apply]
  exact congrArg₂ (fun u v : EReal => u * v) (ref_dev a c w x r k) (ref_dev a c w x r k)

theorem ref_root (r : Fin 32768) :
    Read.val_main_v22 (F := Ideal) a c w x (ix3 ⟨r.val / 4096, by omega⟩ ⟨r.val % 4096, by omega⟩ 0)
      = Ideal.rsqrt (mean (fun k => (mixRow a c w x r k - mean (mixRow a c w x r)) * (mixRow a c w x r k - mean (mixRow a c w x r))) + Ideal.ofBits .f32 0x3727C5AC#32) := by
  rw [Read.val_main_v22_apply, Read.val_main_v21_apply, Read.val_main_v20_apply]
  exact congrArg (fun u : EReal => Ideal.rsqrt (u + Ideal.ofBits .f32 0x3727C5AC#32)) (ref_var a c w x r)

theorem ref_gain (n : Fin 8) (s : Fin 4096) (j : Fin 2048) : Read.val_main_v27 (F := Ideal) g (ix3 n s j) = g (ix2 0 j) := by
  rw [Read.val_main_v27_apply, Read.val_main_v26_apply, Read.val_main_v25_apply]
  refine congrArg g (funext fun u => Fin.ext ?_)
  have hj := j.isLt
  match u with
  | 0 => rfl
  | 1 => show j.val % 2048 = j.val; omega

theorem ref_shift (n : Fin 8) (s : Fin 4096) (j : Fin 2048) : Read.val_main_v31 (F := Ideal) b (ix3 n s j) = b (ix2 0 j) := by
  rw [Read.val_main_v31_apply, Read.val_main_v30_apply, Read.val_main_v29_apply]
  refine congrArg b (funext fun u => Fin.ext ?_)
  have hj := j.isLt
  match u with
  | 0 => rfl
  | 1 => show j.val % 2048 = j.val; omega

/-- The reference's layer state. -/
theorem ref_out (r : Fin 32768) (j : Fin 2048) :
    Read.val_main_v33 (F := Ideal) a c w x g b (ix2 r j) = outG a c w x g b r j := by
  rw [Read.val_main_v33_apply]
  have hr := r.isLt
  have hj := j.isLt
  refine (congrArg (Read.val_main_v32 (F := Ideal) a c w x g b) (a₂ := (ix3 ⟨r.val / 4096, by omega⟩ ⟨r.val % 4096, by omega⟩ j : S8x4096x2048.Idx)) (funext fun u => Fin.ext ?_)).trans ?_
  · match u with
    | 0 => show (r.val * 2048 + j.val) / 8388608 = r.val / 4096; omega
    | 1 => show (r.val * 2048 + j.val) / 2048 % 4096 = r.val % 4096; omega
    | 2 => show (r.val * 2048 + j.val) % 2048 = j.val; omega
  rw [Read.val_main_v32_apply, Read.val_main_v28_apply, Read.val_main_v24_apply, Read.val_main_v23_apply]
  unfold outG lnRow unitRow
  have e := (congrArg (Read.val_main_v22 (F := Ideal) a c w x) (a₁ := Read.idx_main_v23 (ix3 ⟨r.val / 4096, by omega⟩ ⟨r.val % 4096, by omega⟩ j : S8x4096x2048.Idx))
    (a₂ := (ix3 ⟨r.val / 4096, by omega⟩ ⟨r.val % 4096, by omega⟩ 0 : S8x4096x1.Idx))
    (funext fun u => by match u with | 0 => rfl | 1 => rfl | 2 => rfl)).trans (ref_root a c w x r)
  exact congrArg₂ (fun u v : EReal => u + v)
    (congrArg₂ (fun u v : EReal => u * v) (congrArg₂ (fun u v : EReal => u * v) (ref_dev' a c w x r j) e) (ref_gain g _ _ j)) (ref_shift b _ _ j)

theorem ref_y : Read.val_main_v33 (F := Ideal) a c w x g b = yG a c w x g b := by
  funext i
  obtain ⟨r, j, rfl⟩ : ∃ (r : Fin 32768) (j : Fin 2048), i = (ix2 r j : S32768x2048.Idx) := ⟨i 0, i 1, ValueIdx.eq_ix2 (n0 := 32768) (n1 := 2048) i⟩
  exact ref_out a c w x g b r j

theorem ref_yb : Read.val_main_v34 (F := Ideal) a c w x g b = yG a c w x g b := by
  funext i
  exact (Read.val_main_v34_apply (F := Ideal) a c w x g b i).trans (congrFun (ref_y a c w x g b) i)

theorem ref_yt : Read.val_main_v36 (F := Ideal) a c w x g b = ytG a c w x g b := by
  funext i
  obtain ⟨j, r, rfl⟩ : ∃ (j : Fin 2048) (r : Fin 32768), i = (ix2 j r : S2048x32768.Idx) := ⟨i 0, i 1, ValueIdx.eq_ix2 (n0 := 2048) (n1 := 32768) i⟩
  refine (Read.val_main_v36_apply (F := Ideal) a c w x g b (ix2 j r)).trans ?_
  show Read.val_main_v35 (F := Ideal) a c w x g b (ix2 j r) = _
  rw [Read.val_main_v35_apply]
  exact (congrArg (Read.val_main_v33 (F := Ideal) a c w x g b) (funext fun u => by match u with | 0 => rfl | 1 => rfl)).trans (ref_out a c w x g b r j)

theorem ref_frame : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

end reference

/-- Equal arguments give equal states. -/
theorem yG_congr {a a' c c' : Sa.Idx → EReal} {w w' : Sw.Idx → EReal} {x x' : Sx.Idx → EReal} {g g' b b' : Sg.Idx → EReal}
    (h0 : a = a') (h1 : c = c') (h2 : w = w') (h3 : x = x') (h4 : g = g') (h5 : b = b') : yG a c w x g b = yG a' c' w' x' g' b' := by
  subst h0; subst h1; subst h2; subst h3; subst h4; subst h5; rfl

theorem ytG_congr {a a' c c' : Sa.Idx → EReal} {w w' : Sw.Idx → EReal} {x x' : Sx.Idx → EReal} {g g' b b' : Sg.Idx → EReal}
    (h0 : a = a') (h1 : c = c') (h2 : w = w') (h3 : x = x') (h4 : g = g') (h5 : b = b') : ytG a c w x g b = ytG a' c' w' x' g' b' := by
  subst h0; subst h1; subst h2; subst h3; subst h4; subst h5; rfl

/-- The kernel's results are the reference's, on equal arguments. -/
theorem out_value : Cert.algebraic_Kernel4Ideal_Reference4Ideal := fun m g m' g' _ hm => by
  refine ⟨fun c => (fun i : Cert.Kernel4Ideal.S32768x2048.Idx => outM m c (i 0) (i 1)), fun c => (fun i : Cert.Kernel4Ideal.S32768x2048.Idx => outM m c (i 0) (i 1)),
    fun c => (fun i : Cert.Kernel4Ideal.S2048x32768.Idx => outM m c (i 1) (i 0)), out_run m g, ?_⟩
  refine (θ_run Cert.Reference4Ideal.defs _ _).mono (fun r h c => ⟨?_, ?_, ?_, (h c).2.2.2⟩) (Cert.Reference4Ideal.Value.run (F := Ideal) m' g')
  · obtain ⟨e0, e1, e2, e3, e4, e5⟩ := hm c
    exact ((h c).1.trans (Cert.Reference4Ideal.Read.val_main_v33_eq (F := Ideal) m' c)).trans ((ref_y _ _ _ _ _ _).trans (yG_congr e0 e1 e2 e3 e4 e5))
  · obtain ⟨e0, e1, e2, e3, e4, e5⟩ := hm c
    exact ((h c).2.1.trans (Cert.Reference4Ideal.Read.val_main_v34_eq (F := Ideal) m' c)).trans ((ref_yb _ _ _ _ _ _).trans (yG_congr e0 e1 e2 e3 e4 e5))
  · obtain ⟨e0, e1, e2, e3, e4, e5⟩ := hm c
    exact ((h c).2.2.1.trans (Cert.Reference4Ideal.Read.val_main_v36_eq (F := Ideal) m' c)).trans ((ref_yt _ _ _ _ _ _).trans (ytG_congr e0 e1 e2 e3 e4 e5))

end Cert.Outp

end
-- ==== Proof.lean ====
/- The claims of the attention, of the two input projections and of the output projection, assembled: the attention's frames and named constant from
   Proof/Frames.lean, its reference's frame from the generated run, its value claim from Proof/Value.lean; the projections'
   claims from Proof/ProjKg.lean, Proof/ProjQv.lean and Proof/Outp.lean. -/
module

public import proofs.«01_k».proof.Defs
public import proofs.«01_k».proof.Proof.Frames
public import proofs.«01_k».proof.Proof.Value
public import proofs.«01_k».proof.Proof.ProjKg
public import proofs.«01_k».proof.Proof.ProjQv
public import proofs.«01_k».proof.Proof.Outp
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init

@[expose] public section

noncomputable section

namespace Cert.Proof

open Idealize.ShloMosaic Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.Gen.facts,
    Cert.Attn.frame_kernel, Cert.Attn.frame_kernelideal, fun m ρ _ => Cert.Attn.frame_kernelideal m ρ trivial,
    frame_reference, fun m ρ _ => frame_reference m ρ trivial,
    fun m ρ _ => Cert.Kernel2.Gen.frame m ρ, fun m ρ _ => Cert.Kernel2Ideal.Gen.frame m ρ, Cert.Proj.kgRef_frame,
    fun m ρ _ => Cert.Kernel3.Gen.frame m ρ, fun m ρ _ => Cert.Kernel3Ideal.Gen.frame m ρ, Cert.Proj.qvRef_frame,
    fun m ρ _ => Cert.Kernel4.Gen.frame m ρ, fun m ρ _ => Cert.Kernel4Ideal.Gen.frame m ρ, Cert.Outp.ref_frame,
    Cert.Attn.preserves, Cert.Attn.value, trivial, Cert.Proj.kg_value, trivial, Cert.Proj.qv_value, trivial, Cert.Outp.out_value⟩

end Cert.Proof

end
